-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite [hPre_finite : Cert.Pre_finite.Facts] (m : (ℓ : Loc Cert.ScanIdeal.nD Cert.ScanIdeal.τ Cert.ScanIdeal.sig) → Buf (Elt Ideal) ℓ) : Prop :=
  ∀ c : Dev Cert.ScanIdeal.nD,
    (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).1 = (fun _ => 1#1)
    ∧ (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.1 = (fun _ => 1#1)
    ∧ (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.1 = (fun _ => 1#1)
    ∧ (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.1 = (fun _ => 1#1)
    ∧ (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.1 = (fun _ => 1#1)
    ∧ (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.2.1 = (fun _ => 1#1)
    ∧ (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite [hPre_finite : Cert.Pre_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).1 = (fun _ => 1#1)
    ∧ (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.1 = (fun _ => 1#1)
    ∧ (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.1 = (fun _ => 1#1)
    ∧ (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.1 = (fun _ => 1#1)
    ∧ (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.1 = (fun _ => 1#1)
    ∧ (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.2.1 = (fun _ => 1#1)
    ∧ (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.2.2 = (fun _ => 1#1)

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalCtx (m : (ℓ : Loc Cert.FinalCtx.nD Cert.FinalCtx.τ Cert.FinalCtx.sig) → Buf (Elt Bits) ℓ) : Prop :=
  True

def Pre_FinalCtxIdeal (m : (ℓ : Loc Cert.FinalCtxIdeal.nD Cert.FinalCtxIdeal.τ Cert.FinalCtxIdeal.sig) → Buf (Elt Ideal) ℓ) : Prop :=
  True

def Pre_FinalCtxRefIdeal (m : (ℓ : Loc Cert.FinalCtxRefIdeal.nD Cert.FinalCtxRefIdeal.τ Cert.FinalCtxRefIdeal.sig) → Buf (Elt Ideal) ℓ) : Prop :=
  True

def Pre_FinalLat (m : (ℓ : Loc Cert.FinalLat.nD Cert.FinalLat.τ Cert.FinalLat.sig) → Buf (Elt Bits) ℓ) : Prop :=
  True

def Pre_FinalLatIdeal (m : (ℓ : Loc Cert.FinalLatIdeal.nD Cert.FinalLatIdeal.τ Cert.FinalLatIdeal.sig) → Buf (Elt Ideal) ℓ) : Prop :=
  True

def Pre_FinalLatRefIdeal (m : (ℓ : Loc Cert.FinalLatRefIdeal.nD Cert.FinalLatRefIdeal.τ Cert.FinalLatRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Fnet (m : (ℓ : Loc Cert.Fnet.nD Cert.Fnet.τ Cert.Fnet.sig) → Buf (Elt Bits) ℓ) : Prop :=
  True

def Pre_FnetIdeal (m : (ℓ : Loc Cert.FnetIdeal.nD Cert.FnetIdeal.τ Cert.FnetIdeal.sig) → Buf (Elt Ideal) ℓ) : Prop :=
  True

def Pre_FnetRefIdeal (m : (ℓ : Loc Cert.FnetRefIdeal.nD Cert.FnetRefIdeal.τ Cert.FnetRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanIdeal_pre_finite [hScanIdeal : Cert.ScanIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_ScanRefIdeal_pre_finite [hScanRefIdeal : Cert.ScanRefIdeal.Facts] [hPre_finite : Cert.Pre_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FinalCtx [hFinalCtx : Cert.FinalCtx.Facts] : Prop :=
  ∀ (m : (ℓ : Loc Cert.FinalCtx.nD Cert.FinalCtx.τ Cert.FinalCtx.sig) → Buf (Elt Bits) ℓ) (g : Dev Cert.FinalCtx.nD → PrngReg), Pre_FinalCtx m →
    θ_run (Cert.FinalCtx.defs (F := Bits)) (onTc (τ := Cert.FinalCtx.τ) (Cert.FinalCtx.main (F := Bits))) ⟨m, fun _ => 0, g⟩ (fun r => (∀ c : Dev Cert.FinalCtx.nD,
      r.2.mem ((c.tc : Thread Cert.FinalCtx.nD Cert.FinalCtx.τ).loc Cert.FinalCtx.main_arg0) = m ((c.tc : Thread Cert.FinalCtx.nD Cert.FinalCtx.τ).loc Cert.FinalCtx.main_arg0)
      ∧ r.2.mem ((c.tc : Thread Cert.FinalCtx.nD Cert.FinalCtx.τ).loc Cert.FinalCtx.main_arg1) = m ((c.tc : Thread Cert.FinalCtx.nD Cert.FinalCtx.τ).loc Cert.FinalCtx.main_arg1)
      ∧ r.2.mem ((c.tc : Thread Cert.FinalCtx.nD Cert.FinalCtx.τ).loc Cert.FinalCtx.main_arg2) = m ((c.tc : Thread Cert.FinalCtx.nD Cert.FinalCtx.τ).loc Cert.FinalCtx.main_arg2)
      ∧ r.2.mem ((c.tc : Thread Cert.FinalCtx.nD Cert.FinalCtx.τ).loc Cert.FinalCtx.main_arg3) = m ((c.tc : Thread Cert.FinalCtx.nD Cert.FinalCtx.τ).loc Cert.FinalCtx.main_arg3)
      ∧ r.2.mem ((c.tc : Thread Cert.FinalCtx.nD Cert.FinalCtx.τ).loc Cert.FinalCtx.main_arg4) = m ((c.tc : Thread Cert.FinalCtx.nD Cert.FinalCtx.τ).loc Cert.FinalCtx.main_arg4))
      ∧ r.2.sem = fun _ => 0)

def quiescent_FinalCtxIdeal [hFinalCtxIdeal : Cert.FinalCtxIdeal.Facts] : Prop :=
  ∀ (m : (ℓ : Loc Cert.FinalCtxIdeal.nD Cert.FinalCtxIdeal.τ Cert.FinalCtxIdeal.sig) → Buf (Elt Ideal) ℓ) (g : Dev Cert.FinalCtxIdeal.nD → PrngReg), Pre_FinalCtxIdeal m →
    θ_run (Cert.FinalCtxIdeal.defs (F := Ideal)) (onTc (τ := Cert.FinalCtxIdeal.τ) (Cert.FinalCtxIdeal.main (F := Ideal))) ⟨m, fun _ => 0, g⟩ (fun r => (∀ c : Dev Cert.FinalCtxIdeal.nD,
      r.2.mem ((c.tc : Thread Cert.FinalCtxIdeal.nD Cert.FinalCtxIdeal.τ).loc Cert.FinalCtxIdeal.main_arg0) = m ((c.tc : Thread Cert.FinalCtxIdeal.nD Cert.FinalCtxIdeal.τ).loc Cert.FinalCtxIdeal.main_arg0)
      ∧ r.2.mem ((c.tc : Thread Cert.FinalCtxIdeal.nD Cert.FinalCtxIdeal.τ).loc Cert.FinalCtxIdeal.main_arg1) = m ((c.tc : Thread Cert.FinalCtxIdeal.nD Cert.FinalCtxIdeal.τ).loc Cert.FinalCtxIdeal.main_arg1)
      ∧ r.2.mem ((c.tc : Thread Cert.FinalCtxIdeal.nD Cert.FinalCtxIdeal.τ).loc Cert.FinalCtxIdeal.main_arg2) = m ((c.tc : Thread Cert.FinalCtxIdeal.nD Cert.FinalCtxIdeal.τ).loc Cert.FinalCtxIdeal.main_arg2)
      ∧ r.2.mem ((c.tc : Thread Cert.FinalCtxIdeal.nD Cert.FinalCtxIdeal.τ).loc Cert.FinalCtxIdeal.main_arg3) = m ((c.tc : Thread Cert.FinalCtxIdeal.nD Cert.FinalCtxIdeal.τ).loc Cert.FinalCtxIdeal.main_arg3)
      ∧ r.2.mem ((c.tc : Thread Cert.FinalCtxIdeal.nD Cert.FinalCtxIdeal.τ).loc Cert.FinalCtxIdeal.main_arg4) = m ((c.tc : Thread Cert.FinalCtxIdeal.nD Cert.FinalCtxIdeal.τ).loc Cert.FinalCtxIdeal.main_arg4))
      ∧ r.2.sem = fun _ => 0)

def quiescent_FinalCtxRefIdeal [hFinalCtxRefIdeal : Cert.FinalCtxRefIdeal.Facts] : Prop :=
  ∀ (m : (ℓ : Loc Cert.FinalCtxRefIdeal.nD Cert.FinalCtxRefIdeal.τ Cert.FinalCtxRefIdeal.sig) → Buf (Elt Ideal) ℓ) (g : Dev Cert.FinalCtxRefIdeal.nD → PrngReg), Pre_FinalCtxRefIdeal m →
    θ_run (Cert.FinalCtxRefIdeal.defs (F := Ideal)) (onTc (τ := Cert.FinalCtxRefIdeal.τ) (Cert.FinalCtxRefIdeal.main (F := Ideal))) ⟨m, fun _ => 0, g⟩ (fun r => (∀ c : Dev Cert.FinalCtxRefIdeal.nD,
      r.2.mem ((c.tc : Thread Cert.FinalCtxRefIdeal.nD Cert.FinalCtxRefIdeal.τ).loc Cert.FinalCtxRefIdeal.main_arg0) = m ((c.tc : Thread Cert.FinalCtxRefIdeal.nD Cert.FinalCtxRefIdeal.τ).loc Cert.FinalCtxRefIdeal.main_arg0)
      ∧ r.2.mem ((c.tc : Thread Cert.FinalCtxRefIdeal.nD Cert.FinalCtxRefIdeal.τ).loc Cert.FinalCtxRefIdeal.main_arg1) = m ((c.tc : Thread Cert.FinalCtxRefIdeal.nD Cert.FinalCtxRefIdeal.τ).loc Cert.FinalCtxRefIdeal.main_arg1)
      ∧ r.2.mem ((c.tc : Thread Cert.FinalCtxRefIdeal.nD Cert.FinalCtxRefIdeal.τ).loc Cert.FinalCtxRefIdeal.main_arg2) = m ((c.tc : Thread Cert.FinalCtxRefIdeal.nD Cert.FinalCtxRefIdeal.τ).loc Cert.FinalCtxRefIdeal.main_arg2)
      ∧ r.2.mem ((c.tc : Thread Cert.FinalCtxRefIdeal.nD Cert.FinalCtxRefIdeal.τ).loc Cert.FinalCtxRefIdeal.main_arg3) = m ((c.tc : Thread Cert.FinalCtxRefIdeal.nD Cert.FinalCtxRefIdeal.τ).loc Cert.FinalCtxRefIdeal.main_arg3)
      ∧ r.2.mem ((c.tc : Thread Cert.FinalCtxRefIdeal.nD Cert.FinalCtxRefIdeal.τ).loc Cert.FinalCtxRefIdeal.main_arg4) = m ((c.tc : Thread Cert.FinalCtxRefIdeal.nD Cert.FinalCtxRefIdeal.τ).loc Cert.FinalCtxRefIdeal.main_arg4))
      ∧ r.2.sem = fun _ => 0)

def quiescent_FinalLat [hFinalLat : Cert.FinalLat.Facts] : Prop :=
  ∀ (m : (ℓ : Loc Cert.FinalLat.nD Cert.FinalLat.τ Cert.FinalLat.sig) → Buf (Elt Bits) ℓ) (g : Dev Cert.FinalLat.nD → PrngReg), Pre_FinalLat m →
    θ_run (Cert.FinalLat.defs (F := Bits)) (onTc (τ := Cert.FinalLat.τ) (Cert.FinalLat.main (F := Bits))) ⟨m, fun _ => 0, g⟩ (fun r => (∀ c : Dev Cert.FinalLat.nD,
      r.2.mem ((c.tc : Thread Cert.FinalLat.nD Cert.FinalLat.τ).loc Cert.FinalLat.main_arg0) = m ((c.tc : Thread Cert.FinalLat.nD Cert.FinalLat.τ).loc Cert.FinalLat.main_arg0)
      ∧ r.2.mem ((c.tc : Thread Cert.FinalLat.nD Cert.FinalLat.τ).loc Cert.FinalLat.main_arg1) = m ((c.tc : Thread Cert.FinalLat.nD Cert.FinalLat.τ).loc Cert.FinalLat.main_arg1)
      ∧ r.2.mem ((c.tc : Thread Cert.FinalLat.nD Cert.FinalLat.τ).loc Cert.FinalLat.main_arg2) = m ((c.tc : Thread Cert.FinalLat.nD Cert.FinalLat.τ).loc Cert.FinalLat.main_arg2)
      ∧ r.2.mem ((c.tc : Thread Cert.FinalLat.nD Cert.FinalLat.τ).loc Cert.FinalLat.main_arg3) = m ((c.tc : Thread Cert.FinalLat.nD Cert.FinalLat.τ).loc Cert.FinalLat.main_arg3)
      ∧ r.2.mem ((c.tc : Thread Cert.FinalLat.nD Cert.FinalLat.τ).loc Cert.FinalLat.main_arg4) = m ((c.tc : Thread Cert.FinalLat.nD Cert.FinalLat.τ).loc Cert.FinalLat.main_arg4))
      ∧ r.2.sem = fun _ => 0)

def quiescent_FinalLatIdeal [hFinalLatIdeal : Cert.FinalLatIdeal.Facts] : Prop :=
  ∀ (m : (ℓ : Loc Cert.FinalLatIdeal.nD Cert.FinalLatIdeal.τ Cert.FinalLatIdeal.sig) → Buf (Elt Ideal) ℓ) (g : Dev Cert.FinalLatIdeal.nD → PrngReg), Pre_FinalLatIdeal m →
    θ_run (Cert.FinalLatIdeal.defs (F := Ideal)) (onTc (τ := Cert.FinalLatIdeal.τ) (Cert.FinalLatIdeal.main (F := Ideal))) ⟨m, fun _ => 0, g⟩ (fun r => (∀ c : Dev Cert.FinalLatIdeal.nD,
      r.2.mem ((c.tc : Thread Cert.FinalLatIdeal.nD Cert.FinalLatIdeal.τ).loc Cert.FinalLatIdeal.main_arg0) = m ((c.tc : Thread Cert.FinalLatIdeal.nD Cert.FinalLatIdeal.τ).loc Cert.FinalLatIdeal.main_arg0)
      ∧ r.2.mem ((c.tc : Thread Cert.FinalLatIdeal.nD Cert.FinalLatIdeal.τ).loc Cert.FinalLatIdeal.main_arg1) = m ((c.tc : Thread Cert.FinalLatIdeal.nD Cert.FinalLatIdeal.τ).loc Cert.FinalLatIdeal.main_arg1)
      ∧ r.2.mem ((c.tc : Thread Cert.FinalLatIdeal.nD Cert.FinalLatIdeal.τ).loc Cert.FinalLatIdeal.main_arg2) = m ((c.tc : Thread Cert.FinalLatIdeal.nD Cert.FinalLatIdeal.τ).loc Cert.FinalLatIdeal.main_arg2)
      ∧ r.2.mem ((c.tc : Thread Cert.FinalLatIdeal.nD Cert.FinalLatIdeal.τ).loc Cert.FinalLatIdeal.main_arg3) = m ((c.tc : Thread Cert.FinalLatIdeal.nD Cert.FinalLatIdeal.τ).loc Cert.FinalLatIdeal.main_arg3)
      ∧ r.2.mem ((c.tc : Thread Cert.FinalLatIdeal.nD Cert.FinalLatIdeal.τ).loc Cert.FinalLatIdeal.main_arg4) = m ((c.tc : Thread Cert.FinalLatIdeal.nD Cert.FinalLatIdeal.τ).loc Cert.FinalLatIdeal.main_arg4))
      ∧ r.2.sem = fun _ => 0)

def quiescent_FinalLatRefIdeal [hFinalLatRefIdeal : Cert.FinalLatRefIdeal.Facts] : Prop :=
  ∀ (m : (ℓ : Loc Cert.FinalLatRefIdeal.nD Cert.FinalLatRefIdeal.τ Cert.FinalLatRefIdeal.sig) → Buf (Elt Ideal) ℓ) (g : Dev Cert.FinalLatRefIdeal.nD → PrngReg), Pre_FinalLatRefIdeal m →
    θ_run (Cert.FinalLatRefIdeal.defs (F := Ideal)) (onTc (τ := Cert.FinalLatRefIdeal.τ) (Cert.FinalLatRefIdeal.main (F := Ideal))) ⟨m, fun _ => 0, g⟩ (fun r => (∀ c : Dev Cert.FinalLatRefIdeal.nD,
      r.2.mem ((c.tc : Thread Cert.FinalLatRefIdeal.nD Cert.FinalLatRefIdeal.τ).loc Cert.FinalLatRefIdeal.main_arg0) = m ((c.tc : Thread Cert.FinalLatRefIdeal.nD Cert.FinalLatRefIdeal.τ).loc Cert.FinalLatRefIdeal.main_arg0)
      ∧ r.2.mem ((c.tc : Thread Cert.FinalLatRefIdeal.nD Cert.FinalLatRefIdeal.τ).loc Cert.FinalLatRefIdeal.main_arg1) = m ((c.tc : Thread Cert.FinalLatRefIdeal.nD Cert.FinalLatRefIdeal.τ).loc Cert.FinalLatRefIdeal.main_arg1)
      ∧ r.2.mem ((c.tc : Thread Cert.FinalLatRefIdeal.nD Cert.FinalLatRefIdeal.τ).loc Cert.FinalLatRefIdeal.main_arg2) = m ((c.tc : Thread Cert.FinalLatRefIdeal.nD Cert.FinalLatRefIdeal.τ).loc Cert.FinalLatRefIdeal.main_arg2)
      ∧ r.2.mem ((c.tc : Thread Cert.FinalLatRefIdeal.nD Cert.FinalLatRefIdeal.τ).loc Cert.FinalLatRefIdeal.main_arg3) = m ((c.tc : Thread Cert.FinalLatRefIdeal.nD Cert.FinalLatRefIdeal.τ).loc Cert.FinalLatRefIdeal.main_arg3)
      ∧ r.2.mem ((c.tc : Thread Cert.FinalLatRefIdeal.nD Cert.FinalLatRefIdeal.τ).loc Cert.FinalLatRefIdeal.main_arg4) = m ((c.tc : Thread Cert.FinalLatRefIdeal.nD Cert.FinalLatRefIdeal.τ).loc Cert.FinalLatRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_Fnet [hFnet : Cert.Fnet.Facts] : Prop :=
  ∀ (m : (ℓ : Loc Cert.Fnet.nD Cert.Fnet.τ Cert.Fnet.sig) → Buf (Elt Bits) ℓ) (g : Dev Cert.Fnet.nD → PrngReg), Pre_Fnet m →
    θ_run (Cert.Fnet.defs (F := Bits)) (onTc (τ := Cert.Fnet.τ) (Cert.Fnet.main (F := Bits))) ⟨m, fun _ => 0, g⟩ (fun r => (∀ c : Dev Cert.Fnet.nD,
      r.2.mem ((c.tc : Thread Cert.Fnet.nD Cert.Fnet.τ).loc Cert.Fnet.main_arg0) = m ((c.tc : Thread Cert.Fnet.nD Cert.Fnet.τ).loc Cert.Fnet.main_arg0))
      ∧ r.2.sem = fun _ => 0)

def quiescent_FnetIdeal [hFnetIdeal : Cert.FnetIdeal.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0))
      ∧ r.2.sem = fun _ => 0)

def quiescent_FnetRefIdeal [hFnetRefIdeal : Cert.FnetRefIdeal.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0))
      ∧ r.2.sem = fun _ => 0)

def preserves_Scan_ScanIdeal : Prop :=
  True

def algebraic_ScanIdeal_ScanRefIdeal_pre_finite [hScanIdeal : Cert.ScanIdeal.Facts] [hScanRefIdeal : Cert.ScanRefIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v3_8) = v0 c
          ∧ r.2.mem ((c.tc : Thread Cert.ScanRefIdeal.nD Cert.ScanRefIdeal.τ).loc Cert.ScanRefIdeal.main_v5) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v9)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v9) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v16) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FinalCtx_FinalCtxIdeal : Prop :=
  True

def algebraic_FinalCtxIdeal_FinalCtxRefIdeal [hFinalCtxIdeal : Cert.FinalCtxIdeal.Facts] [hFinalCtxRefIdeal : Cert.FinalCtxRefIdeal.Facts] : Prop :=
  ∀ (m : (ℓ : Loc Cert.FinalCtxIdeal.nD Cert.FinalCtxIdeal.τ Cert.FinalCtxIdeal.sig) → Buf (Elt Ideal) ℓ) (g : Dev Cert.FinalCtxIdeal.nD → PrngReg)
    (m' : (ℓ : Loc Cert.FinalCtxRefIdeal.nD Cert.FinalCtxRefIdeal.τ Cert.FinalCtxRefIdeal.sig) → Buf (Elt Ideal) ℓ) (g' : Dev Cert.FinalCtxRefIdeal.nD → PrngReg), Pre_FinalCtxIdeal m →
    (∀ c : Dev Cert.FinalCtxIdeal.nD,
      m' ((c.tc : Thread Cert.FinalCtxRefIdeal.nD Cert.FinalCtxRefIdeal.τ).loc Cert.FinalCtxRefIdeal.main_arg0) = m ((c.tc : Thread Cert.FinalCtxIdeal.nD Cert.FinalCtxIdeal.τ).loc Cert.FinalCtxIdeal.main_arg0)
      ∧ m' ((c.tc : Thread Cert.FinalCtxRefIdeal.nD Cert.FinalCtxRefIdeal.τ).loc Cert.FinalCtxRefIdeal.main_arg1) = m ((c.tc : Thread Cert.FinalCtxIdeal.nD Cert.FinalCtxIdeal.τ).loc Cert.FinalCtxIdeal.main_arg1)
      ∧ m' ((c.tc : Thread Cert.FinalCtxRefIdeal.nD Cert.FinalCtxRefIdeal.τ).loc Cert.FinalCtxRefIdeal.main_arg2) = m ((c.tc : Thread Cert.FinalCtxIdeal.nD Cert.FinalCtxIdeal.τ).loc Cert.FinalCtxIdeal.main_arg2)
      ∧ m' ((c.tc : Thread Cert.FinalCtxRefIdeal.nD Cert.FinalCtxRefIdeal.τ).loc Cert.FinalCtxRefIdeal.main_arg3) = m ((c.tc : Thread Cert.FinalCtxIdeal.nD Cert.FinalCtxIdeal.τ).loc Cert.FinalCtxIdeal.main_arg3)
      ∧ m' ((c.tc : Thread Cert.FinalCtxRefIdeal.nD Cert.FinalCtxRefIdeal.τ).loc Cert.FinalCtxRefIdeal.main_arg4) = m ((c.tc : Thread Cert.FinalCtxIdeal.nD Cert.FinalCtxIdeal.τ).loc Cert.FinalCtxIdeal.main_arg4)) →
    ∃ (v0 : (c : Dev Cert.FinalCtxIdeal.nD) → Buf (Elt Ideal) ((c.tc : Thread Cert.FinalCtxIdeal.nD Cert.FinalCtxIdeal.τ).loc Cert.FinalCtxIdeal.main_v11)),
      θ_run (Cert.FinalCtxIdeal.defs (F := Ideal)) (onTc (τ := Cert.FinalCtxIdeal.τ) (Cert.FinalCtxIdeal.main (F := Ideal))) ⟨m, fun _ => 0, g⟩ (fun r => ∀ c : Dev Cert.FinalCtxIdeal.nD,
          r.2.mem ((c.tc : Thread Cert.FinalCtxIdeal.nD Cert.FinalCtxIdeal.τ).loc Cert.FinalCtxIdeal.main_v11) = v0 c
          ∧ r.2.mem ((c.tc : Thread Cert.FinalCtxIdeal.nD Cert.FinalCtxIdeal.τ).loc Cert.FinalCtxIdeal.main_arg0) = m ((c.tc : Thread Cert.FinalCtxIdeal.nD Cert.FinalCtxIdeal.τ).loc Cert.FinalCtxIdeal.main_arg0)
          ∧ r.2.mem ((c.tc : Thread Cert.FinalCtxIdeal.nD Cert.FinalCtxIdeal.τ).loc Cert.FinalCtxIdeal.main_arg1) = m ((c.tc : Thread Cert.FinalCtxIdeal.nD Cert.FinalCtxIdeal.τ).loc Cert.FinalCtxIdeal.main_arg1)
          ∧ r.2.mem ((c.tc : Thread Cert.FinalCtxIdeal.nD Cert.FinalCtxIdeal.τ).loc Cert.FinalCtxIdeal.main_arg2) = m ((c.tc : Thread Cert.FinalCtxIdeal.nD Cert.FinalCtxIdeal.τ).loc Cert.FinalCtxIdeal.main_arg2)
          ∧ r.2.mem ((c.tc : Thread Cert.FinalCtxIdeal.nD Cert.FinalCtxIdeal.τ).loc Cert.FinalCtxIdeal.main_arg3) = m ((c.tc : Thread Cert.FinalCtxIdeal.nD Cert.FinalCtxIdeal.τ).loc Cert.FinalCtxIdeal.main_arg3)
          ∧ r.2.mem ((c.tc : Thread Cert.FinalCtxIdeal.nD Cert.FinalCtxIdeal.τ).loc Cert.FinalCtxIdeal.main_arg4) = m ((c.tc : Thread Cert.FinalCtxIdeal.nD Cert.FinalCtxIdeal.τ).loc Cert.FinalCtxIdeal.main_arg4))
      ∧ θ_run (Cert.FinalCtxRefIdeal.defs (F := Ideal)) (onTc (τ := Cert.FinalCtxRefIdeal.τ) (Cert.FinalCtxRefIdeal.main (F := Ideal))) ⟨m', fun _ => 0, g'⟩ (fun r => ∀ c : Dev Cert.FinalCtxRefIdeal.nD,
          r.2.mem ((c.tc : Thread Cert.FinalCtxRefIdeal.nD Cert.FinalCtxRefIdeal.τ).loc Cert.FinalCtxRefIdeal.main_v27) = v0 c
          ∧ r.2.mem ((c.tc : Thread Cert.FinalCtxRefIdeal.nD Cert.FinalCtxRefIdeal.τ).loc Cert.FinalCtxRefIdeal.main_arg0) = m' ((c.tc : Thread Cert.FinalCtxRefIdeal.nD Cert.FinalCtxRefIdeal.τ).loc Cert.FinalCtxRefIdeal.main_arg0)
          ∧ r.2.mem ((c.tc : Thread Cert.FinalCtxRefIdeal.nD Cert.FinalCtxRefIdeal.τ).loc Cert.FinalCtxRefIdeal.main_arg1) = m' ((c.tc : Thread Cert.FinalCtxRefIdeal.nD Cert.FinalCtxRefIdeal.τ).loc Cert.FinalCtxRefIdeal.main_arg1)
          ∧ r.2.mem ((c.tc : Thread Cert.FinalCtxRefIdeal.nD Cert.FinalCtxRefIdeal.τ).loc Cert.FinalCtxRefIdeal.main_arg2) = m' ((c.tc : Thread Cert.FinalCtxRefIdeal.nD Cert.FinalCtxRefIdeal.τ).loc Cert.FinalCtxRefIdeal.main_arg2)
          ∧ r.2.mem ((c.tc : Thread Cert.FinalCtxRefIdeal.nD Cert.FinalCtxRefIdeal.τ).loc Cert.FinalCtxRefIdeal.main_arg3) = m' ((c.tc : Thread Cert.FinalCtxRefIdeal.nD Cert.FinalCtxRefIdeal.τ).loc Cert.FinalCtxRefIdeal.main_arg3)
          ∧ r.2.mem ((c.tc : Thread Cert.FinalCtxRefIdeal.nD Cert.FinalCtxRefIdeal.τ).loc Cert.FinalCtxRefIdeal.main_arg4) = m' ((c.tc : Thread Cert.FinalCtxRefIdeal.nD Cert.FinalCtxRefIdeal.τ).loc Cert.FinalCtxRefIdeal.main_arg4))

def preserves_FinalLat_FinalLatIdeal : Prop :=
  True

def algebraic_FinalLatIdeal_FinalLatRefIdeal [hFinalLatIdeal : Cert.FinalLatIdeal.Facts] [hFinalLatRefIdeal : Cert.FinalLatRefIdeal.Facts] : Prop :=
  ∀ (m : (ℓ : Loc Cert.FinalLatIdeal.nD Cert.FinalLatIdeal.τ Cert.FinalLatIdeal.sig) → Buf (Elt Ideal) ℓ) (g : Dev Cert.FinalLatIdeal.nD → PrngReg)
    (m' : (ℓ : Loc Cert.FinalLatRefIdeal.nD Cert.FinalLatRefIdeal.τ Cert.FinalLatRefIdeal.sig) → Buf (Elt Ideal) ℓ) (g' : Dev Cert.FinalLatRefIdeal.nD → PrngReg), Pre_FinalLatIdeal m →
    (∀ c : Dev Cert.FinalLatIdeal.nD,
      m' ((c.tc : Thread Cert.FinalLatRefIdeal.nD Cert.FinalLatRefIdeal.τ).loc Cert.FinalLatRefIdeal.main_arg0) = m ((c.tc : Thread Cert.FinalLatIdeal.nD Cert.FinalLatIdeal.τ).loc Cert.FinalLatIdeal.main_arg0)
      ∧ m' ((c.tc : Thread Cert.FinalLatRefIdeal.nD Cert.FinalLatRefIdeal.τ).loc Cert.FinalLatRefIdeal.main_arg1) = m ((c.tc : Thread Cert.FinalLatIdeal.nD Cert.FinalLatIdeal.τ).loc Cert.FinalLatIdeal.main_arg1)
      ∧ m' ((c.tc : Thread Cert.FinalLatRefIdeal.nD Cert.FinalLatRefIdeal.τ).loc Cert.FinalLatRefIdeal.main_arg2) = m ((c.tc : Thread Cert.FinalLatIdeal.nD Cert.FinalLatIdeal.τ).loc Cert.FinalLatIdeal.main_arg2)
      ∧ m' ((c.tc : Thread Cert.FinalLatRefIdeal.nD Cert.FinalLatRefIdeal.τ).loc Cert.FinalLatRefIdeal.main_arg3) = m ((c.tc : Thread Cert.FinalLatIdeal.nD Cert.FinalLatIdeal.τ).loc Cert.FinalLatIdeal.main_arg3)
      ∧ m' ((c.tc : Thread Cert.FinalLatRefIdeal.nD Cert.FinalLatRefIdeal.τ).loc Cert.FinalLatRefIdeal.main_arg4) = m ((c.tc : Thread Cert.FinalLatIdeal.nD Cert.FinalLatIdeal.τ).loc Cert.FinalLatIdeal.main_arg4)) →
    ∃ (v0 : (c : Dev Cert.FinalLatIdeal.nD) → Buf (Elt Ideal) ((c.tc : Thread Cert.FinalLatIdeal.nD Cert.FinalLatIdeal.τ).loc Cert.FinalLatIdeal.main_v11)),
      θ_run (Cert.FinalLatIdeal.defs (F := Ideal)) (onTc (τ := Cert.FinalLatIdeal.τ) (Cert.FinalLatIdeal.main (F := Ideal))) ⟨m, fun _ => 0, g⟩ (fun r => ∀ c : Dev Cert.FinalLatIdeal.nD,
          r.2.mem ((c.tc : Thread Cert.FinalLatIdeal.nD Cert.FinalLatIdeal.τ).loc Cert.FinalLatIdeal.main_v11) = v0 c
          ∧ r.2.mem ((c.tc : Thread Cert.FinalLatIdeal.nD Cert.FinalLatIdeal.τ).loc Cert.FinalLatIdeal.main_arg0) = m ((c.tc : Thread Cert.FinalLatIdeal.nD Cert.FinalLatIdeal.τ).loc Cert.FinalLatIdeal.main_arg0)
          ∧ r.2.mem ((c.tc : Thread Cert.FinalLatIdeal.nD Cert.FinalLatIdeal.τ).loc Cert.FinalLatIdeal.main_arg1) = m ((c.tc : Thread Cert.FinalLatIdeal.nD Cert.FinalLatIdeal.τ).loc Cert.FinalLatIdeal.main_arg1)
          ∧ r.2.mem ((c.tc : Thread Cert.FinalLatIdeal.nD Cert.FinalLatIdeal.τ).loc Cert.FinalLatIdeal.main_arg2) = m ((c.tc : Thread Cert.FinalLatIdeal.nD Cert.FinalLatIdeal.τ).loc Cert.FinalLatIdeal.main_arg2)
          ∧ r.2.mem ((c.tc : Thread Cert.FinalLatIdeal.nD Cert.FinalLatIdeal.τ).loc Cert.FinalLatIdeal.main_arg3) = m ((c.tc : Thread Cert.FinalLatIdeal.nD Cert.FinalLatIdeal.τ).loc Cert.FinalLatIdeal.main_arg3)
          ∧ r.2.mem ((c.tc : Thread Cert.FinalLatIdeal.nD Cert.FinalLatIdeal.τ).loc Cert.FinalLatIdeal.main_arg4) = m ((c.tc : Thread Cert.FinalLatIdeal.nD Cert.FinalLatIdeal.τ).loc Cert.FinalLatIdeal.main_arg4))
      ∧ θ_run (Cert.FinalLatRefIdeal.defs (F := Ideal)) (onTc (τ := Cert.FinalLatRefIdeal.τ) (Cert.FinalLatRefIdeal.main (F := Ideal))) ⟨m', fun _ => 0, g'⟩ (fun r => ∀ c : Dev Cert.FinalLatRefIdeal.nD,
          r.2.mem ((c.tc : Thread Cert.FinalLatRefIdeal.nD Cert.FinalLatRefIdeal.τ).loc Cert.FinalLatRefIdeal.main_v31) = v0 c
          ∧ r.2.mem ((c.tc : Thread Cert.FinalLatRefIdeal.nD Cert.FinalLatRefIdeal.τ).loc Cert.FinalLatRefIdeal.main_arg0) = m' ((c.tc : Thread Cert.FinalLatRefIdeal.nD Cert.FinalLatRefIdeal.τ).loc Cert.FinalLatRefIdeal.main_arg0)
          ∧ r.2.mem ((c.tc : Thread Cert.FinalLatRefIdeal.nD Cert.FinalLatRefIdeal.τ).loc Cert.FinalLatRefIdeal.main_arg1) = m' ((c.tc : Thread Cert.FinalLatRefIdeal.nD Cert.FinalLatRefIdeal.τ).loc Cert.FinalLatRefIdeal.main_arg1)
          ∧ r.2.mem ((c.tc : Thread Cert.FinalLatRefIdeal.nD Cert.FinalLatRefIdeal.τ).loc Cert.FinalLatRefIdeal.main_arg2) = m' ((c.tc : Thread Cert.FinalLatRefIdeal.nD Cert.FinalLatRefIdeal.τ).loc Cert.FinalLatRefIdeal.main_arg2)
          ∧ r.2.mem ((c.tc : Thread Cert.FinalLatRefIdeal.nD Cert.FinalLatRefIdeal.τ).loc Cert.FinalLatRefIdeal.main_arg3) = m' ((c.tc : Thread Cert.FinalLatRefIdeal.nD Cert.FinalLatRefIdeal.τ).loc Cert.FinalLatRefIdeal.main_arg3)
          ∧ r.2.mem ((c.tc : Thread Cert.FinalLatRefIdeal.nD Cert.FinalLatRefIdeal.τ).loc Cert.FinalLatRefIdeal.main_arg4) = m' ((c.tc : Thread Cert.FinalLatRefIdeal.nD Cert.FinalLatRefIdeal.τ).loc Cert.FinalLatRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v9) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v23) = v0 c
          ∧ r.2.mem ((c.tc : Thread Cert.RouterRefIdeal.nD Cert.RouterRefIdeal.τ).loc Cert.RouterRefIdeal.main_v35) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v2) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v35) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4))

def preserves_Fnet_FnetIdeal : Prop :=
  True

def algebraic_FnetIdeal_FnetRefIdeal [hFnetIdeal : Cert.FnetIdeal.Facts] [hFnetRefIdeal : Cert.FnetRefIdeal.Facts] : Prop :=
  ∀ (m : (ℓ : Loc Cert.FnetIdeal.nD Cert.FnetIdeal.τ Cert.FnetIdeal.sig) → Buf (Elt Ideal) ℓ) (g : Dev Cert.FnetIdeal.nD → PrngReg)
    (m' : (ℓ : Loc Cert.FnetRefIdeal.nD Cert.FnetRefIdeal.τ Cert.FnetRefIdeal.sig) → Buf (Elt Ideal) ℓ) (g' : Dev Cert.FnetRefIdeal.nD → PrngReg), Pre_FnetIdeal m →
    (∀ c : Dev Cert.FnetIdeal.nD,
      m' ((c.tc : Thread Cert.FnetRefIdeal.nD Cert.FnetRefIdeal.τ).loc Cert.FnetRefIdeal.main_arg0) = m ((c.tc : Thread Cert.FnetIdeal.nD Cert.FnetIdeal.τ).loc Cert.FnetIdeal.main_arg0)) →
    ∃ (v0 : (c : Dev Cert.FnetIdeal.nD) → Buf (Elt Ideal) ((c.tc : Thread Cert.FnetIdeal.nD Cert.FnetIdeal.τ).loc Cert.FnetIdeal.main_v23)),
      θ_run (Cert.FnetIdeal.defs (F := Ideal)) (onTc (τ := Cert.FnetIdeal.τ) (Cert.FnetIdeal.main (F := Ideal))) ⟨m, fun _ => 0, g⟩ (fun r => ∀ c : Dev Cert.FnetIdeal.nD,
          r.2.mem ((c.tc : Thread Cert.FnetIdeal.nD Cert.FnetIdeal.τ).loc Cert.FnetIdeal.main_v23) = v0 c
          ∧ r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0))
      ∧ θ_run (Cert.FnetRefIdeal.defs (F := Ideal)) (onTc (τ := Cert.FnetRefIdeal.τ) (Cert.FnetRefIdeal.main (F := Ideal))) ⟨m', fun _ => 0, g'⟩ (fun r => ∀ c : Dev Cert.FnetRefIdeal.nD,
          r.2.mem ((c.tc : Thread Cert.FnetRefIdeal.nD Cert.FnetRefIdeal.τ).loc Cert.FnetRefIdeal.main_v27) = v0 c
          ∧ r.2.mem ((c.tc : Thread Cert.FnetRefIdeal.nD Cert.FnetRefIdeal.τ).loc Cert.FnetRefIdeal.main_arg0) = m' ((c.tc : Thread Cert.FnetRefIdeal.nD Cert.FnetRefIdeal.τ).loc Cert.FnetRefIdeal.main_arg0))

def Claim : Prop :=
  ∃ (hScan : Cert.Scan.Facts) (hScanIdeal : Cert.ScanIdeal.Facts) (hScanRefIdeal : Cert.ScanRefIdeal.Facts) (hExpert : Cert.Expert.Facts) (hExpertIdeal : Cert.ExpertIdeal.Facts) (hExpertRefIdeal : Cert.ExpertRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFinalCtx : Cert.FinalCtx.Facts) (hFinalCtxIdeal : Cert.FinalCtxIdeal.Facts) (hFinalCtxRefIdeal : Cert.FinalCtxRefIdeal.Facts) (hFinalLat : Cert.FinalLat.Facts) (hFinalLatIdeal : Cert.FinalLatIdeal.Facts) (hFinalLatRefIdeal : Cert.FinalLatRefIdeal.Facts) (hAda : Cert.Ada.Facts) (hAdaIdeal : Cert.AdaIdeal.Facts) (hAdaRefIdeal : Cert.AdaRefIdeal.Facts) (hRouter : Cert.Router.Facts) (hRouterIdeal : Cert.RouterIdeal.Facts) (hRouterRefIdeal : Cert.RouterRefIdeal.Facts) (hPost : Cert.Post.Facts) (hPostIdeal : Cert.PostIdeal.Facts) (hPostRefIdeal : Cert.PostRefIdeal.Facts) (hFnet : Cert.Fnet.Facts) (hFnetIdeal : Cert.FnetIdeal.Facts) (hFnetRefIdeal : Cert.FnetRefIdeal.Facts) (hPre_finite : Cert.Pre_finite.Facts),
    quiescent_Scan (hScan := hScan)
    ∧ quiescent_ScanIdeal (hScanIdeal := hScanIdeal)
    ∧ quiescent_ScanIdeal_pre_finite (hScanIdeal := hScanIdeal) (hPre_finite := hPre_finite)
    ∧ quiescent_ScanRefIdeal (hScanRefIdeal := hScanRefIdeal)
    ∧ quiescent_ScanRefIdeal_pre_finite (hScanRefIdeal := hScanRefIdeal) (hPre_finite := hPre_finite)
    ∧ quiescent_Expert (hExpert := hExpert)
    ∧ quiescent_ExpertIdeal (hExpertIdeal := hExpertIdeal)
    ∧ quiescent_ExpertRefIdeal (hExpertRefIdeal := hExpertRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalCtx (hFinalCtx := hFinalCtx)
    ∧ quiescent_FinalCtxIdeal (hFinalCtxIdeal := hFinalCtxIdeal)
    ∧ quiescent_FinalCtxRefIdeal (hFinalCtxRefIdeal := hFinalCtxRefIdeal)
    ∧ quiescent_FinalLat (hFinalLat := hFinalLat)
    ∧ quiescent_FinalLatIdeal (hFinalLatIdeal := hFinalLatIdeal)
    ∧ quiescent_FinalLatRefIdeal (hFinalLatRefIdeal := hFinalLatRefIdeal)
    ∧ quiescent_Ada (hAda := hAda)
    ∧ quiescent_AdaIdeal (hAdaIdeal := hAdaIdeal)
    ∧ quiescent_AdaRefIdeal (hAdaRefIdeal := hAdaRefIdeal)
    ∧ quiescent_Router (hRouter := hRouter)
    ∧ quiescent_RouterIdeal (hRouterIdeal := hRouterIdeal)
    ∧ quiescent_RouterRefIdeal (hRouterRefIdeal := hRouterRefIdeal)
    ∧ quiescent_Post (hPost := hPost)
    ∧ quiescent_PostIdeal (hPostIdeal := hPostIdeal)
    ∧ quiescent_PostRefIdeal (hPostRefIdeal := hPostRefIdeal)
    ∧ quiescent_Fnet (hFnet := hFnet)
    ∧ quiescent_FnetIdeal (hFnetIdeal := hFnetIdeal)
    ∧ quiescent_FnetRefIdeal (hFnetRefIdeal := hFnetRefIdeal)
    ∧ preserves_Scan_ScanIdeal
    ∧ algebraic_ScanIdeal_ScanRefIdeal_pre_finite (hScanIdeal := hScanIdeal) (hScanRefIdeal := hScanRefIdeal) (hPre_finite := hPre_finite)
    ∧ preserves_Expert_ExpertIdeal
    ∧ algebraic_ExpertIdeal_ExpertRefIdeal (hExpertIdeal := hExpertIdeal) (hExpertRefIdeal := hExpertRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FinalCtx_FinalCtxIdeal
    ∧ algebraic_FinalCtxIdeal_FinalCtxRefIdeal (hFinalCtxIdeal := hFinalCtxIdeal) (hFinalCtxRefIdeal := hFinalCtxRefIdeal)
    ∧ preserves_FinalLat_FinalLatIdeal
    ∧ algebraic_FinalLatIdeal_FinalLatRefIdeal (hFinalLatIdeal := hFinalLatIdeal) (hFinalLatRefIdeal := hFinalLatRefIdeal)
    ∧ preserves_Ada_AdaIdeal
    ∧ algebraic_AdaIdeal_AdaRefIdeal (hAdaIdeal := hAdaIdeal) (hAdaRefIdeal := hAdaRefIdeal)
    ∧ preserves_Router_RouterIdeal
    ∧ algebraic_RouterIdeal_RouterRefIdeal (hRouterIdeal := hRouterIdeal) (hRouterRefIdeal := hRouterRefIdeal)
    ∧ preserves_Post_PostIdeal
    ∧ algebraic_PostIdeal_PostRefIdeal (hPostIdeal := hPostIdeal) (hPostRefIdeal := hPostRefIdeal)
    ∧ preserves_Fnet_FnetIdeal
    ∧ algebraic_FnetIdeal_FnetRefIdeal (hFnetIdeal := hFnetIdeal) (hFnetRefIdeal := hFnetRefIdeal)
-- ==== Pre_finite.lean ====
abbrev S256x64x1024 : Shape := ⟨3, ![256, 64, 1024]⟩
abbrev S8x64x64x128 : Shape := ⟨4, ![8, 64, 64, 128]⟩
abbrev S_ : Shape := ⟨0, ![]⟩

class Facts : Prop where
  bcast_S_S256x64x1024 : S_.BroadcastsInDim S256x64x1024 (![] : Fin 0 → Fin S256x64x1024.rank)
  bcast_S_S8x64x64x128 : S_.BroadcastsInDim S8x64x64x128 (![] : Fin 0 → Fin S8x64x64x128.rank)

variable [Facts]

def fn_part1 {F : FTy → Type} [FloatOps F] (main_arg6 : FVec F S8x64x64x128 .f32) (main_v2 : IVec S256x64x1024 1) (main_v5 : IVec S256x64x1024 1) (main_v8 : IVec S256x64x1024 1) (main_v11 : IVec S256x64x1024 1) (main_v14 : IVec S256x64x1024 1) (main_v17 : IVec S256x64x1024 1) : IVec S256x64x1024 1 × IVec S256x64x1024 1 × IVec S256x64x1024 1 × IVec S256x64x1024 1 × IVec S256x64x1024 1 × IVec S256x64x1024 1 × IVec S8x64x64x128 1 :=
  let main_v18 : FVec F S8x64x64x128 .f32 := Host.absf main_arg6
  let main_cst_5 : FVec F S_ .f32 := constant S_ .f32 0x7F800000#32
  let main_v19 : FVec F S8x64x64x128 .f32 := broadcastInDim S8x64x64x128 ![] bcast_S_S8x64x64x128 main_cst_5
  let main_v20 : IVec S8x64x64x128 1 := cmpf .olt main_v18 main_v19
  (main_v2, main_v5, main_v8, main_v11, main_v14, main_v17, main_v20)

def fn {F : FTy → Type} [FloatOps F] (main_arg0 : FVec F S256x64x1024 .f32) (main_arg1 : FVec F S256x64x1024 .f32) (main_arg2 : FVec F S256x64x1024 .f32) (main_arg3 : FVec F S256x64x1024 .f32) (main_arg4 : FVec F S256x64x1024 .f32) (main_arg5 : FVec F S256x64x1024 .f32) (main_arg6 : FVec F S8x64x64x128 .f32) : IVec S256x64x1024 1 × IVec S256x64x1024 1 × IVec S256x64x1024 1 × IVec S256x64x1024 1 × IVec S256x64x1024 1 × IVec S256x64x1024 1 × IVec S8x64x64x128 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_v3 : FVec F S256x64x1024 .f32 := Host.absf main_arg1
  let main_cst_0 : FVec F S_ .f32 := constant S_ .f32 0x7F800000#32
  let main_v4 : FVec F S256x64x1024 .f32 := broadcastInDim S256x64x1024 ![] bcast_S_S256x64x1024 main_cst_0
  let main_v5 : IVec S256x64x1024 1 := cmpf .olt main_v3 main_v4
  let main_v6 : FVec F S256x64x1024 .f32 := Host.absf main_arg2
  let main_cst_1 : FVec F S_ .f32 := constant S_ .f32 0x7F800000#32
  let main_v7 : FVec F S256x64x1024 .f32 := broadcastInDim S256x64x1024 ![] bcast_S_S256x64x1024 main_cst_1
  let main_v8 : IVec S256x64x1024 1 := cmpf .olt main_v6 main_v7
  let main_v9 : FVec F S256x64x1024 .f32 := Host.absf main_arg3
  let main_cst_2 : FVec F S_ .f32 := constant S_ .f32 0x7F800000#32
  let main_v10 : FVec F S256x64x1024 .f32 := broadcastInDim S256x64x1024 ![] bcast_S_S256x64x1024 main_cst_2
  let main_v11 : IVec S256x64x1024 1 := cmpf .olt main_v9 main_v10
  let main_v12 : FVec F S256x64x1024 .f32 := Host.absf main_arg4
  let main_cst_3 : FVec F S_ .f32 := constant S_ .f32 0x7F800000#32
  let main_v13 : FVec F S256x64x1024 .f32 := broadcastInDim S256x64x1024 ![] bcast_S_S256x64x1024 main_cst_3
  let main_v14 : IVec S256x64x1024 1 := cmpf .olt main_v12 main_v13
  let main_v15 : FVec F S256x64x1024 .f32 := Host.absf main_arg5
  let main_cst_4 : FVec F S_ .f32 := constant S_ .f32 0x7F800000#32
  let main_v16 : FVec F S256x64x1024 .f32 := broadcastInDim S256x64x1024 ![] bcast_S_S256x64x1024 main_cst_4
  let main_v17 : IVec S256x64x1024 1 := cmpf .olt main_v15 main_v16
  fn_part1 (F := F) main_arg6 main_v2 main_v5 main_v8 main_v11 main_v14 main_v17
-- ==== Scan.lean ====
abbrev S256x64x1024 : Shape := ⟨3, ![256, 64, 1024]⟩
abbrev S8x64x64x128 : Shape := ⟨4, ![8, 64, 64, 128]⟩
abbrev S32x64x128 : Shape := ⟨3, ![32, 64, 128]⟩
abbrev S1x64x64x128 : Shape := ⟨4, ![1, 64, 64, 128]⟩
abbrev S64x64x128 : Shape := ⟨3, ![64, 64, 128]⟩
abbrev S2x64x128 : Shape := ⟨3, ![2, 64, 128]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 9
  | .vmem => 20
  | .smem => 0
  | _ => 0

abbrev bufTy : (tb : Table) → Fin (tcTables nBuf tb) → BufTy
  | .hbm, ⟨0, _⟩ => ⟨S256x64x1024, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1024, .f32⟩
  | .hbm, ⟨6, _⟩ => ⟨S8x64x64x128, .f32⟩
  | .hbm, ⟨7, _⟩ => ⟨S256x64x1024, .f32⟩
  | .hbm, ⟨8, _⟩ => ⟨S8x64x64x128, .f32⟩
  | .local _ .vmem, ⟨0, _⟩ => ⟨S32x64x128, .f32⟩
  | .local _ .vmem, ⟨1, _⟩ => ⟨S32x64x128, .f32⟩
  | .local _ .vmem, ⟨2, _⟩ => ⟨S32x64x128, .f32⟩
  | .local _ .vmem, ⟨3, _⟩ => ⟨S32x64x128, .f32⟩
  | .local _ .vmem, ⟨4, _⟩ => ⟨S32x64x128, .f32⟩
  | .local _ .vmem, ⟨5, _⟩ => ⟨S32x64x128, .f32⟩
  | .local _ .vmem, ⟨6, _⟩ => ⟨S32x64x128, .f32⟩
  | .local _ .vmem, ⟨7, _⟩ => ⟨S32x64x128, .f32⟩
  | .local _ .vmem, ⟨8, _⟩ => ⟨S32x64x128, .f32⟩
  | .local _ .vmem, ⟨9, _⟩ => ⟨S32x64x128, .f32⟩
  | .local _ .vmem, ⟨10, _⟩ => ⟨S32x64x128, .f32⟩
  | .local _ .vmem, ⟨11, _⟩ => ⟨S32x64x128, .f32⟩
  | .local _ .vmem, ⟨12, _⟩ => ⟨S1x64x64x128, .f32⟩
  | .local _ .vmem, ⟨13, _⟩ => ⟨S1x64x64x128, .f32⟩
  | .local _ .vmem, ⟨14, _⟩ => ⟨S32x64x128, .f32⟩
  | .local _ .vmem, ⟨15, _⟩ => ⟨S32x64x128, .f32⟩
  | .local _ .vmem, ⟨16, _⟩ => ⟨S1x64x64x128, .f32⟩
  | .local _ .vmem, ⟨17, _⟩ => ⟨S1x64x64x128, .f32⟩
  | .local _ .vmem, ⟨18, _⟩ => ⟨S64x64x128, .f32⟩
  | .local _ .vmem, ⟨19, _⟩ => ⟨S2x64x128, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_523 : BitVec 32 := 0#32
  let c32_i32 : BitVec 32 := 32#32
  let v781 : BitVec 32 := Scalar.addi c0_i32_523 c32_i32
  let c1_i32 : BitVec 32 := 1#32
  ⟨c0_i32_523, v781, c1_i32⟩
def k0_off1 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v786 : Index := Scalar.indexCast arg13
  let c0_526 : Index := 0#32
  let c0_527 : Index := 0#32
  ![v786.toNat, 0, 0]
def k0_off2 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v827 : Index := Scalar.indexCast v815
  let c0_545 : Index := 0#32
  let c0_546 : Index := 0#32
  ![v827.toNat, 0, 0]
def k0_off3 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v834 : Index := Scalar.indexCast v826
  let c0_549 : Index := 0#32
  let c0_550 : Index := 0#32
  ![v834.toNat, 0, 0]
def k0_off4 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v842 : Index := Scalar.indexCast arg13
  let c0_556 : Index := 0#32
  let c0_557 : Index := 0#32
  ![v842.toNat, 0, 0]
def k0_off5 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v862 : Index := Scalar.indexCast v815
  let c0_565 : Index := 0#32
  let c0_566 : Index := 0#32
  ![v862.toNat, 0, 0]
def k0_off6 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v868 : Index := Scalar.indexCast v826
  let c0_567 : Index := 0#32
  let c0_568 : Index := 0#32
  ![v868.toNat, 0, 0]
def k0_off7 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v876 : Index := Scalar.indexCast arg13
  let c1_572 : Index := 1#32
  let c0_573 : Index := 0#32
  ![v876.toNat, 1, 0]
def k0_off8 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v896 : Index := Scalar.indexCast v815
  let c1_581 : Index := 1#32
  let c0_582 : Index := 0#32
  ![v896.toNat, 1, 0]
def k0_off9 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v902 : Index := Scalar.indexCast v826
  let c1_583 : Index := 1#32
  let c0_584 : Index := 0#32
  ![v902.toNat, 1, 0]
def k0_off10 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v910 : Index := Scalar.indexCast arg13
  let c2_588 : Index := 2#32
  let c0_589 : Index := 0#32
  ![v910.toNat, 2, 0]
def k0_off11 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v930 : Index := Scalar.indexCast v815
  let c2_597 : Index := 2#32
  let c0_598 : Index := 0#32
  ![v930.toNat, 2, 0]
def k0_off12 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v936 : Index := Scalar.indexCast v826
  let c2_599 : Index := 2#32
  let c0_600 : Index := 0#32
  ![v936.toNat, 2, 0]
def k0_off13 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v944 : Index := Scalar.indexCast arg13
  let c3_604 : Index := 3#32
  let c0_605 : Index := 0#32
  ![v944.toNat, 3, 0]
def k0_off14 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v964 : Index := Scalar.indexCast v815
  let c3_613 : Index := 3#32
  let c0_614 : Index := 0#32
  ![v964.toNat, 3, 0]
def k0_off15 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v970 : Index := Scalar.indexCast v826
  let c3_615 : Index := 3#32
  let c0_616 : Index := 0#32
  ![v970.toNat, 3, 0]
def k0_off16 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v978 : Index := Scalar.indexCast arg13
  let c4_620 : Index := 4#32
  let c0_621 : Index := 0#32
  ![v978.toNat, 4, 0]
def k0_off17 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v998 : Index := Scalar.indexCast v815
  let c4_629 : Index := 4#32
  let c0_630 : Index := 0#32
  ![v998.toNat, 4, 0]
def k0_off18 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1004 : Index := Scalar.indexCast v826
  let c4_631 : Index := 4#32
  let c0_632 : Index := 0#32
  ![v1004.toNat, 4, 0]
def k0_off19 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1012 : Index := Scalar.indexCast arg13
  let c5_636 : Index := 5#32
  let c0_637 : Index := 0#32
  ![v1012.toNat, 5, 0]
def k0_off20 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1032 : Index := Scalar.indexCast v815
  let c5_645 : Index := 5#32
  let c0_646 : Index := 0#32
  ![v1032.toNat, 5, 0]
def k0_off21 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1038 : Index := Scalar.indexCast v826
  let c5_647 : Index := 5#32
  let c0_648 : Index := 0#32
  ![v1038.toNat, 5, 0]
def k0_off22 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1046 : Index := Scalar.indexCast arg13
  let c6_652 : Index := 6#32
  let c0_653 : Index := 0#32
  ![v1046.toNat, 6, 0]
def k0_off23 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1066 : Index := Scalar.indexCast v815
  let c6_661 : Index := 6#32
  let c0_662 : Index := 0#32
  ![v1066.toNat, 6, 0]
def k0_off24 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1072 : Index := Scalar.indexCast v826
  let c6_663 : Index := 6#32
  let c0_664 : Index := 0#32
  ![v1072.toNat, 6, 0]
def k0_off25 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1080 : Index := Scalar.indexCast arg13
  let c7_668 : Index := 7#32
  let c0_669 : Index := 0#32
  ![v1080.toNat, 7, 0]
def k0_off26 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1100 : Index := Scalar.indexCast v815
  let c7_677 : Index := 7#32
  let c0_678 : Index := 0#32
  ![v1100.toNat, 7, 0]
def k0_off27 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1106 : Index := Scalar.indexCast v826
  let c7_679 : Index := 7#32
  let c0_680 : Index := 0#32
  ![v1106.toNat, 7, 0]
def k0_off28 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1114 : Index := Scalar.indexCast arg13
  let c8_684 : Index := 8#32
  let c0_685 : Index := 0#32
  ![v1114.toNat, 8, 0]
def k0_off29 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1134 : Index := Scalar.indexCast v815
  let c8_693 : Index := 8#32
  let c0_694 : Index := 0#32
  ![v1134.toNat, 8, 0]
def k0_off30 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1140 : Index := Scalar.indexCast v826
  let c8_695 : Index := 8#32
  let c0_696 : Index := 0#32
  ![v1140.toNat, 8, 0]
def k0_off31 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1148 : Index := Scalar.indexCast arg13
  let c9_700 : Index := 9#32
  let c0_701 : Index := 0#32
  ![v1148.toNat, 9, 0]
def k0_off32 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1168 : Index := Scalar.indexCast v815
  let c9_709 : Index := 9#32
  let c0_710 : Index := 0#32
  ![v1168.toNat, 9, 0]
def k0_off33 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1174 : Index := Scalar.indexCast v826
  let c9_711 : Index := 9#32
  let c0_712 : Index := 0#32
  ![v1174.toNat, 9, 0]
def k0_off34 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1182 : Index := Scalar.indexCast arg13
  let c10_716 : Index := 10#32
  let c0_717 : Index := 0#32
  ![v1182.toNat, 10, 0]
def k0_off35 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1202 : Index := Scalar.indexCast v815
  let c10_725 : Index := 10#32
  let c0_726 : Index := 0#32
  ![v1202.toNat, 10, 0]
def k0_off36 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1208 : Index := Scalar.indexCast v826
  let c10_727 : Index := 10#32
  let c0_728 : Index := 0#32
  ![v1208.toNat, 10, 0]
def k0_off37 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1216 : Index := Scalar.indexCast arg13
  let c11_732 : Index := 11#32
  let c0_733 : Index := 0#32
  ![v1216.toNat, 11, 0]
def k0_off38 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1236 : Index := Scalar.indexCast v815
  let c11_741 : Index := 11#32
  let c0_742 : Index := 0#32
  ![v1236.toNat, 11, 0]
def k0_off39 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1242 : Index := Scalar.indexCast v826
  let c11_743 : Index := 11#32
  let c0_744 : Index := 0#32
  ![v1242.toNat, 11, 0]
def k0_off40 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1250 : Index := Scalar.indexCast arg13
  let c12_748 : Index := 12#32
  let c0_749 : Index := 0#32
  ![v1250.toNat, 12, 0]
def k0_off41 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1270 : Index := Scalar.indexCast v815
  let c12_757 : Index := 12#32
  let c0_758 : Index := 0#32
  ![v1270.toNat, 12, 0]
def k0_off42 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1276 : Index := Scalar.indexCast v826
  let c12_759 : Index := 12#32
  let c0_760 : Index := 0#32
  ![v1276.toNat, 12, 0]
def k0_off43 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1284 : Index := Scalar.indexCast arg13
  let c13_764 : Index := 13#32
  let c0_765 : Index := 0#32
  ![v1284.toNat, 13, 0]
def k0_off44 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1304 : Index := Scalar.indexCast v815
  let c13_773 : Index := 13#32
  let c0_774 : Index := 0#32
  ![v1304.toNat, 13, 0]
def k0_off45 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1310 : Index := Scalar.indexCast v826
  let c13_775 : Index := 13#32
  let c0_776 : Index := 0#32
  ![v1310.toNat, 13, 0]
def k0_off46 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1318 : Index := Scalar.indexCast arg13
  let c14_780 : Index := 14#32
  let c0_781 : Index := 0#32
  ![v1318.toNat, 14, 0]
def k0_off47 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1338 : Index := Scalar.indexCast v815
  let c14_789 : Index := 14#32
  let c0_790 : Index := 0#32
  ![v1338.toNat, 14, 0]
def k0_off48 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1344 : Index := Scalar.indexCast v826
  let c14_791 : Index := 14#32
  let c0_792 : Index := 0#32
  ![v1344.toNat, 14, 0]
def k0_off49 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1352 : Index := Scalar.indexCast arg13
  let c15_796 : Index := 15#32
  let c0_797 : Index := 0#32
  ![v1352.toNat, 15, 0]
def k0_off50 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1372 : Index := Scalar.indexCast v815
  let c15_805 : Index := 15#32
  let c0_806 : Index := 0#32
  ![v1372.toNat, 15, 0]
def k0_off51 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1378 : Index := Scalar.indexCast v826
  let c15_807 : Index := 15#32
  let c0_808 : Index := 0#32
  ![v1378.toNat, 15, 0]
def k0_off52 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1386 : Index := Scalar.indexCast arg13
  let c16_812 : Index := 16#32
  let c0_813 : Index := 0#32
  ![v1386.toNat, 16, 0]
def k0_off53 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1406 : Index := Scalar.indexCast v815
  let c16_821 : Index := 16#32
  let c0_822 : Index := 0#32
  ![v1406.toNat, 16, 0]
def k0_off54 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1412 : Index := Scalar.indexCast v826
  let c16_823 : Index := 16#32
  let c0_824 : Index := 0#32
  ![v1412.toNat, 16, 0]
def k0_off55 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1420 : Index := Scalar.indexCast arg13
  let c17_828 : Index := 17#32
  let c0_829 : Index := 0#32
  ![v1420.toNat, 17, 0]
def k0_off56 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1440 : Index := Scalar.indexCast v815
  let c17_837 : Index := 17#32
  let c0_838 : Index := 0#32
  ![v1440.toNat, 17, 0]
def k0_off57 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1446 : Index := Scalar.indexCast v826
  let c17_839 : Index := 17#32
  let c0_840 : Index := 0#32
  ![v1446.toNat, 17, 0]
def k0_off58 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1454 : Index := Scalar.indexCast arg13
  let c18_844 : Index := 18#32
  let c0_845 : Index := 0#32
  ![v1454.toNat, 18, 0]
def k0_off59 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1474 : Index := Scalar.indexCast v815
  let c18_853 : Index := 18#32
  let c0_854 : Index := 0#32
  ![v1474.toNat, 18, 0]
def k0_off60 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1480 : Index := Scalar.indexCast v826
  let c18_855 : Index := 18#32
  let c0_856 : Index := 0#32
  ![v1480.toNat, 18, 0]
def k0_off61 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1488 : Index := Scalar.indexCast arg13
  let c19_860 : Index := 19#32
  let c0_861 : Index := 0#32
  ![v1488.toNat, 19, 0]
def k0_off62 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1508 : Index := Scalar.indexCast v815
  let c19_869 : Index := 19#32
  let c0_870 : Index := 0#32
  ![v1508.toNat, 19, 0]
def k0_off63 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1514 : Index := Scalar.indexCast v826
  let c19_871 : Index := 19#32
  let c0_872 : Index := 0#32
  ![v1514.toNat, 19, 0]
def k0_off64 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1522 : Index := Scalar.indexCast arg13
  let c20_876 : Index := 20#32
  let c0_877 : Index := 0#32
  ![v1522.toNat, 20, 0]
def k0_off65 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1542 : Index := Scalar.indexCast v815
  let c20_885 : Index := 20#32
  let c0_886 : Index := 0#32
  ![v1542.toNat, 20, 0]
def k0_off66 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1548 : Index := Scalar.indexCast v826
  let c20_887 : Index := 20#32
  let c0_888 : Index := 0#32
  ![v1548.toNat, 20, 0]
def k0_off67 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1556 : Index := Scalar.indexCast arg13
  let c21_892 : Index := 21#32
  let c0_893 : Index := 0#32
  ![v1556.toNat, 21, 0]
def k0_off68 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1576 : Index := Scalar.indexCast v815
  let c21_901 : Index := 21#32
  let c0_902 : Index := 0#32
  ![v1576.toNat, 21, 0]
def k0_off69 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1582 : Index := Scalar.indexCast v826
  let c21_903 : Index := 21#32
  let c0_904 : Index := 0#32
  ![v1582.toNat, 21, 0]
def k0_off70 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1590 : Index := Scalar.indexCast arg13
  let c22_908 : Index := 22#32
  let c0_909 : Index := 0#32
  ![v1590.toNat, 22, 0]
def k0_off71 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1610 : Index := Scalar.indexCast v815
  let c22_917 : Index := 22#32
  let c0_918 : Index := 0#32
  ![v1610.toNat, 22, 0]
def k0_off72 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1616 : Index := Scalar.indexCast v826
  let c22_919 : Index := 22#32
  let c0_920 : Index := 0#32
  ![v1616.toNat, 22, 0]
def k0_off73 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1624 : Index := Scalar.indexCast arg13
  let c23_924 : Index := 23#32
  let c0_925 : Index := 0#32
  ![v1624.toNat, 23, 0]
def k0_off74 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1644 : Index := Scalar.indexCast v815
  let c23_933 : Index := 23#32
  let c0_934 : Index := 0#32
  ![v1644.toNat, 23, 0]
def k0_off75 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1650 : Index := Scalar.indexCast v826
  let c23_935 : Index := 23#32
  let c0_936 : Index := 0#32
  ![v1650.toNat, 23, 0]
def k0_off76 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1658 : Index := Scalar.indexCast arg13
  let c24_940 : Index := 24#32
  let c0_941 : Index := 0#32
  ![v1658.toNat, 24, 0]
def k0_off77 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1678 : Index := Scalar.indexCast v815
  let c24_949 : Index := 24#32
  let c0_950 : Index := 0#32
  ![v1678.toNat, 24, 0]
def k0_off78 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1684 : Index := Scalar.indexCast v826
  let c24_951 : Index := 24#32
  let c0_952 : Index := 0#32
  ![v1684.toNat, 24, 0]
def k0_off79 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1692 : Index := Scalar.indexCast arg13
  let c25_956 : Index := 25#32
  let c0_957 : Index := 0#32
  ![v1692.toNat, 25, 0]
def k0_off80 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1712 : Index := Scalar.indexCast v815
  let c25_965 : Index := 25#32
  let c0_966 : Index := 0#32
  ![v1712.toNat, 25, 0]
def k0_off81 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1718 : Index := Scalar.indexCast v826
  let c25_967 : Index := 25#32
  let c0_968 : Index := 0#32
  ![v1718.toNat, 25, 0]
def k0_off82 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1726 : Index := Scalar.indexCast arg13
  let c26_972 : Index := 26#32
  let c0_973 : Index := 0#32
  ![v1726.toNat, 26, 0]
def k0_off83 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1746 : Index := Scalar.indexCast v815
  let c26_981 : Index := 26#32
  let c0_982 : Index := 0#32
  ![v1746.toNat, 26, 0]
def k0_off84 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1752 : Index := Scalar.indexCast v826
  let c26_983 : Index := 26#32
  let c0_984 : Index := 0#32
  ![v1752.toNat, 26, 0]
def k0_off85 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1760 : Index := Scalar.indexCast arg13
  let c27_988 : Index := 27#32
  let c0_989 : Index := 0#32
  ![v1760.toNat, 27, 0]
def k0_off86 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1780 : Index := Scalar.indexCast v815
  let c27_997 : Index := 27#32
  let c0_998 : Index := 0#32
  ![v1780.toNat, 27, 0]
def k0_off87 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1786 : Index := Scalar.indexCast v826
  let c27_999 : Index := 27#32
  let c0_1000 : Index := 0#32
  ![v1786.toNat, 27, 0]
def k0_off88 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1794 : Index := Scalar.indexCast arg13
  let c28_1004 : Index := 28#32
  let c0_1005 : Index := 0#32
  ![v1794.toNat, 28, 0]
def k0_off89 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1814 : Index := Scalar.indexCast v815
  let c28_1013 : Index := 28#32
  let c0_1014 : Index := 0#32
  ![v1814.toNat, 28, 0]
def k0_off90 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1820 : Index := Scalar.indexCast v826
  let c28_1015 : Index := 28#32
  let c0_1016 : Index := 0#32
  ![v1820.toNat, 28, 0]
def k0_off91 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1828 : Index := Scalar.indexCast arg13
  let c29_1020 : Index := 29#32
  let c0_1021 : Index := 0#32
  ![v1828.toNat, 29, 0]
def k0_off92 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1848 : Index := Scalar.indexCast v815
  let c29_1029 : Index := 29#32
  let c0_1030 : Index := 0#32
  ![v1848.toNat, 29, 0]
def k0_off93 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1854 : Index := Scalar.indexCast v826
  let c29_1031 : Index := 29#32
  let c0_1032 : Index := 0#32
  ![v1854.toNat, 29, 0]
def k0_off94 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1862 : Index := Scalar.indexCast arg13
  let c30_1036 : Index := 30#32
  let c0_1037 : Index := 0#32
  ![v1862.toNat, 30, 0]
def k0_off95 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1882 : Index := Scalar.indexCast v815
  let c30_1045 : Index := 30#32
  let c0_1046 : Index := 0#32
  ![v1882.toNat, 30, 0]
def k0_off96 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1888 : Index := Scalar.indexCast v826
  let c30_1047 : Index := 30#32
  let c0_1048 : Index := 0#32
  ![v1888.toNat, 30, 0]
def k0_off97 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1896 : Index := Scalar.indexCast arg13
  let c31_1052 : Index := 31#32
  let c0_1053 : Index := 0#32
  ![v1896.toNat, 31, 0]
def k0_off98 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1916 : Index := Scalar.indexCast v815
  let c31_1061 : Index := 31#32
  let c0_1062 : Index := 0#32
  ![v1916.toNat, 31, 0]
def k0_off99 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1922 : Index := Scalar.indexCast v826
  let c31_1063 : Index := 31#32
  let c0_1064 : Index := 0#32
  ![v1922.toNat, 31, 0]
def k0_off100 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1930 : Index := Scalar.indexCast arg13
  let c32_1068 : Index := 32#32
  let c0_1069 : Index := 0#32
  ![v1930.toNat, 32, 0]
def k0_off101 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1950 : Index := Scalar.indexCast v815
  let c32_1077 : Index := 32#32
  let c0_1078 : Index := 0#32
  ![v1950.toNat, 32, 0]
def k0_off102 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1956 : Index := Scalar.indexCast v826
  let c32_1079 : Index := 32#32
  let c0_1080 : Index := 0#32
  ![v1956.toNat, 32, 0]
def k0_off103 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1964 : Index := Scalar.indexCast arg13
  let c33_1084 : Index := 33#32
  let c0_1085 : Index := 0#32
  ![v1964.toNat, 33, 0]
def k0_off104 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v1984 : Index := Scalar.indexCast v815
  let c33_1093 : Index := 33#32
  let c0_1094 : Index := 0#32
  ![v1984.toNat, 33, 0]
def k0_off105 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v1990 : Index := Scalar.indexCast v826
  let c33_1095 : Index := 33#32
  let c0_1096 : Index := 0#32
  ![v1990.toNat, 33, 0]
def k0_off106 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v1998 : Index := Scalar.indexCast arg13
  let c34_1100 : Index := 34#32
  let c0_1101 : Index := 0#32
  ![v1998.toNat, 34, 0]
def k0_off107 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2018 : Index := Scalar.indexCast v815
  let c34_1109 : Index := 34#32
  let c0_1110 : Index := 0#32
  ![v2018.toNat, 34, 0]
def k0_off108 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2024 : Index := Scalar.indexCast v826
  let c34_1111 : Index := 34#32
  let c0_1112 : Index := 0#32
  ![v2024.toNat, 34, 0]
def k0_off109 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2032 : Index := Scalar.indexCast arg13
  let c35_1116 : Index := 35#32
  let c0_1117 : Index := 0#32
  ![v2032.toNat, 35, 0]
def k0_off110 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2052 : Index := Scalar.indexCast v815
  let c35_1125 : Index := 35#32
  let c0_1126 : Index := 0#32
  ![v2052.toNat, 35, 0]
def k0_off111 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2058 : Index := Scalar.indexCast v826
  let c35_1127 : Index := 35#32
  let c0_1128 : Index := 0#32
  ![v2058.toNat, 35, 0]
def k0_off112 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2066 : Index := Scalar.indexCast arg13
  let c36_1132 : Index := 36#32
  let c0_1133 : Index := 0#32
  ![v2066.toNat, 36, 0]
def k0_off113 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2086 : Index := Scalar.indexCast v815
  let c36_1141 : Index := 36#32
  let c0_1142 : Index := 0#32
  ![v2086.toNat, 36, 0]
def k0_off114 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2092 : Index := Scalar.indexCast v826
  let c36_1143 : Index := 36#32
  let c0_1144 : Index := 0#32
  ![v2092.toNat, 36, 0]
def k0_off115 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2100 : Index := Scalar.indexCast arg13
  let c37_1148 : Index := 37#32
  let c0_1149 : Index := 0#32
  ![v2100.toNat, 37, 0]
def k0_off116 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2120 : Index := Scalar.indexCast v815
  let c37_1157 : Index := 37#32
  let c0_1158 : Index := 0#32
  ![v2120.toNat, 37, 0]
def k0_off117 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2126 : Index := Scalar.indexCast v826
  let c37_1159 : Index := 37#32
  let c0_1160 : Index := 0#32
  ![v2126.toNat, 37, 0]
def k0_off118 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2134 : Index := Scalar.indexCast arg13
  let c38_1164 : Index := 38#32
  let c0_1165 : Index := 0#32
  ![v2134.toNat, 38, 0]
def k0_off119 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2154 : Index := Scalar.indexCast v815
  let c38_1173 : Index := 38#32
  let c0_1174 : Index := 0#32
  ![v2154.toNat, 38, 0]
def k0_off120 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2160 : Index := Scalar.indexCast v826
  let c38_1175 : Index := 38#32
  let c0_1176 : Index := 0#32
  ![v2160.toNat, 38, 0]
def k0_off121 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2168 : Index := Scalar.indexCast arg13
  let c39_1180 : Index := 39#32
  let c0_1181 : Index := 0#32
  ![v2168.toNat, 39, 0]
def k0_off122 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2188 : Index := Scalar.indexCast v815
  let c39_1189 : Index := 39#32
  let c0_1190 : Index := 0#32
  ![v2188.toNat, 39, 0]
def k0_off123 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2194 : Index := Scalar.indexCast v826
  let c39_1191 : Index := 39#32
  let c0_1192 : Index := 0#32
  ![v2194.toNat, 39, 0]
def k0_off124 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2202 : Index := Scalar.indexCast arg13
  let c40_1196 : Index := 40#32
  let c0_1197 : Index := 0#32
  ![v2202.toNat, 40, 0]
def k0_off125 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2222 : Index := Scalar.indexCast v815
  let c40_1205 : Index := 40#32
  let c0_1206 : Index := 0#32
  ![v2222.toNat, 40, 0]
def k0_off126 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2228 : Index := Scalar.indexCast v826
  let c40_1207 : Index := 40#32
  let c0_1208 : Index := 0#32
  ![v2228.toNat, 40, 0]
def k0_off127 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2236 : Index := Scalar.indexCast arg13
  let c41_1212 : Index := 41#32
  let c0_1213 : Index := 0#32
  ![v2236.toNat, 41, 0]
def k0_off128 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2256 : Index := Scalar.indexCast v815
  let c41_1221 : Index := 41#32
  let c0_1222 : Index := 0#32
  ![v2256.toNat, 41, 0]
def k0_off129 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2262 : Index := Scalar.indexCast v826
  let c41_1223 : Index := 41#32
  let c0_1224 : Index := 0#32
  ![v2262.toNat, 41, 0]
def k0_off130 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2270 : Index := Scalar.indexCast arg13
  let c42_1228 : Index := 42#32
  let c0_1229 : Index := 0#32
  ![v2270.toNat, 42, 0]
def k0_off131 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2290 : Index := Scalar.indexCast v815
  let c42_1237 : Index := 42#32
  let c0_1238 : Index := 0#32
  ![v2290.toNat, 42, 0]
def k0_off132 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2296 : Index := Scalar.indexCast v826
  let c42_1239 : Index := 42#32
  let c0_1240 : Index := 0#32
  ![v2296.toNat, 42, 0]
def k0_off133 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2304 : Index := Scalar.indexCast arg13
  let c43_1244 : Index := 43#32
  let c0_1245 : Index := 0#32
  ![v2304.toNat, 43, 0]
def k0_off134 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2324 : Index := Scalar.indexCast v815
  let c43_1253 : Index := 43#32
  let c0_1254 : Index := 0#32
  ![v2324.toNat, 43, 0]
def k0_off135 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2330 : Index := Scalar.indexCast v826
  let c43_1255 : Index := 43#32
  let c0_1256 : Index := 0#32
  ![v2330.toNat, 43, 0]
def k0_off136 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2338 : Index := Scalar.indexCast arg13
  let c44_1260 : Index := 44#32
  let c0_1261 : Index := 0#32
  ![v2338.toNat, 44, 0]
def k0_off137 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2358 : Index := Scalar.indexCast v815
  let c44_1269 : Index := 44#32
  let c0_1270 : Index := 0#32
  ![v2358.toNat, 44, 0]
def k0_off138 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2364 : Index := Scalar.indexCast v826
  let c44_1271 : Index := 44#32
  let c0_1272 : Index := 0#32
  ![v2364.toNat, 44, 0]
def k0_off139 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2372 : Index := Scalar.indexCast arg13
  let c45_1276 : Index := 45#32
  let c0_1277 : Index := 0#32
  ![v2372.toNat, 45, 0]
def k0_off140 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2392 : Index := Scalar.indexCast v815
  let c45_1285 : Index := 45#32
  let c0_1286 : Index := 0#32
  ![v2392.toNat, 45, 0]
def k0_off141 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2398 : Index := Scalar.indexCast v826
  let c45_1287 : Index := 45#32
  let c0_1288 : Index := 0#32
  ![v2398.toNat, 45, 0]
def k0_off142 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2406 : Index := Scalar.indexCast arg13
  let c46_1292 : Index := 46#32
  let c0_1293 : Index := 0#32
  ![v2406.toNat, 46, 0]
def k0_off143 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2426 : Index := Scalar.indexCast v815
  let c46_1301 : Index := 46#32
  let c0_1302 : Index := 0#32
  ![v2426.toNat, 46, 0]
def k0_off144 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2432 : Index := Scalar.indexCast v826
  let c46_1303 : Index := 46#32
  let c0_1304 : Index := 0#32
  ![v2432.toNat, 46, 0]
def k0_off145 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2440 : Index := Scalar.indexCast arg13
  let c47_1308 : Index := 47#32
  let c0_1309 : Index := 0#32
  ![v2440.toNat, 47, 0]
def k0_off146 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2460 : Index := Scalar.indexCast v815
  let c47_1317 : Index := 47#32
  let c0_1318 : Index := 0#32
  ![v2460.toNat, 47, 0]
def k0_off147 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2466 : Index := Scalar.indexCast v826
  let c47_1319 : Index := 47#32
  let c0_1320 : Index := 0#32
  ![v2466.toNat, 47, 0]
def k0_off148 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2474 : Index := Scalar.indexCast arg13
  let c48_1324 : Index := 48#32
  let c0_1325 : Index := 0#32
  ![v2474.toNat, 48, 0]
def k0_off149 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2494 : Index := Scalar.indexCast v815
  let c48_1333 : Index := 48#32
  let c0_1334 : Index := 0#32
  ![v2494.toNat, 48, 0]
def k0_off150 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2500 : Index := Scalar.indexCast v826
  let c48_1335 : Index := 48#32
  let c0_1336 : Index := 0#32
  ![v2500.toNat, 48, 0]
def k0_off151 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2508 : Index := Scalar.indexCast arg13
  let c49_1340 : Index := 49#32
  let c0_1341 : Index := 0#32
  ![v2508.toNat, 49, 0]
def k0_off152 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2528 : Index := Scalar.indexCast v815
  let c49_1349 : Index := 49#32
  let c0_1350 : Index := 0#32
  ![v2528.toNat, 49, 0]
def k0_off153 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2534 : Index := Scalar.indexCast v826
  let c49_1351 : Index := 49#32
  let c0_1352 : Index := 0#32
  ![v2534.toNat, 49, 0]
def k0_off154 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2542 : Index := Scalar.indexCast arg13
  let c50_1356 : Index := 50#32
  let c0_1357 : Index := 0#32
  ![v2542.toNat, 50, 0]
def k0_off155 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2562 : Index := Scalar.indexCast v815
  let c50_1365 : Index := 50#32
  let c0_1366 : Index := 0#32
  ![v2562.toNat, 50, 0]
def k0_off156 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2568 : Index := Scalar.indexCast v826
  let c50_1367 : Index := 50#32
  let c0_1368 : Index := 0#32
  ![v2568.toNat, 50, 0]
def k0_off157 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2576 : Index := Scalar.indexCast arg13
  let c51_1372 : Index := 51#32
  let c0_1373 : Index := 0#32
  ![v2576.toNat, 51, 0]
def k0_off158 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2596 : Index := Scalar.indexCast v815
  let c51_1381 : Index := 51#32
  let c0_1382 : Index := 0#32
  ![v2596.toNat, 51, 0]
def k0_off159 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2602 : Index := Scalar.indexCast v826
  let c51_1383 : Index := 51#32
  let c0_1384 : Index := 0#32
  ![v2602.toNat, 51, 0]
def k0_off160 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2610 : Index := Scalar.indexCast arg13
  let c52_1388 : Index := 52#32
  let c0_1389 : Index := 0#32
  ![v2610.toNat, 52, 0]
def k0_off161 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2630 : Index := Scalar.indexCast v815
  let c52_1397 : Index := 52#32
  let c0_1398 : Index := 0#32
  ![v2630.toNat, 52, 0]
def k0_off162 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2636 : Index := Scalar.indexCast v826
  let c52_1399 : Index := 52#32
  let c0_1400 : Index := 0#32
  ![v2636.toNat, 52, 0]
def k0_off163 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2644 : Index := Scalar.indexCast arg13
  let c53_1404 : Index := 53#32
  let c0_1405 : Index := 0#32
  ![v2644.toNat, 53, 0]
def k0_off164 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2664 : Index := Scalar.indexCast v815
  let c53_1413 : Index := 53#32
  let c0_1414 : Index := 0#32
  ![v2664.toNat, 53, 0]
def k0_off165 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2670 : Index := Scalar.indexCast v826
  let c53_1415 : Index := 53#32
  let c0_1416 : Index := 0#32
  ![v2670.toNat, 53, 0]
def k0_off166 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2678 : Index := Scalar.indexCast arg13
  let c54_1420 : Index := 54#32
  let c0_1421 : Index := 0#32
  ![v2678.toNat, 54, 0]
def k0_off167 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2698 : Index := Scalar.indexCast v815
  let c54_1429 : Index := 54#32
  let c0_1430 : Index := 0#32
  ![v2698.toNat, 54, 0]
def k0_off168 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2704 : Index := Scalar.indexCast v826
  let c54_1431 : Index := 54#32
  let c0_1432 : Index := 0#32
  ![v2704.toNat, 54, 0]
def k0_off169 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2712 : Index := Scalar.indexCast arg13
  let c55_1436 : Index := 55#32
  let c0_1437 : Index := 0#32
  ![v2712.toNat, 55, 0]
def k0_off170 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2732 : Index := Scalar.indexCast v815
  let c55_1445 : Index := 55#32
  let c0_1446 : Index := 0#32
  ![v2732.toNat, 55, 0]
def k0_off171 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2738 : Index := Scalar.indexCast v826
  let c55_1447 : Index := 55#32
  let c0_1448 : Index := 0#32
  ![v2738.toNat, 55, 0]
def k0_off172 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2746 : Index := Scalar.indexCast arg13
  let c56_1452 : Index := 56#32
  let c0_1453 : Index := 0#32
  ![v2746.toNat, 56, 0]
def k0_off173 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2766 : Index := Scalar.indexCast v815
  let c56_1461 : Index := 56#32
  let c0_1462 : Index := 0#32
  ![v2766.toNat, 56, 0]
def k0_off174 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2772 : Index := Scalar.indexCast v826
  let c56_1463 : Index := 56#32
  let c0_1464 : Index := 0#32
  ![v2772.toNat, 56, 0]
def k0_off175 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2780 : Index := Scalar.indexCast arg13
  let c57_1468 : Index := 57#32
  let c0_1469 : Index := 0#32
  ![v2780.toNat, 57, 0]
def k0_off176 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2800 : Index := Scalar.indexCast v815
  let c57_1477 : Index := 57#32
  let c0_1478 : Index := 0#32
  ![v2800.toNat, 57, 0]
def k0_off177 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2806 : Index := Scalar.indexCast v826
  let c57_1479 : Index := 57#32
  let c0_1480 : Index := 0#32
  ![v2806.toNat, 57, 0]
def k0_off178 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2814 : Index := Scalar.indexCast arg13
  let c58_1484 : Index := 58#32
  let c0_1485 : Index := 0#32
  ![v2814.toNat, 58, 0]
def k0_off179 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2834 : Index := Scalar.indexCast v815
  let c58_1493 : Index := 58#32
  let c0_1494 : Index := 0#32
  ![v2834.toNat, 58, 0]
def k0_off180 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2840 : Index := Scalar.indexCast v826
  let c58_1495 : Index := 58#32
  let c0_1496 : Index := 0#32
  ![v2840.toNat, 58, 0]
def k0_off181 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2848 : Index := Scalar.indexCast arg13
  let c59_1500 : Index := 59#32
  let c0_1501 : Index := 0#32
  ![v2848.toNat, 59, 0]
def k0_off182 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2868 : Index := Scalar.indexCast v815
  let c59_1509 : Index := 59#32
  let c0_1510 : Index := 0#32
  ![v2868.toNat, 59, 0]
def k0_off183 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2874 : Index := Scalar.indexCast v826
  let c59_1511 : Index := 59#32
  let c0_1512 : Index := 0#32
  ![v2874.toNat, 59, 0]
def k0_off184 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2882 : Index := Scalar.indexCast arg13
  let c60_1516 : Index := 60#32
  let c0_1517 : Index := 0#32
  ![v2882.toNat, 60, 0]
def k0_off185 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2902 : Index := Scalar.indexCast v815
  let c60_1525 : Index := 60#32
  let c0_1526 : Index := 0#32
  ![v2902.toNat, 60, 0]
def k0_off186 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2908 : Index := Scalar.indexCast v826
  let c60_1527 : Index := 60#32
  let c0_1528 : Index := 0#32
  ![v2908.toNat, 60, 0]
def k0_off187 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2916 : Index := Scalar.indexCast arg13
  let c61_1532 : Index := 61#32
  let c0_1533 : Index := 0#32
  ![v2916.toNat, 61, 0]
def k0_off188 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2936 : Index := Scalar.indexCast v815
  let c61_1541 : Index := 61#32
  let c0_1542 : Index := 0#32
  ![v2936.toNat, 61, 0]
def k0_off189 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2942 : Index := Scalar.indexCast v826
  let c61_1543 : Index := 61#32
  let c0_1544 : Index := 0#32
  ![v2942.toNat, 61, 0]
def k0_off190 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2950 : Index := Scalar.indexCast arg13
  let c62_1548 : Index := 62#32
  let c0_1549 : Index := 0#32
  ![v2950.toNat, 62, 0]
def k0_off191 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v2970 : Index := Scalar.indexCast v815
  let c62_1557 : Index := 62#32
  let c0_1558 : Index := 0#32
  ![v2970.toNat, 62, 0]
def k0_off192 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v2976 : Index := Scalar.indexCast v826
  let c62_1559 : Index := 62#32
  let c0_1560 : Index := 0#32
  ![v2976.toNat, 62, 0]
def k0_off193 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let v2984 : Index := Scalar.indexCast arg13
  let c63_1564 : Index := 63#32
  let c0_1565 : Index := 0#32
  ![v2984.toNat, 63, 0]
def k0_off194 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_538 : BitVec 32 := 1#32
  let v814 : BitVec 32 := Scalar.addi arg13 c1_i32_538
  let c31_i32 : BitVec 32 := 31#32
  let v815 : BitVec 32 := Scalar.minsi v814 c31_i32
  let v3004 : Index := Scalar.indexCast v815
  let c63_1573 : Index := 63#32
  let c0_1574 : Index := 0#32
  ![v3004.toNat, 63, 0]
def k0_off195 (k0_t1 : Fin k0_t1_loop.trips) : Fin 3 → Nat :=
  let c0_i32_523 : BitVec 32 := 0#32
  let c1_i32 : BitVec 32 := 1#32
  let arg13 : BitVec 32 := Scf.iv c0_i32_523 c1_i32 k0_t1
  let c1_i32_539 : BitVec 32 := 1#32
  let v816 : BitVec 32 := Scalar.addi arg13 c1_i32_539
  let c2_i32 : BitVec 32 := 2#32
  let c0_i32_540 : BitVec 32 := 0#32
  let v817 : BitVec 1 := Scalar.cmpi .eq c2_i32 c0_i32_540
  let c1_i32_541 : BitVec 32 := 1#32
  let v818 : BitVec 32 := Scalar.select v817 c1_i32_541 c2_i32
  let v819 : BitVec 32 := Scalar.remsi v816 v818
  let c0_i32_543 : BitVec 32 := 0#32
  let v821 : BitVec 1 := Scalar.cmpi .slt v819 c0_i32_543
  let c0_i32_544 : BitVec 32 := 0#32
  let v822 : BitVec 1 := Scalar.cmpi .slt v818 c0_i32_544
  let v823 : BitVec 1 := Scalar.xori v821 v822
  let c0_i32_542 : BitVec 32 := 0#32
  let v820 : BitVec 1 := Scalar.cmpi .ne v819 c0_i32_542
  let v824 : BitVec 1 := Scalar.andi v823 v820
  let v825 : BitVec 32 := Scalar.addi v819 v818
  let v826 : BitVec 32 := Scalar.select v824 v825 v819
  let v3010 : Index := Scalar.indexCast v826
  let c63_1575 : Index := 63#32
  let c0_1576 : Index := 0#32
  ![v3010.toNat, 63, 0]
def k0_cond2 (i : grid0.Coords) : BitVec 1 :=
  let arg1 : BitVec 32 := BitVec.ofNat 32 (i 1).val
  let c7_i32 : BitVec 32 := 7#32
  let v783 : BitVec 1 := Scalar.cmpi .eq arg1 c7_i32
  let v784 : BitVec 32 := Scalar.extui v783
  let c0_i32_525 : BitVec 32 := 0#32
  let v785 : BitVec 1 := Scalar.cmpi .ne v784 c0_i32_525
  v785

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ScanRefIdeal.lean ====
abbrev S256x64x1024 : Shape := ⟨3, ![256, 64, 1024]⟩
abbrev S8x64x64x128 : Shape := ⟨4, ![8, 64, 64, 128]⟩
abbrev S64x64x8x128 : Shape := ⟨4, ![64, 64, 8, 128]⟩
abbrev S64x64x1024 : Shape := ⟨3, ![64, 64, 1024]⟩
abbrev S_ : Shape := ⟨0, ![]⟩
abbrev S1x64x1024 : Shape := ⟨3, ![1, 64, 1024]⟩
abbrev S64x1024 : Shape := ⟨2, ![64, 1024]⟩
abbrev S1024x64 : Shape := ⟨2, ![1024, 64]⟩
abbrev S64x1x1024 : Shape := ⟨3, ![64, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1024, .f32⟩
  | .hbm, ⟨6, _⟩ => ⟨S8x64x64x128, .f32⟩
  | .hbm, ⟨7, _⟩ => ⟨S64x64x8x128, .f32⟩
  | .hbm, ⟨8, _⟩ => ⟨S64x64x1024, .f32⟩
  | .hbm, ⟨9, _⟩ => ⟨S_, .f32⟩
  | .hbm, ⟨10, _⟩ => ⟨S256x64x1024, .f32⟩
  | .hbm, ⟨11, _⟩ => ⟨S_, .i32⟩
  | .hbm, ⟨12, _⟩ => ⟨S256x64x1024, .f32⟩
  | .hbm, ⟨13, _⟩ => ⟨S256x64x1024, .f32⟩
  | .hbm, ⟨14, _⟩ => ⟨S256x64x1024, .f32⟩
  | .hbm, ⟨15, _⟩ => ⟨S256x64x1024, .f32⟩
  | .hbm, ⟨16, _⟩ => ⟨S256x64x1024, .f32⟩
  | .hbm, ⟨17, _⟩ => ⟨S256x64x1024, .f32⟩
  | .hbm, ⟨18, _⟩ => ⟨S_, .i32⟩
  | .hbm, ⟨19, _⟩ => ⟨S64x64x1024, .f32⟩
  | .hbm, ⟨20, _⟩ => ⟨S256x64x1024, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x64x1024, .f32⟩
  | .hbm, ⟨26, _⟩ => ⟨S64x1024, .f32⟩
  | .hbm, ⟨27, _⟩ => ⟨S_, .i32⟩
  | .hbm, ⟨28, _⟩ => ⟨S_, .i32⟩
  | .hbm, ⟨29, _⟩ => ⟨S1x64x1024, .f32⟩
  | .hbm, ⟨30, _⟩ => ⟨S64x1024, .f32⟩
  | .hbm, ⟨31, _⟩ => ⟨S_, .i32⟩
  | .hbm, ⟨32, _⟩ => ⟨S_, .i32⟩
  | .hbm, ⟨33, _⟩ => ⟨S1x64x1024, .f32⟩
  | .hbm, ⟨34, _⟩ => ⟨S64x1024, .f32⟩
  | .hbm, ⟨35, _⟩ => ⟨S_, .i32⟩
  | .hbm, ⟨36, _⟩ => ⟨S_, .i32⟩
  | .hbm, ⟨37, _⟩ => ⟨S1x64x1024, .f32⟩
  | .hbm, ⟨38, _⟩ => ⟨S64x1024, .f32⟩
  | .hbm, ⟨39, _⟩ => ⟨S_, .i32⟩
  | .hbm, ⟨40, _⟩ => ⟨S_, .i32⟩
  | .hbm, ⟨41, _⟩ => ⟨S1x64x1024, .f32⟩
  | .hbm, ⟨42, _⟩ => ⟨S64x1024, .f32⟩
  | .hbm, ⟨43, _⟩ => ⟨S_, .i32⟩
  | .hbm, ⟨44, _⟩ => ⟨S_, .i32⟩
  | .hbm, ⟨45, _⟩ => ⟨S1x64x1024, .f32⟩
  | .hbm, ⟨46, _⟩ => ⟨S64x1024, .f32⟩
  | .hbm, ⟨47, _⟩ => ⟨S1024x64, .f32⟩
  | .hbm, ⟨48, _⟩ => ⟨S64x1024, .f32⟩
  | .hbm, ⟨49, _⟩ => ⟨S64x1x1024, .f32⟩
  | .hbm, ⟨50, _⟩ => ⟨S64x64x1024, .f32⟩
  | .hbm, ⟨51, _⟩ => ⟨S64x64x1024, .f32⟩
  | .hbm, ⟨52, _⟩ => ⟨S1x64x1024, .f32⟩
  | .hbm, ⟨53, _⟩ => ⟨S64x1x1024, .f32⟩
  | .hbm, ⟨54, _⟩ => ⟨S64x64x1024, .f32⟩
  | .hbm, ⟨55, _⟩ => ⟨S64x64x1024, .f32⟩
  | .hbm, ⟨56, _⟩ => ⟨S64x64x1024, .f32⟩
  | .hbm, ⟨57, _⟩ => ⟨S64x64x1024, .f32⟩
  | .hbm, ⟨58, _⟩ => ⟨S1x64x1024, .f32⟩
  | .hbm, ⟨59, _⟩ => ⟨S64x1x1024, .f32⟩
  | .hbm, ⟨60, _⟩ => ⟨S64x64x1024, .f32⟩
  | .hbm, ⟨61, _⟩ => ⟨S64x64x1024, .f32⟩
  | .hbm, ⟨62, _⟩ => ⟨S64x64x1024, .f32⟩
  | .hbm, ⟨63, _⟩ => ⟨S64x64x1024, .f32⟩
  | .hbm, ⟨64, _⟩ => ⟨S1024x64, .f32⟩
  | .hbm, ⟨65, _⟩ => ⟨S64x1024, .f32⟩
  | .hbm, ⟨66, _⟩ => ⟨S1x64x1024, .f32⟩
  | .hbm, ⟨67, _⟩ => ⟨S_, .i32⟩
  | .hbm, ⟨68, _⟩ => ⟨S_, .i32⟩
  | .hbm, ⟨69, _⟩ => ⟨S256x64x1024, .f32⟩
  | .hbm, ⟨70, _⟩ => ⟨S_, .i32⟩
  | .hbm, ⟨71, _⟩ => ⟨S_, .i32⟩
  | .hbm, ⟨72, _⟩ => ⟨S64x64x8x128, .f32⟩
  | .hbm, ⟨73, _⟩ => ⟨S8x64x64x128, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev main_v3_8 : Ref sig .tc := ⟨.hbm, 20, rfl⟩
abbrev main_while0c_c_8 : Ref sig .tc := ⟨.hbm, 21, rfl⟩
abbrev main_while0c_v6 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v6 : Ref sig .tc := ⟨.hbm, 26, rfl⟩
abbrev main_while0b_call1_c : Ref sig .tc := ⟨.hbm, 27, rfl⟩
abbrev main_while0b_call1_c_0 : Ref sig .tc := ⟨.hbm, 28, rfl⟩
abbrev main_while0b_call1_v0 : Ref sig .tc := ⟨.hbm, 29, rfl⟩
abbrev main_while0b_v7 : Ref sig .tc := ⟨.hbm, 30, rfl⟩
abbrev main_while0b_call2_c : Ref sig .tc := ⟨.hbm, 31, rfl⟩
abbrev main_while0b_call2_c_0 : Ref sig .tc := ⟨.hbm, 32, rfl⟩
abbrev main_while0b_call2_v0 : Ref sig .tc := ⟨.hbm, 33, rfl⟩
abbrev main_while0b_v8 : Ref sig .tc := ⟨.hbm, 34, rfl⟩
abbrev main_while0b_call3_c : Ref sig .tc := ⟨.hbm, 35, rfl⟩
abbrev main_while0b_call3_c_0 : Ref sig .tc := ⟨.hbm, 36, rfl⟩
abbrev main_while0b_call3_v0 : Ref sig .tc := ⟨.hbm, 37, rfl⟩
abbrev main_while0b_v9 : Ref sig .tc := ⟨.hbm, 38, rfl⟩
abbrev main_while0b_call4_c : Ref sig .tc := ⟨.hbm, 39, rfl⟩
abbrev main_while0b_call4_c_0 : Ref sig .tc := ⟨.hbm, 40, rfl⟩
abbrev main_while0b_call4_v0 : Ref sig .tc := ⟨.hbm, 41, rfl⟩
abbrev main_while0b_v10 : Ref sig .tc := ⟨.hbm, 42, rfl⟩
abbrev main_while0b_call5_c : Ref sig .tc := ⟨.hbm, 43, rfl⟩
abbrev main_while0b_call5_c_0 : Ref sig .tc := ⟨.hbm, 44, rfl⟩
abbrev main_while0b_call5_v0 : Ref sig .tc := ⟨.hbm, 45, rfl⟩
abbrev main_while0b_v11 : Ref sig .tc := ⟨.hbm, 46, rfl⟩
abbrev main_while0b_v12 : Ref sig .tc := ⟨.hbm, 47, rfl⟩
abbrev main_while0b_v13 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_call6_v0 : Ref sig .tc := ⟨.hbm, 66, rfl⟩
abbrev main_while0b_call6_c : Ref sig .tc := ⟨.hbm, 67, rfl⟩
abbrev main_while0b_call6_c_0 : Ref sig .tc := ⟨.hbm, 68, rfl⟩
abbrev main_while0b_v31 : Ref sig .tc := ⟨.hbm, 69, rfl⟩
abbrev main_while0b_c_8 : Ref sig .tc := ⟨.hbm, 70, rfl⟩
abbrev main_while0b_v32 : Ref sig .tc := ⟨.hbm, 71, rfl⟩
abbrev main_v4 : Ref sig .tc := ⟨.hbm, 72, rfl⟩
abbrev main_v5 : Ref sig .tc := ⟨.hbm, 73, rfl⟩

abbrev nD : Nat := 1
abbrev τ : Topo := Topo.v7x

variable {F : FTy → Type} [FloatOps F]

abbrev main_while0_count : Scf.Loop 32 := ⟨0#32, 256#32, 1#32⟩
-- ==== Expert.lean ====
abbrev S8192x2048 : Shape := ⟨2, ![8192, 2048]⟩
abbrev S8192x16 : Shape := ⟨2, ![8192, 16]⟩
abbrev S16x2048x5504 : Shape := ⟨3, ![16, 2048, 5504]⟩
abbrev S16x5504x2048 : Shape := ⟨3, ![16, 5504, 2048]⟩
abbrev S16x8192 : Shape := ⟨2, ![16, 8192]⟩
abbrev S16x1024 : Shape := ⟨2, ![16, 1024]⟩
abbrev S_ : Shape := ⟨0, ![]⟩
abbrev S16x1024x1 : Shape := ⟨3, ![16, 1024, 1]⟩
abbrev S16x1024x2048 : Shape := ⟨3, ![16, 1024, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1x1024x1 : Shape := ⟨3, ![1, 1024, 1]⟩
abbrev S1024x2048 : Shape := ⟨2, ![1024, 2048]⟩
abbrev S2048x256 : Shape := ⟨2, ![2048, 256]⟩
abbrev S1024x256 : Shape := ⟨2, ![1024, 256]⟩
abbrev S1x256 : Shape := ⟨2, ![1, 256]⟩
abbrev S256x1 : Shape := ⟨2, ![256, 1]⟩
abbrev S256x2048 : Shape := ⟨2, ![256, 2048]⟩
abbrev S1024x1 : Shape := ⟨2, ![1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x16, .f32⟩
  | .hbm, ⟨2, _⟩ => ⟨S16x2048x5504, .f32⟩
  | .hbm, ⟨3, _⟩ => ⟨S16x2048x5504, .f32⟩
  | .hbm, ⟨4, _⟩ => ⟨S16x5504x2048, .f32⟩
  | .hbm, ⟨5, _⟩ => ⟨S16x8192, .f32⟩
  | .hbm, ⟨6, _⟩ => ⟨S16x1024, .f32⟩
  | .hbm, ⟨7, _⟩ => ⟨S16x1024, .i32⟩
  | .hbm, ⟨8, _⟩ => ⟨S_, .i32⟩
  | .hbm, ⟨9, _⟩ => ⟨S16x1024, .i32⟩
  | .hbm, ⟨10, _⟩ => ⟨S16x1024, .i1⟩
  | .hbm, ⟨11, _⟩ => ⟨S_, .i32⟩
  | .hbm, ⟨12, _⟩ => ⟨S16x1024, .i32⟩
  | .hbm, ⟨13, _⟩ => ⟨S16x1024, .i32⟩
  | .hbm, ⟨14, _⟩ => ⟨S16x1024, .i32⟩
  | .hbm, ⟨15, _⟩ => ⟨S16x1024x1, .i32⟩
  | .hbm, ⟨16, _⟩ => ⟨S16x1024x2048, .bf16⟩
  | .hbm, ⟨17, _⟩ => ⟨S16x1024x1, .f32⟩
  | .hbm, ⟨18, _⟩ => ⟨S16x1024x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x2048, .f32⟩
  | .local _ .vmem, ⟨11, _⟩ => ⟨S1x1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_15 : BitVec 32 := 0#32
  let v36 : BitVec 1 := Scalar.cmpi .ne v35 c0_i32_15
  v36

def k0_cond2 (i : grid0.Coords) : BitVec 1 :=
  let arg1 : BitVec 32 := BitVec.ofNat 32 (i 1).val
  let c0_i32_16 : BitVec 32 := 0#32
  let v37 : BitVec 1 := Scalar.cmpi .sgt arg1 c0_i32_16
  let v38 : BitVec 32 := Scalar.extui v37
  let c0_i32_17 : BitVec 32 := 0#32
  let v39 : BitVec 1 := Scalar.cmpi .ne v38 c0_i32_17
  v39

def k0_cond3 (i : grid0.Coords) : BitVec 1 :=
  let arg1 : BitVec 32 := BitVec.ofNat 32 (i 1).val
  let c21_i32 : BitVec 32 := 21#32
  let v40 : BitVec 1 := Scalar.cmpi .eq arg1 c21_i32
  let v41 : BitVec 32 := Scalar.extui v40
  let c0_i32_18 : BitVec 32 := 0#32
  let v42 : BitVec 1 := Scalar.cmpi .ne v41 c0_i32_18
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertRefIdeal.lean ====
abbrev S8192x2048 : Shape := ⟨2, ![8192, 2048]⟩
abbrev S8192x16 : Shape := ⟨2, ![8192, 16]⟩
abbrev S16x2048x5504 : Shape := ⟨3, ![16, 2048, 5504]⟩
abbrev S16x5504x2048 : Shape := ⟨3, ![16, 5504, 2048]⟩
abbrev S16x8192 : Shape := ⟨2, ![16, 8192]⟩
abbrev S16x1024 : Shape := ⟨2, ![16, 1024]⟩
abbrev S_ : Shape := ⟨0, ![]⟩
abbrev S16x1024x1 : Shape := ⟨3, ![16, 1024, 1]⟩
abbrev S16x1024x2048 : Shape := ⟨3, ![16, 1024, 2048]⟩
abbrev S16x1024x5504 : Shape := ⟨3, ![16, 1024, 5504]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x16, .f32⟩
  | .hbm, ⟨2, _⟩ => ⟨S16x2048x5504, .f32⟩
  | .hbm, ⟨3, _⟩ => ⟨S16x2048x5504, .f32⟩
  | .hbm, ⟨4, _⟩ => ⟨S16x5504x2048, .f32⟩
  | .hbm, ⟨5, _⟩ => ⟨S8192x2048, .f32⟩
  | .hbm, ⟨6, _⟩ => ⟨S16x8192, .f32⟩
  | .hbm, ⟨7, _⟩ => ⟨S16x1024, .f32⟩
  | .hbm, ⟨8, _⟩ => ⟨S16x1024, .i32⟩
  | .hbm, ⟨9, _⟩ => ⟨S_, .i32⟩
  | .hbm, ⟨10, _⟩ => ⟨S16x1024, .i32⟩
  | .hbm, ⟨11, _⟩ => ⟨S16x1024, .i1⟩
  | .hbm, ⟨12, _⟩ => ⟨S_, .i32⟩
  | .hbm, ⟨13, _⟩ => ⟨S16x1024, .i32⟩
  | .hbm, ⟨14, _⟩ => ⟨S16x1024, .i32⟩
  | .hbm, ⟨15, _⟩ => ⟨S16x1024, .i32⟩
  | .hbm, ⟨16, _⟩ => ⟨S16x1024x1, .i32⟩
  | .hbm, ⟨17, _⟩ => ⟨S16x1024x2048, .f32⟩
  | .hbm, ⟨18, _⟩ => ⟨S16x1024x5504, .f32⟩
  | .hbm, ⟨19, _⟩ => ⟨S16x1024x5504, .f32⟩
  | .hbm, ⟨20, _⟩ => ⟨S16x1024x5504, .f32⟩
  | .hbm, ⟨21, _⟩ => ⟨S_, .f32⟩
  | .hbm, ⟨22, _⟩ => ⟨S16x1024x5504, .f32⟩
  | .hbm, ⟨23, _⟩ => ⟨S16x1024x5504, .f32⟩
  | .hbm, ⟨24, _⟩ => ⟨S_, .f32⟩
  | .hbm, ⟨25, _⟩ => ⟨S16x1024x5504, .f32⟩
  | .hbm, ⟨26, _⟩ => ⟨S16x1024x5504, .f32⟩
  | .hbm, ⟨27, _⟩ => ⟨S16x1024x5504, .f32⟩
  | .hbm, ⟨28, _⟩ => ⟨S16x1024x5504, .f32⟩
  | .hbm, ⟨29, _⟩ => ⟨S16x1024x5504, .f32⟩
  | .hbm, ⟨30, _⟩ => ⟨S16x1024x2048, .f32⟩
  | .hbm, ⟨31, _⟩ => ⟨S16x1024x1, .f32⟩
  | .hbm, ⟨32, _⟩ => ⟨S16x1024x2048, .f32⟩
  | .hbm, ⟨33, _⟩ => ⟨S16x1024x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== InProj.lean ====
abbrev S8192x2048 : Shape := ⟨2, ![8192, 2048]⟩
abbrev S5x6x2048 : Shape := ⟨3, ![5, 6, 2048]⟩
abbrev S2048 : Shape := ⟨1, ![2048]⟩
abbrev S2048x5504 : Shape := ⟨2, ![2048, 5504]⟩
abbrev S_ : Shape := ⟨0, ![]⟩
abbrev S2048x128 : Shape := ⟨2, ![2048, 128]⟩
abbrev S2048x3456 : Shape := ⟨2, ![2048, 3456]⟩
abbrev S2048x2048 : Shape := ⟨2, ![2048, 2048]⟩
abbrev S2048x5632 : Shape := ⟨2, ![2048, 5632]⟩
abbrev S1x2048 : Shape := ⟨2, ![1, 2048]⟩
abbrev S8192x5632 : Shape := ⟨2, ![8192, 5632]⟩
abbrev S1024x2048 : Shape := ⟨2, ![1024, 2048]⟩
abbrev S1x6x2048 : Shape := ⟨3, ![1, 6, 2048]⟩
abbrev S2048x512 : Shape := ⟨2, ![2048, 512]⟩
abbrev S1024x512 : Shape := ⟨2, ![1024, 512]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S5x6x2048, .f32⟩
  | .hbm, ⟨2, _⟩ => ⟨S2048, .f32⟩
  | .hbm, ⟨3, _⟩ => ⟨S2048x5504, .f32⟩
  | .hbm, ⟨4, _⟩ => ⟨S_, .f32⟩
  | .hbm, ⟨5, _⟩ => ⟨S2048x128, .f32⟩
  | .hbm, ⟨6, _⟩ => ⟨S2048x3456, .f32⟩
  | .hbm, ⟨7, _⟩ => ⟨S2048x2048, .f32⟩
  | .hbm, ⟨8, _⟩ => ⟨S2048x5632, .f32⟩
  | .hbm, ⟨9, _⟩ => ⟨S2048x5632, .bf16⟩
  | .hbm, ⟨10, _⟩ => ⟨S1x2048, .f32⟩
  | .hbm, ⟨11, _⟩ => ⟨S8192x5632, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32 : BitVec 32 := 4#32
  let v8 : BitVec 32 := Scalar.addi c0_i32_6 c4_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c256_i32 : BitVec 32 := 256#32
  let v9 : BitVec 32 := Scalar.muli arg8 c256_i32
  v9
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c256_i32 : BitVec 32 := 256#32
  let v9 : BitVec 32 := Scalar.muli arg8 c256_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x2048 : Shape := ⟨2, ![8192, 2048]⟩
abbrev S5x6x2048 : Shape := ⟨3, ![5, 6, 2048]⟩
abbrev S2048 : Shape := ⟨1, ![2048]⟩
abbrev S2048x5504 : Shape := ⟨2, ![2048, 5504]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x5504 : Shape := ⟨2, ![8192, 5504]⟩
abbrev S8192x3456 : Shape := ⟨2, ![8192, 3456]⟩
abbrev S8192x128 : Shape := ⟨2, ![8192, 128]⟩
abbrev S8192x5632 : Shape := ⟨2, ![8192, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5x6x2048, .f32⟩
  | .hbm, ⟨2, _⟩ => ⟨S2048, .f32⟩
  | .hbm, ⟨3, _⟩ => ⟨S2048x5504, .f32⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x5504, .f32⟩
  | .hbm, ⟨32, _⟩ => ⟨S8192x3456, .f32⟩
  | .hbm, ⟨33, _⟩ => ⟨S_, .f32⟩
  | .hbm, ⟨34, _⟩ => ⟨S8192x128, .f32⟩
  | .hbm, ⟨35, _⟩ => ⟨S8192x2048, .f32⟩
  | .hbm, ⟨36, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== OutProj.lean ====
abbrev S8192x1024 : Shape := ⟨2, ![8192, 1024]⟩
abbrev S2048x2048 : Shape := ⟨2, ![2048, 2048]⟩
abbrev S8192x2048 : Shape := ⟨2, ![8192, 2048]⟩
abbrev S5x6x2048 : Shape := ⟨3, ![5, 6, 2048]⟩
abbrev S1024x1024 : Shape := ⟨2, ![1024, 1024]⟩
abbrev S2048x512 : Shape := ⟨2, ![2048, 512]⟩
abbrev S1024x512 : Shape := ⟨2, ![1024, 512]⟩
abbrev S1x6x512 : Shape := ⟨3, ![1, 6, 512]⟩
abbrev S1x1x512 : Shape := ⟨3, ![1, 1, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S5x6x2048, .f32⟩
  | .hbm, ⟨5, _⟩ => ⟨S2048x2048, .bf16⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1x6x512, .f32⟩
  | .local _ .vmem, ⟨9, _⟩ => ⟨S1x6x512, .f32⟩
  | .local _ .vmem, ⟨10, _⟩ => ⟨S1024x512, .f32⟩
  | .local _ .vmem, ⟨11, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  ![v18.toNat, c0_i32_5.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x1024 : Shape := ⟨2, ![8192, 1024]⟩
abbrev S2048x2048 : Shape := ⟨2, ![2048, 2048]⟩
abbrev S8192x2048 : Shape := ⟨2, ![8192, 2048]⟩
abbrev S5x6x2048 : Shape := ⟨3, ![5, 6, 2048]⟩
abbrev S1x1x2048 : Shape := ⟨3, ![1, 1, 2048]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S5x6x2048, .f32⟩
  | .hbm, ⟨5, _⟩ => ⟨S1x1x2048, .f32⟩
  | .hbm, ⟨6, _⟩ => ⟨S1x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== FinalCtx.lean ====
abbrev S8192x2048 : Shape := ⟨2, ![8192, 2048]⟩
abbrev S16x1024x2048 : Shape := ⟨3, ![16, 1024, 2048]⟩
abbrev S16x1024 : Shape := ⟨2, ![16, 1024]⟩
abbrev S5x6x2048 : Shape := ⟨3, ![5, 6, 2048]⟩
abbrev S2048 : Shape := ⟨1, ![2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S1x2048 : Shape := ⟨2, ![1, 2048]⟩
abbrev S256x2048 : Shape := ⟨2, ![256, 2048]⟩
abbrev S1x6x2048 : Shape := ⟨3, ![1, 6, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 20
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S16x1024x2048, .f32⟩
  | .hbm, ⟨2, _⟩ => ⟨S16x1024, .i32⟩
  | .hbm, ⟨3, _⟩ => ⟨S5x6x2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S16384, .i32⟩
  | .hbm, ⟨8, _⟩ => ⟨S16384x2048, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S8192x2048, .f32⟩
  | .hbm, ⟨18, _⟩ => ⟨S1x2048, .f32⟩
  | .hbm, ⟨19, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalCtxRefIdeal.lean ====
abbrev S8192x2048 : Shape := ⟨2, ![8192, 2048]⟩
abbrev S16x1024x2048 : Shape := ⟨3, ![16, 1024, 2048]⟩
abbrev S16x1024 : Shape := ⟨2, ![16, 1024]⟩
abbrev S5x6x2048 : Shape := ⟨3, ![5, 6, 2048]⟩
abbrev S2048 : Shape := ⟨1, ![2048]⟩
abbrev S1x1x2048 : Shape := ⟨3, ![1, 1, 2048]⟩
abbrev S1x2048 : Shape := ⟨2, ![1, 2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x1024x2048, .f32⟩
  | .hbm, ⟨2, _⟩ => ⟨S16x1024, .i32⟩
  | .hbm, ⟨3, _⟩ => ⟨S5x6x2048, .f32⟩
  | .hbm, ⟨4, _⟩ => ⟨S2048, .f32⟩
  | .hbm, ⟨5, _⟩ => ⟨S1x1x2048, .f32⟩
  | .hbm, ⟨6, _⟩ => ⟨S1x2048, .f32⟩
  | .hbm, ⟨7, _⟩ => ⟨S_, .f32⟩
  | .hbm, ⟨8, _⟩ => ⟨S8192x2048, .f32⟩
  | .hbm, ⟨9, _⟩ => ⟨S16384, .i32⟩
  | .hbm, ⟨10, _⟩ => ⟨S16384x2048, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== FinalLat.lean ====
abbrev S8192x2048 : Shape := ⟨2, ![8192, 2048]⟩
abbrev S16x1024x2048 : Shape := ⟨3, ![16, 1024, 2048]⟩
abbrev S16x1024 : Shape := ⟨2, ![16, 1024]⟩
abbrev S5x6x2048 : Shape := ⟨3, ![5, 6, 2048]⟩
abbrev S2048 : Shape := ⟨1, ![2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S1x2048 : Shape := ⟨2, ![1, 2048]⟩
abbrev S256x2048 : Shape := ⟨2, ![256, 2048]⟩
abbrev S1x6x2048 : Shape := ⟨3, ![1, 6, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 20
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S16x1024x2048, .f32⟩
  | .hbm, ⟨2, _⟩ => ⟨S16x1024, .i32⟩
  | .hbm, ⟨3, _⟩ => ⟨S5x6x2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S16384, .i32⟩
  | .hbm, ⟨8, _⟩ => ⟨S16384x2048, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S8192x2048, .f32⟩
  | .hbm, ⟨18, _⟩ => ⟨S1x2048, .f32⟩
  | .hbm, ⟨19, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalLatRefIdeal.lean ====
abbrev S8192x2048 : Shape := ⟨2, ![8192, 2048]⟩
abbrev S16x1024x2048 : Shape := ⟨3, ![16, 1024, 2048]⟩
abbrev S16x1024 : Shape := ⟨2, ![16, 1024]⟩
abbrev S5x6x2048 : Shape := ⟨3, ![5, 6, 2048]⟩
abbrev S2048 : Shape := ⟨1, ![2048]⟩
abbrev S4x1x2048 : Shape := ⟨3, ![4, 1, 2048]⟩
abbrev S4x2048 : Shape := ⟨2, ![4, 2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S4x2048x2048 : Shape := ⟨3, ![4, 2048, 2048]⟩
abbrev S4x2048x1 : Shape := ⟨3, ![4, 2048, 1]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x1024x2048, .f32⟩
  | .hbm, ⟨2, _⟩ => ⟨S16x1024, .i32⟩
  | .hbm, ⟨3, _⟩ => ⟨S5x6x2048, .f32⟩
  | .hbm, ⟨4, _⟩ => ⟨S2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S_, .f32⟩
  | .hbm, ⟨9, _⟩ => ⟨S8192x2048, .f32⟩
  | .hbm, ⟨10, _⟩ => ⟨S16384, .i32⟩
  | .hbm, ⟨11, _⟩ => ⟨S16384x2048, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S8192x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ada.lean ====
abbrev S2048 : Shape := ⟨1, ![2048]⟩
abbrev S4x2048 : Shape := ⟨2, ![4, 2048]⟩
abbrev S2048x12288 : Shape := ⟨2, ![2048, 12288]⟩
abbrev S12288 : Shape := ⟨1, ![12288]⟩
abbrev S1x2048 : Shape := ⟨2, ![1, 2048]⟩
abbrev S5x2048 : Shape := ⟨2, ![5, 2048]⟩
abbrev S1x12288 : Shape := ⟨2, ![1, 12288]⟩
abbrev S5x12288 : Shape := ⟨2, ![5, 12288]⟩
abbrev S2048x1024 : Shape := ⟨2, ![2048, 1024]⟩
abbrev S1x1024 : Shape := ⟨2, ![1, 1024]⟩
abbrev S5x1024 : Shape := ⟨2, ![5, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048, .f32⟩
  | .hbm, ⟨1, _⟩ => ⟨S4x2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S5x2048, .f32⟩
  | .hbm, ⟨6, _⟩ => ⟨S1x12288, .f32⟩
  | .hbm, ⟨7, _⟩ => ⟨S5x12288, .f32⟩
  | .local _ .vmem, ⟨0, _⟩ => ⟨S5x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S5x1024, .f32⟩
  | .local _ .vmem, ⟨6, _⟩ => ⟨S5x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2048 : Shape := ⟨1, ![2048]⟩
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S1x12288 : Shape := ⟨2, ![1, 12288]⟩
abbrev S4x12288 : Shape := ⟨2, ![4, 12288]⟩
abbrev S5x12288 : Shape := ⟨2, ![5, 12288]⟩

abbrev nBuf : Space → Nat
  | .hbm => 30
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4x2048, .f32⟩
  | .hbm, ⟨2, _⟩ => ⟨S2048x12288, .f32⟩
  | .hbm, ⟨3, _⟩ => ⟨S12288, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S12288, .f32⟩
  | .hbm, ⟨14, _⟩ => ⟨S12288, .f32⟩
  | .hbm, ⟨15, _⟩ => ⟨S1x12288, .f32⟩
  | .hbm, ⟨16, _⟩ => ⟨S4x2048, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048, .f32⟩
  | .hbm, ⟨25, _⟩ => ⟨S4x12288, .f32⟩
  | .hbm, ⟨26, _⟩ => ⟨S1x12288, .f32⟩
  | .hbm, ⟨27, _⟩ => ⟨S4x12288, .f32⟩
  | .hbm, ⟨28, _⟩ => ⟨S4x12288, .f32⟩
  | .hbm, ⟨29, _⟩ => ⟨S5x12288, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Router.lean ====
abbrev S8192x2048 : Shape := ⟨2, ![8192, 2048]⟩
abbrev S5x6x2048 : Shape := ⟨3, ![5, 6, 2048]⟩
abbrev S2048 : Shape := ⟨1, ![2048]⟩
abbrev S2048x16 : Shape := ⟨2, ![2048, 16]⟩
abbrev S1x2048 : Shape := ⟨2, ![1, 2048]⟩
abbrev S8192x16 : Shape := ⟨2, ![8192, 16]⟩
abbrev S256x2048 : Shape := ⟨2, ![256, 2048]⟩
abbrev S1x6x2048 : Shape := ⟨3, ![1, 6, 2048]⟩
abbrev S256x16 : Shape := ⟨2, ![256, 16]⟩
abbrev S1x1x2048 : Shape := ⟨3, ![1, 1, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S5x6x2048, .f32⟩
  | .hbm, ⟨2, _⟩ => ⟨S2048, .f32⟩
  | .hbm, ⟨3, _⟩ => ⟨S2048x16, .f32⟩
  | .hbm, ⟨4, _⟩ => ⟨S1x2048, .f32⟩
  | .hbm, ⟨5, _⟩ => ⟨S8192x2048, .bf16⟩
  | .hbm, ⟨6, _⟩ => ⟨S8192x16, .f32⟩
  | .local _ .vmem, ⟨0, _⟩ => ⟨S256x2048, .f32⟩
  | .local _ .vmem, ⟨1, _⟩ => ⟨S256x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x16, .f32⟩
  | .local _ .vmem, ⟨6, _⟩ => ⟨S256x2048, .bf16⟩
  | .local _ .vmem, ⟨7, _⟩ => ⟨S256x2048, .bf16⟩
  | .local _ .vmem, ⟨8, _⟩ => ⟨S256x16, .f32⟩
  | .local _ .vmem, ⟨9, _⟩ => ⟨S256x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouterRefIdeal.lean ====
abbrev S8192x2048 : Shape := ⟨2, ![8192, 2048]⟩
abbrev S5x6x2048 : Shape := ⟨3, ![5, 6, 2048]⟩
abbrev S2048 : Shape := ⟨1, ![2048]⟩
abbrev S2048x16 : Shape := ⟨2, ![2048, 16]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x16 : Shape := ⟨2, ![8192, 16]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5x6x2048, .f32⟩
  | .hbm, ⟨2, _⟩ => ⟨S2048, .f32⟩
  | .hbm, ⟨3, _⟩ => ⟨S2048x16, .f32⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S8192x16, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x16, .f32⟩
  | .hbm, ⟨46, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Post.lean ====
abbrev S32x256x1024 : Shape := ⟨3, ![32, 256, 1024]⟩
abbrev S32x256x5632 : Shape := ⟨3, ![32, 256, 5632]⟩
abbrev S1024 : Shape := ⟨1, ![1024]⟩
abbrev S1x1024 : Shape := ⟨2, ![1, 1024]⟩
abbrev S1x256x128 : Shape := ⟨3, ![1, 256, 128]⟩
abbrev S1x128 : Shape := ⟨2, ![1, 128]⟩
abbrev S128x128 : Shape := ⟨2, ![128, 128]⟩
abbrev S256x128 : Shape := ⟨2, ![256, 128]⟩

abbrev nBuf : Space → Nat
  | .hbm => 8
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x256x5632, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32x256x1024, .bf16⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg2
  let c0_i32 : BitVec 32 := 0#32
  ![arg0.toNat, arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== PostRefIdeal.lean ====
abbrev S32x256x1024 : Shape := ⟨3, ![32, 256, 1024]⟩
abbrev S32x256x5632 : Shape := ⟨3, ![32, 256, 5632]⟩
abbrev S1024 : Shape := ⟨1, ![1024]⟩
abbrev S32x256x16x64 : Shape := ⟨4, ![32, 256, 16, 64]⟩
abbrev S_ : Shape := ⟨0, ![]⟩
abbrev S32x256x16 : Shape := ⟨3, ![32, 256, 16]⟩
abbrev S32x256x16x1 : Shape := ⟨4, ![32, 256, 16, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x256x5632, .f32⟩
  | .hbm, ⟨3, _⟩ => ⟨S1024, .f32⟩
  | .hbm, ⟨4, _⟩ => ⟨S1024, .f32⟩
  | .hbm, ⟨5, _⟩ => ⟨S32x256x1024, .f32⟩
  | .hbm, ⟨6, _⟩ => ⟨S32x256x16x64, .f32⟩
  | .hbm, ⟨7, _⟩ => ⟨S_, .f32⟩
  | .hbm, ⟨8, _⟩ => ⟨S32x256x16, .f32⟩
  | .hbm, ⟨9, _⟩ => ⟨S32x256x16x1, .f32⟩
  | .hbm, ⟨10, _⟩ => ⟨S_, .f32⟩
  | .hbm, ⟨11, _⟩ => ⟨S32x256x16x1, .f32⟩
  | .hbm, ⟨12, _⟩ => ⟨S32x256x16x1, .f32⟩
  | .hbm, ⟨13, _⟩ => ⟨S32x256x16x64, .f32⟩
  | .hbm, ⟨14, _⟩ => ⟨S32x256x16x64, .f32⟩
  | .hbm, ⟨15, _⟩ => ⟨S32x256x16x64, .f32⟩
  | .hbm, ⟨16, _⟩ => ⟨S_, .f32⟩
  | .hbm, ⟨17, _⟩ => ⟨S32x256x16, .f32⟩
  | .hbm, ⟨18, _⟩ => ⟨S32x256x16x1, .f32⟩
  | .hbm, ⟨19, _⟩ => ⟨S_, .f32⟩
  | .hbm, ⟨20, _⟩ => ⟨S32x256x16x1, .f32⟩
  | .hbm, ⟨21, _⟩ => ⟨S32x256x16x1, .f32⟩
  | .hbm, ⟨22, _⟩ => ⟨S32x256x16x64, .f32⟩
  | .hbm, ⟨23, _⟩ => ⟨S32x256x16x64, .f32⟩
  | .hbm, ⟨24, _⟩ => ⟨S_, .f32⟩
  | .hbm, ⟨25, _⟩ => ⟨S32x256x16x1, .f32⟩
  | .hbm, ⟨26, _⟩ => ⟨S32x256x16x1, .f32⟩
  | .hbm, ⟨27, _⟩ => ⟨S32x256x16x1, .f32⟩
  | .hbm, ⟨28, _⟩ => ⟨S32x256x16x64, .f32⟩
  | .hbm, ⟨29, _⟩ => ⟨S32x256x16x64, .f32⟩
  | .hbm, ⟨30, _⟩ => ⟨S32x256x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S32x256x1024, .f32⟩
  | .hbm, ⟨40, _⟩ => ⟨S_, .f32⟩
  | .hbm, ⟨41, _⟩ => ⟨S32x256x1024, .f32⟩
  | .hbm, ⟨42, _⟩ => ⟨S32x256x1024, .f32⟩
  | .hbm, ⟨43, _⟩ => ⟨S_, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S32x256x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Fnet.lean ====
abbrev S32x256x5632 : Shape := ⟨3, ![32, 256, 5632]⟩
abbrev S256x256 : Shape := ⟨2, ![256, 256]⟩
abbrev S_ : Shape := ⟨0, ![]⟩
abbrev S256x512 : Shape := ⟨2, ![256, 512]⟩
abbrev S32x256x1024 : Shape := ⟨3, ![32, 256, 1024]⟩
abbrev S1x256x256 : Shape := ⟨3, ![1, 256, 256]⟩
abbrev S512x256 : Shape := ⟨2, ![512, 256]⟩

abbrev nBuf : Space → Nat
  | .hbm => 69
  | .vmem => 7
  | .smem => 0
  | _ => 0

abbrev bufTy : (tb : Table) → Fin (tcTables nBuf tb) → BufTy
  | .hbm, ⟨0, _⟩ => ⟨S32x256x5632, .f32⟩
  | .hbm, ⟨1, _⟩ => ⟨S256x256, .i32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S_, .i1⟩
  | .hbm, ⟨20, _⟩ => ⟨S256x256, .i1⟩
  | .hbm, ⟨21, _⟩ => ⟨S256x256, .i1⟩
  | .hbm, ⟨22, _⟩ => ⟨S256x256, .i1⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S256x256, .i32⟩
  | .hbm, ⟨42, _⟩ => ⟨S256x256, .i32⟩
  | .hbm, ⟨43, _⟩ => ⟨S_, .i32⟩
  | .hbm, ⟨44, _⟩ => ⟨S256x256, .i32⟩
  | .hbm, ⟨45, _⟩ => ⟨S256x256, .i1⟩
  | .hbm, ⟨46, _⟩ => ⟨S_, .i32⟩
  | .hbm, ⟨47, _⟩ => ⟨S256x256, .i32⟩
  | .hbm, ⟨48, _⟩ => ⟨S256x256, .i1⟩
  | .hbm, ⟨49, _⟩ => ⟨S_, .i32⟩
  | .hbm, ⟨50, _⟩ => ⟨S_, .i1⟩
  | .hbm, ⟨51, _⟩ => ⟨S256x256, .i1⟩
  | .hbm, ⟨52, _⟩ => ⟨S256x256, .i1⟩
  | .hbm, ⟨53, _⟩ => ⟨S256x256, .i1⟩
  | .hbm, ⟨54, _⟩ => ⟨S256x256, .i32⟩
  | .hbm, ⟨55, _⟩ => ⟨S256x256, .i32⟩
  | .hbm, ⟨56, _⟩ => ⟨S256x256, .i32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x512, .f32⟩
  | .hbm, ⟨64, _⟩ => ⟨S256x512, .bf16⟩
  | .hbm, ⟨65, _⟩ => ⟨S256x256, .f32⟩
  | .hbm, ⟨66, _⟩ => ⟨S256x512, .f32⟩
  | .hbm, ⟨67, _⟩ => ⟨S256x512, .bf16⟩
  | .hbm, ⟨68, _⟩ => ⟨S32x256x1024, .bf16⟩
  | .local _ .vmem, ⟨0, _⟩ => ⟨S1x256x256, .f32⟩
  | .local _ .vmem, ⟨1, _⟩ => ⟨S1x256x256, .f32⟩
  | .local _ .vmem, ⟨2, _⟩ => ⟨S256x512, .bf16⟩
  | .local _ .vmem, ⟨3, _⟩ => ⟨S256x512, .bf16⟩
  | .local _ .vmem, ⟨4, _⟩ => ⟨S1x256x256, .bf16⟩
  | .local _ .vmem, ⟨5, _⟩ => ⟨S1x256x256, .bf16⟩
  | .local _ .vmem, ⟨6, _⟩ => ⟨S512x256, .bf16⟩
  | _, _ => ⟨S32x256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v12 : Ref sig .tc := ⟨.hbm, 56, rfl⟩
abbrev main_v13 : Ref sig .tc := ⟨.hbm, 57, rfl⟩
abbrev main_cst_1 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FnetRefIdeal.lean ====
abbrev S32x256x5632 : Shape := ⟨3, ![32, 256, 5632]⟩
abbrev S32x256x1024 : Shape := ⟨3, ![32, 256, 1024]⟩
abbrev S32x256x4x256 : Shape := ⟨4, ![32, 256, 4, 256]⟩
abbrev S32x4x256x256 : Shape := ⟨4, ![32, 4, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S32x256x5632, .f32⟩
  | .hbm, ⟨1, _⟩ => ⟨S32x256x1024, .f32⟩
  | .hbm, ⟨2, _⟩ => ⟨S32x256x4x256, .f32⟩
  | .hbm, ⟨3, _⟩ => ⟨S32x4x256x256, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S_, .i32⟩
  | .hbm, ⟨25, _⟩ => ⟨S_, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S32x4x256x256, .f32⟩
  | .hbm, ⟨39, _⟩ => ⟨S32x4x256x256, .f32⟩
  | .hbm, ⟨40, _⟩ => ⟨S32x4x256x256, .f32⟩
  | .hbm, ⟨41, _⟩ => ⟨S256x256, .f32⟩
  | .hbm, ⟨42, _⟩ => ⟨S32x4x256x256, .f32⟩
  | .hbm, ⟨43, _⟩ => ⟨S32x4x256x256, .f32⟩
  | .hbm, ⟨44, _⟩ => ⟨S32x4x256x256, .f32⟩
  | .hbm, ⟨45, _⟩ => ⟨S32x4x256x256, .f32⟩
  | .hbm, ⟨46, _⟩ => ⟨S_, .f32⟩
  | .hbm, ⟨47, _⟩ => ⟨S32x4x256x256, .f32⟩
  | .hbm, ⟨48, _⟩ => ⟨S32x4x256x256, .f32⟩
  | .hbm, ⟨49, _⟩ => ⟨S32x256x4x256, .f32⟩
  | .hbm, ⟨50, _⟩ => ⟨S32x256x1024, .f32⟩
  | .hbm, ⟨51, _⟩ => ⟨S32x256x1024, .bf16⟩
  | _, _ => ⟨S32x256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Proof.Rects.lean ====
/-
  Whole-buffer loads and stores at literal sizes, for buffers of rank three and four.
-/
module

public import Idealize.ShloMosaic.Lib.VecWindow
public import Idealize.ShloMosaic.Lib.Tactic

@[expose] public section

namespace Cert.Rects

open Idealize.ShloMosaic

variable {sig : RefSig} {κ : Kind} {sp : Space} {e : EltTy} {Val : EltTy → Type}

/-- A load of all of a rank-three buffer reads what the view reads. -/
theorem load3 {a b c : ℕ} (v : View sig κ sp (⟨3, ![a, b, c]⟩ : Shape) e) (f : v.ty.Contents Val) {off : Fin 3 → ℕ}
    (inb : ∀ x : Fin 3, off x + (![a, b, c] : Fin 3 → ℕ) x ≤ (![a, b, c] : Fin 3 → ℕ) x) :
    v.readAt Val (Rect.unit (s := ⟨3, ![a, b, c]⟩) off ![a, b, c] inb).toLoadRect f = v.read Val f :=
  View.readAt_full v f inb

/-- A store over all of a rank-three buffer leaves its payload. -/
theorem store3 {a b c : ℕ} (v : View sig κ sp (⟨3, ![a, b, c]⟩ : Shape) e) (f : v.ty.Contents Val) {off : Fin 3 → ℕ}
    (inb : ∀ x : Fin 3, off x + (![a, b, c] : Fin 3 → ℕ) x ≤ (![a, b, c] : Fin 3 → ℕ) x)
    (w : (Rect.unit (s := ⟨3, ![a, b, c]⟩) off ![a, b, c] inb).shape.Idx → Val e) (L : List (View.Piece Val (⟨3, ![a, b, c]⟩ : Shape) e)) :
    v.read Val (v.writes Val f (⟨Rect.unit (s := ⟨3, ![a, b, c]⟩) off ![a, b, c] inb, w⟩ :: L)) = w :=
  View.read_writes_full v f inb w L

/-- A load of all of it after such a store reads the payload. -/
theorem reload3 [∀ e, Nonempty (Val e)] {a b c : ℕ} (v : View sig κ sp (⟨3, ![a, b, c]⟩ : Shape) e) {off off' : Fin 3 → ℕ}
    (inb : ∀ x : Fin 3, off x + (![a, b, c] : Fin 3 → ℕ) x ≤ (![a, b, c] : Fin 3 → ℕ) x)
    (inb' : ∀ x : Fin 3, off' x + (![a, b, c] : Fin 3 → ℕ) x ≤ (![a, b, c] : Fin 3 → ℕ) x)
    (w : (Rect.unit (s := ⟨3, ![a, b, c]⟩) off' ![a, b, c] inb').shape.Idx → Val e) (L : List (View.Piece Val (⟨3, ![a, b, c]⟩ : Shape) e)) :
    v.readCov (⟨Rect.unit (s := ⟨3, ![a, b, c]⟩) off' ![a, b, c] inb', w⟩ :: L)
      (Rect.unit (s := ⟨3, ![a, b, c]⟩) off ![a, b, c] inb).toLoadRect = w :=
  View.readCov_full v inb inb' w L

end Cert.Rects
-- ==== Proof.ExpertIdealBody.lean ====
/-
  The expert kernel's body, run once: what the six staging buffers hold after a grid point, for any float values.
-/
module

public import proofs.«01_k».proof.Proof.Gen.ExpertIdeal.Frame
public import proofs.«01_k».proof.Proof.Gen.ExpertIdeal.Skeleton
public import Idealize.ShloMosaic.Lib.Tactic
public import proofs.«01_k».proof.Proof.Rects

@[expose] public section

set_option maxRecDepth 16384

noncomputable section

namespace Cert.ExpertIdeal.Body

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The output buffer after the first conditional: the point's product, where the inner dimension starts. -/
def put1 (i : grid0.Coords) (p : FVec F S1024x2048 .f32) (y : Vec F S1x1024x2048 .f32) : Vec F S1x1024x2048 .f32 :=
  if k0_cond1 i = 1#1 then k0_pay1 p else y
/-- After the second: the product added onto what the buffer holds, at the later points. -/
def put2 (i : grid0.Coords) (p : FVec F S1024x2048 .f32) (y : Vec F S1x1024x2048 .f32) : Vec F S1x1024x2048 .f32 :=
  if k0_cond2 i = 1#1 then k0_pay2 p y else y
/-- After the third: the sum scaled by the gates, at the last point of an expert. -/
def put3 (i : grid0.Coords) (g : Vec F S1x1024x1 .f32) (y : Vec F S1x1024x2048 .f32) : Vec F S1x1024x2048 .f32 :=
  if k0_cond3 i = 1#1 then k0_pay3 y g else y
/-- The output buffer after the body, from what the buffers hold before it. -/
def put (i : grid0.Coords) (x0 : Vec F S1x1024x2048 .bf16) (x1 x2 : Vec F S1x2048x256 .f32) (x3 : Vec F S1x256x2048 .f32)
    (x4 : Vec F S1x1024x1 .f32) (y : Vec F S1x1024x2048 .f32) : Vec F S1x1024x2048 .f32 :=
  put3 i x4 (put2 i (k0_pay4 i x0 x1 x2 x3) (put1 i (k0_pay4 i x0 x1 x2 x3) y))

set_option maxHeartbeats 1000000 in
theorem sound_kernel (c : Dev nD) (E : Set ℕ) (i : grid0.Coords)
    (arg2 : Memref sig .tc .vmem S1x1024x2048 .bf16) (harg2 : arg2.IsWhole)
    (arg3 : Memref sig .tc .vmem S1x2048x256 .f32) (harg3 : arg3.IsWhole)
    (arg4 : Memref sig .tc .vmem S1x2048x256 .f32) (harg4 : arg4.IsWhole)
    (arg5 : Memref sig .tc .vmem S1x256x2048 .f32) (harg5 : arg5.IsWhole)
    (arg6 : Memref sig .tc .vmem S1x1024x1 .f32) (harg6 : arg6.IsWhole)
    (arg7 : Memref sig .tc .vmem S1x1024x2048 .f32) (harg7 : arg7.IsWhole)
    (x0 : Vec F S1x1024x2048 .bf16) (x1 x2 : Vec F S1x2048x256 .f32) (x3 : Vec F S1x256x2048 .f32)
    (x4 : Vec F S1x1024x1 .f32) (y : Vec F S1x1024x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare y
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (put i x0 x1 x2 x3 x4 y)) -∗ K ⟨⟩))
      ⊢ wp frame (wpE (defs₀ (F := F)) Variants.none c none) E
          (cc0_expert_ffn i arg2 harg2 arg3 harg3 arg4 harg4 arg5 harg5 arg6 harg6 arg7 harg7) K := by
  simp only [cc0_expert_ffn_eq_skeleton]; unfold cc0_expert_ffn_skel
  simp only [k0_part1_eq_skeleton]; unfold k0_part1_skel
  unfold put put1 put2 put3
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  by_cases h1 : k0_cond1 i = 1#1 <;> by_cases h2 : k0_cond2 i = 1#1 <;> by_cases h3 : k0_cond3 i = 1#1
  all_goals
    simp only [h1, h2, h3, if_true, if_false]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    simp only [Rects.store3, Rects.load3, Rects.reload3]
    repeat (first | delta sound_kernel.sl.v43_1 | delta sound_kernel.sl.v43_2 | delta sound_kernel.sl.v43_3 | delta sound_kernel.sl.v43_4
                  | delta sound_kernel.sl.v43 | delta sound_kernel.sl.H5_2 | delta sound_kernel.sl.H5_1 | delta sound_kernel.sl.H5_1_1
                  | delta sound_kernel.sl.H5_1_2 | delta sound_kernel.sl.H5_1_3)
    try simp only [Rects.store3, Rects.load3, Rects.reload3]

/-! ## The frame: every buffer's contents left unnamed -/

variable (m : (ℓ : Loc nD τ sig) → Buf (Elt F) ℓ) (ρ : Dev nD → PrngReg)

/-- Proof data that names the arrays and nothing of what the staging buffers hold. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem body_obligation (c : Dev nD) : (rdat m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply (sound_kernel c Set.univ (grid0.coords t) _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexists _; isplitr; swap; · iexact H0
                  ipureintro; trivial
  isplitl [H1]; · iexists _; isplitr; swap; · iexact H1
                  ipureintro; trivial
  isplitl [H2]; · iexists _; isplitr; swap; · iexact H2
                  ipureintro; trivial
  isplitl [H3]; · iexists _; isplitr; swap; · iexact H3
                  ipureintro; trivial
  isplitl [H4]; · iexists _; isplitr; swap; · iexact H4
                  ipureintro; trivial
  iexists _; isplitr; swap; · iexact H5
  ipureintro; trivial

/-- The argument arrays end as they were and every counter ends at zero. -/
abbrev Kept (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0

/-- What a final state of the launch keeps, whatever the proof data say of the staging buffers. -/
theorem kept_of (rd : (c : Dev nD) → RDat τ (Elt F) Unit ℕ (UR sig nD τ) ℕ cfg0 c)
    (hA : ∀ c w, (rd c).A w = V m c (Pipeline.arrRef spec0 w)) (r : PUnit × MemSt nD τ sig (Elt F))
    (h : RDat.FramePost cfg0 rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hin : ∀ w, (cfg0.win w).isOut = false → r.2.mem ((cfg0.spec w).arr.view.loc (c.tc : Thread nD τ)) = V m c (Pipeline.arrRef spec0 w) :=
    fun w hw => by
      have h1 := (h c).1 w
      rw [RDat.ArrAt_in (rd c) w hw] at h1
      exact h1.trans (hA c w)
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (hin 1 rfl).trans (V_main_arg2 m c), (hin 2 rfl).trans (V_main_arg3 m c), (hin 3 rfl).trans (V_main_arg4 m c)⟩

set_option backward.isDefEq.respectTransparency.types false in
/-- The frame: the run ends with the arguments unchanged and the counters at zero. -/
theorem run_kept : θ_run defs (onTc (τ := τ) (main (F := F))) (s₀ m ρ) (Kept m) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)
    (Q' := Kept m) (hQ' := fun r h => ⟨kept_of m (rdat m) (fun _ _ => rfl) r h.1, h.2⟩)

end Cert.ExpertIdeal.Body
end
-- ==== Proof.ExpertValue.lean ====
/-
  The expert kernel at the ideal floats: what it leaves in its result.

  A grid point (expert `t / 22`, block `t % 22` of the inner dimension) computes the part of the product its block of the
  inner dimension gives; the output buffer collects the parts over the 22 points of an expert and is scaled by the gates
  at the last. The blocks of the weights overhang the arrays at an expert's last point: the lanes past the inner
  dimension are masked, so what the buffers hold there does not enter.
-/
module

public import proofs.«01_k».proof.Proof.ExpertIdealBody
public import Idealize.ShloMosaic.Lib.Pipeline.ValueKit

@[expose] public section

set_option maxRecDepth 16384

noncomputable section

namespace Cert.ExpertIdeal.Value

open Cert.ExpertIdeal Cert.ExpertIdeal.Gen Cert.ExpertIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-! ## The grid -/

theorem idx : ∀ t : Fin cfg0.N, win0_0.index t = ![t.val / 22, 0, 0] ∧ win0_1.index t = ![t.val / 22, 0, t.val % 22]
   ∧ win0_2.index t = ![t.val / 22, 0, t.val % 22] ∧ win0_3.index t = ![t.val / 22, t.val % 22, 0]
   ∧ win0_4.index t = ![t.val / 22, 0, 0] ∧ win0_5.index t = ![t.val / 22, 0, 0] ∧ t.val / 22 < 16
   ∧ (grid0.coords t 1).val = t.val % 22 :=
  (by decide +kernel : ∀ t : Fin grid0.N, _)

/-- Where the body starts an expert's sum, continues it, and scales it. -/
theorem conds : ∀ t : Fin cfg0.N, (k0_cond1 (grid0.coords t) = 1#1 ↔ t.val % 22 = 0)
   ∧ (k0_cond2 (grid0.coords t) = 1#1 ↔ ¬ t.val % 22 = 0) ∧ (k0_cond3 (grid0.coords t) = 1#1 ↔ t.val % 22 = 21) :=
  (by decide +kernel : ∀ t : Fin grid0.N, _)

/-- How much of a weight's block lies inside its array. -/
theorem sizes : ∀ t : Fin cfg0.N,
    (win0_1.xsize (grid0.coords t) 0 = 1 ∧ win0_1.xsize (grid0.coords t) 1 = 2048
      ∧ win0_1.xsize (grid0.coords t) 2 = min 256 (5504 - t.val % 22 * 256))
    ∧ (win0_2.xsize (grid0.coords t) 0 = 1 ∧ win0_2.xsize (grid0.coords t) 1 = 2048
      ∧ win0_2.xsize (grid0.coords t) 2 = min 256 (5504 - t.val % 22 * 256))
    ∧ (win0_3.xsize (grid0.coords t) 0 = 1 ∧ win0_3.xsize (grid0.coords t) 1 = min 256 (5504 - t.val % 22 * 256)
      ∧ win0_3.xsize (grid0.coords t) 2 = 2048) :=
  (by decide +kernel : ∀ t : Fin grid0.N, _)

/-- The kernel's mask: a lane of an inner block counts if it lies inside the inner dimension. -/
theorem lane : ∀ (f : Fin 22) (k : Fin 256),
    IntOp.cmpi CmpIPredicate.slt (BitVec.ofNat 32 k.val) (Scalar.subi (5504#32) (Scalar.muli (BitVec.ofNat 32 f.val) 256#32))
      = if f.val * 256 + k.val < 5504 then 1#1 else 0#1 := by
  decide +kernel

/-! ## The weights' blocks, inside the arrays -/

/-- A first weight's buffer, its block filled out with `d`. -/
abbrev b1 (c : Dev nD) (t : Fin cfg0.N) (d : S1x2048x256.Idx → EReal) : S1x2048x256.Idx → EReal :=
  win0_1.fill (grid0.coords t) d (iblk m c 1 t)
/-- A third weight's likewise, -/
abbrev b2 (c : Dev nD) (t : Fin cfg0.N) (d : S1x2048x256.Idx → EReal) : S1x2048x256.Idx → EReal :=
  win0_2.fill (grid0.coords t) d (iblk m c 2 t)
/-- and a second weight's. -/
abbrev b3 (c : Dev nD) (t : Fin cfg0.N) (d : S1x256x2048.Idx → EReal) : S1x256x2048.Idx → EReal :=
  win0_3.fill (grid0.coords t) d (iblk m c 3 t)

section blocks
variable (c : Dev nD) (t : Fin cfg0.N) (k : Fin 256) (hk : t.val % 22 * 256 + k.val < 5504) (he : t.val / 22 < 16)

theorem b1_at (d : S1x2048x256.Idx → EReal) (a : Fin 2048) :
    b1 m c t d (ix3 0 a k) = m ((c.tc : Thread nD τ).loc main_arg2) (ix3 ⟨t.val / 22, he⟩ a ⟨t.val % 22 * 256 + k.val, hk⟩) := by
  have hm : win0_1.moved (grid0.coords t) (ix3 0 a k) = true := by
    refine (win0_1.moved_iff _ _).mpr fun b => ?_
    obtain ⟨⟨h0, h1, h2⟩, -, -⟩ := sizes t
    fin_cases b
    · exact lt_of_lt_of_eq Nat.zero_lt_one h0.symm
    · exact lt_of_lt_of_eq a.isLt h1.symm
    · exact lt_of_lt_of_eq (by have := k.isLt; show k.val < _; omega) h2.symm
  unfold b1 Pipeline.Window.fill
  rw [dif_pos hm]
  blk_point [iblk, V_main_arg2, idx t]

theorem b2_at (d : S1x2048x256.Idx → EReal) (a : Fin 2048) :
    b2 m c t d (ix3 0 a k) = m ((c.tc : Thread nD τ).loc main_arg3) (ix3 ⟨t.val / 22, he⟩ a ⟨t.val % 22 * 256 + k.val, hk⟩) := by
  have hm : win0_2.moved (grid0.coords t) (ix3 0 a k) = true := by
    refine (win0_2.moved_iff _ _).mpr fun b => ?_
    obtain ⟨-, ⟨h0, h1, h2⟩, -⟩ := sizes t
    fin_cases b
    · exact lt_of_lt_of_eq Nat.zero_lt_one h0.symm
    · exact lt_of_lt_of_eq a.isLt h1.symm
    · exact lt_of_lt_of_eq (by have := k.isLt; show k.val < _; omega) h2.symm
  unfold b2 Pipeline.Window.fill
  rw [dif_pos hm]
  blk_point [iblk, V_main_arg3, idx t]

theorem b3_at (d : S1x256x2048.Idx → EReal) (j : Fin 2048) :
    b3 m c t d (ix3 0 k j) = m ((c.tc : Thread nD τ).loc main_arg4) (ix3 ⟨t.val / 22, he⟩ ⟨t.val % 22 * 256 + k.val, hk⟩ j) := by
  have hm : win0_3.moved (grid0.coords t) (ix3 0 k j) = true := by
    refine (win0_3.moved_iff _ _).mpr fun b => ?_
    obtain ⟨-, -, h0, h1, h2⟩ := sizes t
    fin_cases b
    · exact lt_of_lt_of_eq Nat.zero_lt_one h0.symm
    · exact lt_of_lt_of_eq (by have := k.isLt; show k.val < _; omega) h1.symm
    · exact lt_of_lt_of_eq j.isLt h2.symm
  unfold b3 Pipeline.Window.fill
  rw [dif_pos hm]
  blk_point [iblk, V_main_arg4, idx t]

theorem b0_at (r : Fin 1024) (a : Fin 2048) :
    iblk m c 0 t (ix3 0 r a) = V m c main_v7 (ix3 ⟨t.val / 22, he⟩ r a) := by
  blk_point [iblk, idx t]

end blocks

/-! ## One point's product -/

/-- A row of the expert's tokens against a column of a first (third) weight. -/
def proj (x : S16x1024x2048.Idx → EReal) (w : S16x2048x5504.Idx → EReal) (e : Fin 16) (r : Fin 1024) (l : Fin 5504) : EReal :=
  ∑ a : Fin 2048, x (ix3 e r a) * w (ix3 e a l)

/-- One term of the sum over the inner dimension; zero past it. -/
def term (x : S16x1024x2048.Idx → EReal) (w1 w3 : S16x2048x5504.Idx → EReal) (w2 : S16x5504x2048.Idx → EReal)
    (e : Fin 16) (r : Fin 1024) (j : Fin 2048) (l : ℕ) : EReal :=
  if h : l < 5504 then
    ((proj x w1 e r ⟨l, h⟩ * Ideal.logistic (proj x w1 e r ⟨l, h⟩)) * proj x w3 e r ⟨l, h⟩) * w2 (ix3 e ⟨l, h⟩ j)
  else 0

/-- `term` of the kernel's arrays. -/
abbrev kterm (c : Dev nD) : Fin 16 → Fin 1024 → Fin 2048 → ℕ → EReal :=
  term (V m c main_v7) (m ((c.tc : Thread nD τ).loc main_arg2)) (m ((c.tc : Thread nD τ).loc main_arg3))
    (m ((c.tc : Thread nD τ).loc main_arg4))

theorem pay4_at (i : grid0.Coords) (x0 : Vec Ideal S1x1024x2048 .bf16) (x1 x2 : Vec Ideal S1x2048x256 .f32)
    (x3 : Vec Ideal S1x256x2048 .f32) (r : Fin 1024) (j : Fin 2048) :
    k0_pay4 (F := Ideal) i x0 x1 x2 x3 (ix2 r j)
      = ∑ k : Fin 256, if (i 1).val * 256 + k.val < 5504 then
          (((∑ a : Fin 2048, x0 (ix3 0 r a) * x1 (ix3 0 a k)) * Ideal.logistic (∑ a : Fin 2048, x0 (ix3 0 r a) * x1 (ix3 0 a k)) *
              ∑ a : Fin 2048, x0 (ix3 0 r a) * x2 (ix3 0 a k)) * x3 (ix3 0 k j)) else 0 := by
  pointwise [k0_pay4]
  refine Fin.sum_fin_congr fun k => ?_
  rw [lane (i 1) k]
  by_cases h : (i 1).val * 256 + k.val < 5504
  · rw [if_pos h, if_pos h]; rfl
  · rw [if_neg h, if_neg h]; rfl

/-- A point's product, the same whatever fills the weights' buffers past the arrays. -/
theorem pay4_blk (c : Dev nD) (t : Fin cfg0.N) (d1 d2 : S1x2048x256.Idx → EReal) (d3 : S1x256x2048.Idx → EReal)
    (r : Fin 1024) (j : Fin 2048) (he : t.val / 22 < 16) :
    k0_pay4 (F := Ideal) (grid0.coords t) (iblk m c 0 t) (b1 m c t d1) (b2 m c t d2) (b3 m c t d3) (ix2 r j)
      = ∑ k : Fin 256, kterm m c ⟨t.val / 22, he⟩ r j (t.val % 22 * 256 + k.val) := by
  rw [pay4_at]
  refine Fin.sum_fin_congr fun k => ?_
  rw [(idx t).2.2.2.2.2.2.2]
  unfold kterm term proj
  by_cases hk : t.val % 22 * 256 + k.val < 5504
  · rw [if_pos hk, dif_pos hk]
    simp only [b0_at m c t he, b1_at m c t k hk he, b2_at m c t k hk he, b3_at m c t k hk he]
  · rw [if_neg hk, dif_neg hk]

/-- The product with the buffers filled out with zeros: the one the proof data name. -/
def prod (c : Dev nD) (t : Fin cfg0.N) : FVec Ideal S1024x2048 .f32 :=
  k0_pay4 (F := Ideal) (grid0.coords t) (iblk m c 0 t) (b1 m c t fun _ => 0) (b2 m c t fun _ => 0) (b3 m c t fun _ => 0)

theorem pay4_eq_prod (c : Dev nD) (t : Fin cfg0.N) (d1 d2 : S1x2048x256.Idx → EReal) (d3 : S1x256x2048.Idx → EReal) :
    k0_pay4 (F := Ideal) (grid0.coords t) (iblk m c 0 t) (b1 m c t d1) (b2 m c t d2) (b3 m c t d3) = prod m c t := by
  funext i
  idx_vars i
  unfold prod
  exact (pay4_blk m c t d1 d2 d3 i0 i1 (idx t).2.2.2.2.2.2.1).trans (pay4_blk m c t _ _ _ i0 i1 (idx t).2.2.2.2.2.2.1).symm

/-! ## The output buffer -/

/-- The output buffer after point `t`, from what it holds before. -/
def step (c : Dev nD) (t : Fin cfg0.N) (y : S1x1024x2048.Idx → EReal) : S1x1024x2048.Idx → EReal :=
  put3 (F := Ideal) (grid0.coords t) (iblk m c 4 t) (put2 (F := Ideal) (grid0.coords t) (prod m c t) (put1 (F := Ideal) (grid0.coords t) (prod m c t) y))

/-- The output buffer after point `n`. -/
def outs (c : Dev nD) : ℕ → S1x1024x2048.Idx → EReal
  | 0 => step m c ⟨0, by decide⟩ fun _ => 0
  | n + 1 => if h : n + 1 < cfg0.N then step m c ⟨n + 1, h⟩ (outs c n) else outs c n

theorem outs_succ (c : Dev nD) (n : ℕ) (h : n + 1 < cfg0.N) : outs m c (n + 1) = step m c ⟨n + 1, h⟩ (outs m c n) := by
  rw [outs]; exact dif_pos h

/-- At the first point of an expert nothing of the buffer is kept. -/
theorem step_first (c : Dev nD) (t : Fin cfg0.N) (ht : t.val % 22 = 0) (y y' : S1x1024x2048.Idx → EReal) :
    step m c t y = step m c t y' := by
  unfold step put1
  rw [if_pos ((conds t).1.mpr ht), if_pos ((conds t).1.mpr ht)]

theorem outs_first (c : Dev nD) (t : Fin cfg0.N) (ht : t.val % 22 = 0) (y : S1x1024x2048.Idx → EReal) :
    step m c t y = outs m c t.val := by
  obtain ⟨n, hn⟩ := t
  cases n with
  | zero => exact step_first m c _ ht _ _
  | succ n => exact (step_first m c _ ht y (outs m c n)).trans (outs_succ m c n hn).symm

theorem outs_next (c : Dev nD) (t : Fin cfg0.N) (ht : t.val % 22 ≠ 0) :
    step m c t (outs m c (t.val - 1)) = outs m c t.val := by
  obtain ⟨n, hn⟩ := t
  cases n with
  | zero => exact absurd rfl ht
  | succ n => exact (outs_succ m c n hn).symm

/-- No point leaves the output's buffer alone. -/
theorem busy : ∀ t : Fin cfg0.N, cfg0.idle 5 (grid0.coords t) = false :=
  (by decide +kernel : ∀ t : Fin grid0.N, idle0 5 (grid0.coords t) = false)

/-- The proof data: the arrays as the launch finds them, the inputs' buffers their blocks, the output's `outs`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => b1 m c t fun _ => 0
    | ⟨2, _⟩ => b2 m c t fun _ => 0
    | ⟨3, _⟩ => b3 m c t fun _ => 0
    | ⟨4, _⟩ => iblk m c 4 t
    | ⟨5, _⟩ => outs m c t.val
  Φ _ := Pipeline.ΦA spec0 c
  q _ := fullShare
  owed _ := 0

theorem before0 (c : Dev nD) (t : Fin cfg0.N) (d) : (dats m 0 c).before 0 t d = iblk m c 0 t :=
  before0_0_of m (dats m 0 c) rfl (fun _ => by dsimp only [dats]) t d
theorem before4 (c : Dev nD) (t : Fin cfg0.N) (d) : (dats m 0 c).before 4 t d = iblk m c 4 t :=
  before0_4_of m (dats m 0 c) rfl (fun _ => by dsimp only [dats]) t d

theorem fetches : ∀ t : Fin cfg0.N, (cfg0.win 1).fetch t = true ∧ (cfg0.win 2).fetch t = true ∧ (cfg0.win 3).fetch t = true
    ∧ (cfg0.win 5).fetch t = false ∧ ((cfg0.win 5).flush t = true ↔ t.val % 22 = 21) :=
  (by decide +kernel : ∀ t : Fin grid0.N, _)

theorem before1 (c : Dev nD) (t : Fin cfg0.N) (d) : (dats m 0 c).before 1 t d = b1 m c t d := by
  unfold Dat.before; rw [if_pos (fetches t).1]; rfl
theorem before2 (c : Dev nD) (t : Fin cfg0.N) (d) : (dats m 0 c).before 2 t d = b2 m c t d := by
  unfold Dat.before; rw [if_pos (fetches t).2.1]; rfl
theorem before3 (c : Dev nD) (t : Fin cfg0.N) (d) : (dats m 0 c).before 3 t d = b3 m c t d := by
  unfold Dat.before; rw [if_pos (fetches t).2.2.1]; rfl

theorem step_before (c : Dev nD) (t : Fin cfg0.N) (d) : step m c t ((dats m 0 c).before 5 t d) = outs m c t.val := by
  by_cases ht : t.val % 22 = 0
  · exact outs_first m c t ht _
  · rw [← outs_next m c t ht]
    congr 1
    unfold Dat.before
    rw [if_neg (by rw [(fetches t).2.2.2.1]; exact Bool.false_ne_true), if_neg (by omega)]
    refine (if_neg ?_).trans ?_
    · intro h
      have := (fetches _).2.2.2.2.mp h
      simp only at this
      omega
    · have h := busy ⟨t.val - 1, by omega⟩
      split
      · rename_i e; exact absurd (e.symm.trans h) (by decide)
      · rfl

theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0 m c t d0, before1 m c t d1, before2 m c t d2, before3 m c t d3, before4 m c t d4]
  iapply (sound_kernel (F := Ideal) c Set.univ (grid0.coords t) _ _ _ _ _ _ _ _ _ _ _ _ (iblk m c 0 t) (b1 m c t d1) (b2 m c t d2)
    (b3 m c t d3) (iblk m c 4 t) ((dats m 0 c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  have h5 : put (F := Ideal) (grid0.coords t) (iblk m c 0 t) (b1 m c t d1) (b2 m c t d2) (b3 m c t d3) (iblk m c 4 t)
      ((dats m 0 c).before 5 t d5) = outs m c t.val := by
    unfold put
    rw [pay4_eq_prod m c t d1 d2 d3]
    exact step_before m c t d5
  rw [h5]
  have e1 : win0_1.cut (grid0.coords t) (b1 m c t fun _ => 0) = iblk m c 1 t := win0_1.cut_fill _ _ _
  have e2 : win0_2.cut (grid0.coords t) (b2 m c t fun _ => 0) = iblk m c 2 t := win0_2.cut_fill _ _ _
  have e3 : win0_3.cut (grid0.coords t) (b3 m c t fun _ => 0) = iblk m c 3 t := win0_3.cut_fill _ _ _
  isplitl [HΦ]; · iexact HΦ
  isplitl [Ho]; · iexact Ho
  isplitl [H0]; · iexact H0
  isplitl [H1]
  · iexists d1
    change _ ⊢ owns (c : Thread nD τ) _ fullShare (win0_1.fill (grid0.coords t) d1 (win0_1.cut (grid0.coords t) (b1 m c t fun _ => 0)))
    rw [e1]; try iexact H1
  isplitl [H2]
  · iexists d2
    change _ ⊢ owns (c : Thread nD τ) _ fullShare (win0_2.fill (grid0.coords t) d2 (win0_2.cut (grid0.coords t) (b2 m c t fun _ => 0)))
    rw [e2]; try iexact H2
  isplitl [H3]
  · iexists d3
    change _ ⊢ owns (c : Thread nD τ) _ fullShare (win0_3.fill (grid0.coords t) d3 (win0_3.cut (grid0.coords t) (b3 m c t fun _ => 0)))
    rw [e3]; try iexact H3
  isplitl [H4]; · iexact H4
  have hb : idle0 5 (grid0.coords t) = false := busy t
  rw [hb]
  iexact H5

/-! ## The sum over an expert's points -/

/-- Point `n`'s product at one element. -/
def prodAt (c : Dev nD) (r : Fin 1024) (j : Fin 2048) (n : ℕ) : EReal := if h : n < cfg0.N then prod m c ⟨n, h⟩ (ix2 r j) else 0

theorem pay1_at (p : FVec Ideal S1024x2048 .f32) (r : Fin 1024) (j : Fin 2048) : k0_pay1 (F := Ideal) p (ix3 0 r j) = p (ix2 r j) := by
  pointwise [k0_pay1]
theorem pay2_at (p : FVec Ideal S1024x2048 .f32) (y : FVec Ideal S1x1024x2048 .f32) (r : Fin 1024) (j : Fin 2048) :
    k0_pay2 (F := Ideal) p y (ix3 0 r j) = y (ix3 0 r j) + p (ix2 r j) := by
  pointwise [k0_pay2]
theorem pay3_at (g : FVec Ideal S1x1024x1 .f32) (y : FVec Ideal S1x1024x2048 .f32) (r : Fin 1024) (j : Fin 2048) :
    k0_pay3 (F := Ideal) y g (ix3 0 r j) = y (ix3 0 r j) * g (ix3 0 r 0) := by
  pointwise [k0_pay3]

/-- The gates' factor at point `n`: only the last of an expert scales. -/
def scaled (c : Dev nD) (t : Fin cfg0.N) (r : Fin 1024) (x : EReal) : EReal :=
  if t.val % 22 = 21 then x * iblk m c 4 t (ix3 0 r 0) else x

theorem outs_at (c : Dev nD) (r : Fin 1024) (j : Fin 2048) : ∀ (n : ℕ) (hn : n < cfg0.N),
    outs m c n (ix3 0 r j) = scaled m c ⟨n, hn⟩ r (∑ s ∈ Finset.range (n % 22 + 1), prodAt m c r j (n / 22 * 22 + s)) := by
  have last : ∀ (t : Fin cfg0.N) (y : S1x1024x2048.Idx → EReal),
      put3 (F := Ideal) (grid0.coords t) (iblk m c 4 t) y (ix3 0 r j) = scaled m c t r (y (ix3 0 r j)) := fun t y => by
    unfold put3 scaled
    by_cases h : t.val % 22 = 21
    · rw [if_pos ((conds t).2.2.mpr h), if_pos h]; exact pay3_at _ _ r j
    · rw [if_neg (mt (conds t).2.2.mp h), if_neg h]
  intro n
  induction n with
  | zero =>
    intro hn
    rw [← outs_first m c ⟨0, hn⟩ rfl fun _ => 0]
    unfold step
    rw [last]; congr 1
    unfold put2 put1
    rw [if_neg (mt (conds ⟨0, hn⟩).2.1.mp (not_not.mpr rfl)), if_pos ((conds ⟨0, hn⟩).1.mpr rfl), pay1_at]
    simp [prodAt, hn]
  | succ n ih =>
    intro hn
    by_cases h0 : (n + 1) % 22 = 0
    · rw [← outs_first m c ⟨n + 1, hn⟩ h0 fun _ => 0]
      unfold step
      rw [last]; congr 1
      unfold put2 put1
      rw [if_neg (mt (conds ⟨n + 1, hn⟩).2.1.mp (not_not.mpr h0)), if_pos ((conds ⟨n + 1, hn⟩).1.mpr h0), pay1_at, h0]
      have e : (n + 1) / 22 * 22 + 0 = n + 1 := by omega
      rw [Finset.sum_range_one, e, prodAt, dif_pos hn]
    · rw [← outs_next m c ⟨n + 1, hn⟩ h0]
      unfold step
      rw [last]; congr 1
      unfold put2 put1
      rw [if_pos ((conds ⟨n + 1, hn⟩).2.1.mpr h0), if_neg (mt (conds ⟨n + 1, hn⟩).1.mp h0), pay2_at]
      have h1 : ¬ n % 22 = 21 := by omega
      have h2 : (n + 1) % 22 = n % 22 + 1 := by omega
      have h3 : (n + 1) / 22 = n / 22 := by omega
      have h4 : n / 22 * 22 + (n % 22 + 1) = n + 1 := by omega
      have e1 : outs m c n (ix3 0 r j) = ∑ s ∈ Finset.range (n % 22 + 1), prodAt m c r j (n / 22 * 22 + s) :=
        (ih (by omega)).trans (if_neg h1)
      have e2 : prodAt m c r j (n + 1) = prod m c ⟨n + 1, hn⟩ (ix2 r j) := dif_pos hn
      have e3 : ∑ s ∈ Finset.range ((n + 1) % 22 + 1), prodAt m c r j ((n + 1) / 22 * 22 + s)
          = ∑ s ∈ Finset.range (n % 22 + 1), prodAt m c r j (n / 22 * 22 + s) + prodAt m c r j (n + 1) := by
        rw [h2, h3, Finset.sum_range_succ _ (n % 22 + 1), h4]
      rw [e3, e2, ← e1]
      rfl

theorem prodAt_eq (c : Dev nD) (r : Fin 1024) (j : Fin 2048) (e : Fin 16) (s : ℕ) (hs : s < 22) :
    prodAt m c r j (e.val * 22 + s) = ∑ k ∈ Finset.range 256, kterm m c e r j (s * 256 + k) := by
  have hN : cfg0.N = 352 := by decide
  have hn : e.val * 22 + s < cfg0.N := by have := e.isLt; omega
  unfold prodAt
  rw [dif_pos hn]
  have h1 : (e.val * 22 + s) / 22 = e.val := by omega
  have h2 : (e.val * 22 + s) % 22 = s := by omega
  unfold prod
  rw [pay4_blk m c ⟨e.val * 22 + s, hn⟩ _ _ _ r j (by rw [h1]; exact e.isLt), Finset.sum_range]
  refine Fin.sum_fin_congr fun k => ?_
  simp only [h1, h2]

/-- Blocks of 256 in a row are one run. -/
theorem sum_blocks (g : ℕ → EReal) : ∀ K : ℕ,
    ∑ s ∈ Finset.range K, ∑ k ∈ Finset.range 256, g (s * 256 + k) = ∑ l ∈ Finset.range (K * 256), g l := by
  intro K
  induction K with
  | zero => simp
  | succ K ih => rw [Finset.sum_range_succ, ih, Nat.succ_mul, Finset.sum_range_add]

/-- The sum over an expert's points is the sum over the inner dimension. -/
theorem sum_points (c : Dev nD) (r : Fin 1024) (j : Fin 2048) (e : Fin 16) :
    ∑ s ∈ Finset.range 22, prodAt m c r j (e.val * 22 + s) = ∑ l : Fin 5504, kterm m c e r j l.val := by
  rw [Finset.sum_congr rfl fun s hs => prodAt_eq m c r j e s (Finset.mem_range.mp hs), sum_blocks (kterm m c e r j) 22,
    show 22 * 256 = 5504 + 128 from rfl, Finset.sum_range_add, Finset.sum_range (n := 5504)]
  rw [Finset.sum_eq_zero (s := Finset.range 128) fun l _ => ?_, add_zero]
  unfold kterm term
  rw [dif_neg (by omega)]

/-! ## The result -/

/-- What the kernel leaves in its result: for each expert and row, the gated hidden values against the second weight,
    scaled by the row's gate. -/
def G (c : Dev nD) : S16x1024x2048.Idx → EReal := fun i =>
  (∑ l : Fin 5504, kterm m c (i 0) (i 1) (i 2) l.val) * V m c main_v8 (ix3 (i 0) (i 1) 0)

theorem final (c : Dev nD) : (dats m 0 c).arrAt 5 cfg0.N = G m c := by
  refine (dats m 0 c).arrAt_eq_of_covers 5 (G m c) (by decide +kernel) fun t hf y => ?_
  have ht : t.val % 22 = 21 := (fetches t).2.2.2.2.mp hf
  obtain ⟨y0, y1, y2, rfl⟩ : ∃ (y0 : Fin 1) (y1 : Fin 1024) (y2 : Fin 2048), y = ix3 y0 y1 y2 := ⟨y 0, y 1, y 2, by funext a; fin_cases a <;> rfl⟩
  obtain rfl : y0 = 0 := Subsingleton.elim _ _
  have he := (idx t).2.2.2.2.2.2.1
  have hg : iblk m c 4 t (ix3 0 y1 0) = V m c main_v8 (ix3 ⟨t.val / 22, he⟩ y1 0) := by blk_point [iblk, idx t]
  have h1 : outs m c t.val (ix3 0 y1 y2) = G m c (ix3 ⟨t.val / 22, he⟩ y1 y2) := by
    rw [outs_at m c y1 y2 t.val t.isLt]
    unfold scaled
    rw [if_pos ht, ht, hg]
    unfold G
    exact congrArg (· * V m c main_v8 (ix3 ⟨t.val / 22, he⟩ y1 0)) (sum_points m c y1 y2 ⟨t.val / 22, he⟩)
  refine Eq.trans ?_ (h1.trans ?_)
  · rfl
  · congr 1
    blk_ext [idx t]

/-- What a final state keeps of the arguments. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hin : ∀ w, (cfg0.win w).isOut = false → r.2.mem ((cfg0.spec w).arr.view.loc (c.tc : Thread nD τ)) = V m c (Pipeline.arrRef spec0 w) :=
    fun w hw => ((h c).1 w).trans ((dats m 0 c).arrAt_in w hw _)
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (hin 1 rfl).trans (V_main_arg2 m c), (hin 2 rfl).trans (V_main_arg3 m c), (hin 3 rfl).trans (V_main_arg4 m c)⟩

/-- The run: the result at `G`, the arguments unchanged. -/
abbrev Post (r : PUnit × MemSt nD τ sig (Elt Ideal)) : Prop :=
  ∀ c : Dev nD, r.2.mem ((c.tc : Thread nD τ).loc main_v9) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)

set_option backward.isDefEq.respectTransparency.types false in
theorem run : θ_run defs (onTc (τ := τ) (main (F := Ideal))) (s₀ m ρ) (Post m) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl) (hΦ := fun _ _ => rfl)
    (Q' := Post m) (hQ' := fun r h c => ⟨((h.1 c).1 5).trans (final m c), kept m r h.1 c⟩)

end Cert.ExpertIdeal.Value
end
-- ==== Proof.ExpertPair.lean ====
/-
  The expert kernel against its reference at the ideal floats: equal results.
-/
module

public import proofs.«01_k».proof.Proof.ExpertBody
public import proofs.«01_k».proof.Proof.ExpertValue
public import proofs.«01_k».proof.Proof.Gen.ExpertRefIdeal.Run
public import proofs.«01_k».proof.Defs
public import Idealize.ShloMosaic.Lib.Claim

@[expose] public section

set_option maxRecDepth 16384

noncomputable section

namespace Cert.ExpertRefIdeal.Value

open Cert.ExpertRefIdeal Cert.ExpertRefIdeal.Gen
open Idealize.ShloMosaic Idealize.ShloMosaic.TcCoe Idealize.SL.Sem Idealize.ShloMosaic.StableHlo

/-- The routing: the gates each expert picks, and the tokens they stand at. -/
def TOP (x1 : FVec Ideal S8192x16 .f32) : FVec Ideal S16x1024 .f32 × IVec S16x1024 32 :=
  Host.topK S16x1024 1 (FloatOps.cmpfTotal .gt) (transpose S16x8192 [1, 0] x1 transposes_S8192x16_S16x8192_1_0) sliceFits_S16x8192_S16x1024

/-- The picked tokens' row numbers, as the gather takes them. -/
def IDX (x1 : FVec Ideal S8192x16 .f32) : IVec S16x1024x1 32 :=
  broadcastInDim S16x1024x1 ![0, 1] bcast_S16x1024_S16x1024x1_0_1
    (select (cmpi .slt (TOP x1).2 (broadcastInDim S16x1024 ![] bcast_S_S16x1024 (constantI S_ 32 0#32)))
      (addi (TOP x1).2 (broadcastInDim S16x1024 ![] bcast_S_S16x1024 (constantI S_ 32 8192#32))) (TOP x1).2)

/-- The picked tokens. -/
def TOK (x0 : FVec Ideal S8192x2048 .bf16) (x1 : FVec Ideal S8192x16 .f32) : FVec Ideal S16x1024x2048 .f32 :=
  Host.gather gather_S8192x2048_S16x1024x1_S16x1024x2048_2_0_n_n_0_2_12048 (extf .f32 x0 bitsLt_bf16_f32) (IDX x1)

/-- The picked gates. -/
def GATE (x1 : FVec Ideal S8192x16 .f32) : FVec Ideal S16x1024x1 .f32 :=
  broadcastInDim S16x1024x1 ![0, 1] bcast_S16x1024_S16x1024x1_0_1 (TOP x1).1

/-- The experts on picked tokens `t` with gates `g`. -/
def FFN (t : FVec Ideal S16x1024x2048 .f32) (g : FVec Ideal S16x1024x1 .f32) (w1 w3 : FVec Ideal S16x2048x5504 .f32)
    (w2 : FVec Ideal S16x5504x2048 .f32) : FVec Ideal S16x1024x2048 .f32 :=
  mulf (Host.dotGeneral dot_S16x1024x5504_S16x5504x2048_S16x1024x2048_2_1_1_2_0_0 none
      (mulf (mulf (Host.dotGeneral dot_S16x1024x2048_S16x2048x5504_S16x1024x5504_2_1_1_2_0_0 none t w1)
          (Host.divf (broadcastInDim S16x1024x5504 ![] bcast_S_S16x1024x5504 (constant S_ .f32 0x3F800000#32))
            (addf (broadcastInDim S16x1024x5504 ![] bcast_S_S16x1024x5504 (constant S_ .f32 0x3F800000#32))
              (Host.exp (Host.negf (Host.dotGeneral dot_S16x1024x2048_S16x2048x5504_S16x1024x5504_2_1_1_2_0_0 none t w1))))))
        (Host.dotGeneral dot_S16x1024x2048_S16x2048x5504_S16x1024x5504_2_1_1_2_0_0 none t w3)) w2)
    (broadcastInDim S16x1024x2048 ![0, 1, 2] bcast_S16x1024x1_S16x1024x2048_0_1_2 g)

theorem ffn_at (t : FVec Ideal S16x1024x2048 .f32) (g : FVec Ideal S16x1024x1 .f32) (w1 w3 : FVec Ideal S16x2048x5504 .f32)
    (w2 : FVec Ideal S16x5504x2048 .f32) (e : Fin 16) (r : Fin 1024) (j : Fin 2048) :
    FFN t g w1 w3 w2 (ix3 e r j)
      = (∑ l : Fin 5504, Cert.ExpertIdeal.Value.term t w1 w3 w2 e r j l.val) * g (ix3 e r 0) := by
  pointwise [FFN]
  refine congrArg (· * g (ix3 e r 0)) (Fin.sum_fin_congr fun l => ?_)
  unfold Cert.ExpertIdeal.Value.term Cert.ExpertIdeal.Value.proj
  rw [dif_pos l.isLt]
  rfl

end Cert.ExpertRefIdeal.Value

namespace Cert.ExpertIdeal.Value

open Cert.ExpertIdeal Cert.ExpertIdeal.Gen
open Idealize.ShloMosaic Idealize.ShloMosaic.TcCoe Idealize.SL.Sem

variable (m : (ℓ : Loc nD τ sig) → Buf (Elt Ideal) ℓ)

/-- The tokens the kernel reads are the reference's, -/
theorem tokens (c : Dev nD) :
    V m c main_v7 = Cert.ExpertRefIdeal.Value.TOK (m ((c.tc : Thread nD τ).loc main_arg0)) (m ((c.tc : Thread nD τ).loc main_arg1)) := by
  entry_read
  rfl

/-- and so are the gates. -/
theorem gates (c : Dev nD) (e : Fin 16) (r : Fin 1024) :
    V m c main_v8 (ix3 e r 0) = Cert.ExpertRefIdeal.Value.GATE (m ((c.tc : Thread nD τ).loc main_arg1)) (ix3 e r 0) := by
  entry_read
  pointwise [Cert.ExpertRefIdeal.Value.GATE, Cert.ExpertRefIdeal.Value.TOP]

/-- The kernel's result is the reference's term. -/
theorem result (c : Dev nD) :
    G m c = Cert.ExpertRefIdeal.Value.FFN
      (Cert.ExpertRefIdeal.Value.TOK (m ((c.tc : Thread nD τ).loc main_arg0)) (m ((c.tc : Thread nD τ).loc main_arg1)))
      (Cert.ExpertRefIdeal.Value.GATE (m ((c.tc : Thread nD τ).loc main_arg1)))
      (m ((c.tc : Thread nD τ).loc main_arg2)) (m ((c.tc : Thread nD τ).loc main_arg3)) (m ((c.tc : Thread nD τ).loc main_arg4)) := by
  funext i
  obtain ⟨e, r, j, rfl⟩ : ∃ (e : Fin 16) (r : Fin 1024) (j : Fin 2048), i = ix3 e r j := ⟨i 0, i 1, i 2, by funext a; fin_cases a <;> rfl⟩
  refine Eq.trans ?_ (Cert.ExpertRefIdeal.Value.ffn_at _ _ _ _ _ e r j).symm
  rw [← gates m c e r, ← tokens m c]
  rfl

end Cert.ExpertIdeal.Value

namespace Cert.Proof

open Idealize.ShloMosaic Idealize.ShloMosaic.TcCoe Idealize.SL.Sem

theorem frame_expert : Cert.quiescent_Expert := fun m g _ => Cert.Expert.Body.run_kept m g

theorem frame_expertIdeal : Cert.quiescent_ExpertIdeal := fun m g _ => Cert.ExpertIdeal.Body.run_kept m g

theorem frame_expertRefIdeal : Cert.quiescent_ExpertRefIdeal := fun m g _ =>
  (θ_run Cert.ExpertRefIdeal.defs _ _).mono (fun r h => ⟨fun c => (h c).2, sem_eq_zero_of_no_sems (by decide) r.2⟩)
    (Cert.ExpertRefIdeal.Value.run (F := Ideal) m g)

theorem algebraic_expert : Cert.algebraic_ExpertIdeal_ExpertRefIdeal := by
  pair_intro
  · exact Cert.ExpertIdeal.Value.run m g
  · refine (θ_run Cert.ExpertRefIdeal.defs _ _).mono (fun r h c => ⟨(h c).1.trans ?_, (h c).2⟩)
      (Cert.ExpertRefIdeal.Value.run (F := Ideal) m' g')
    obtain ⟨a0, a1, a2, a3, a4⟩ := hagree c
    rw [a0, a1, a2, a3, a4]
    exact (Cert.ExpertIdeal.Value.result m c).symm

end Cert.Proof
end
-- ==== Proof.Norm.lean ====
/-
  The root mean square normalization of a row and the normalization of a head, as both the kernels and the references
  compute them, and the constants that are read as real numbers.
-/
module

public import Idealize.ShloMosaic.Lib.Pipeline.ValueKit

@[expose] public section

noncomputable section

namespace Cert.Norm

open Idealize.ShloMosaic

/-- A row times the reciprocal root of its mean square (plus the small constant). -/
def row (z : Fin 2048 → EReal) (j : Fin 2048) : EReal :=
  z j * Ideal.rsqrt (Ideal.div (∑ k : Fin 2048, z k * z k) (Ideal.ofBits FTy.f32 0x45000000#32) + Ideal.ofBits FTy.f32 0x358637BD#32)

/-- The last step's row: the residual plus the gated sum of the experts, normalized and scaled. -/
def last (x s : Fin 2048 → EReal) (gate scale : Fin 2048 → EReal) (j : Fin 2048) : EReal :=
  row (fun k => x k + gate k * s k) j * scale j

/-- The projection's input row: normalized, scaled, modulated. -/
def modulated (x scale mul add : Fin 2048 → EReal) (j : Fin 2048) : EReal :=
  row x j * scale j * (Ideal.ofBits FTy.f32 0x3F800000#32 + mul j) + add j

/-- The sixty-four of a head's mean, -/
theorem width : Ideal.ofBits FTy.f32 0x42800000#32 = ((64 : ℝ) : EReal) := by
  simp [Ideal.ofBits, Ideal.ieee, -EReal.coe_mul]; norm_num

/-- its reciprocal, -/
theorem recip : Ideal.ofBits FTy.f32 0x3C800000#32 = ((1 / 64 : ℝ) : EReal) := by
  simp [Ideal.ofBits, Ideal.ieee, -EReal.coe_mul]; norm_num

/-- and the two are each other's inverse. -/
theorem over (x : EReal) : Ideal.div x (Ideal.ofBits FTy.f32 0x42800000#32) = x * Ideal.ofBits FTy.f32 0x3C800000#32 := by
  rw [width, recip]
  exact Ideal.div_coe (by norm_num) x

/-- The number of entries of a group's row, as a divisor, is its reciprocal as a factor. -/
theorem over256 (x : EReal) : Ideal.div x (Ideal.ofBits FTy.f32 0x43800000#32) = x * Ideal.ofBits FTy.f32 0x3B800000#32 := by
  have h : Ideal.ofBits FTy.f32 0x43800000#32 = ((256 : ℝ) : EReal) := by
    simp [Ideal.ofBits, Ideal.ieee, -EReal.coe_mul]; norm_num
  have h' : Ideal.ofBits FTy.f32 0x3B800000#32 = ((1 / 256 : ℝ) : EReal) := by
    simp [Ideal.ofBits, Ideal.ieee, -EReal.coe_mul]; norm_num
  rw [h, h']
  exact Ideal.div_coe (by norm_num) x

/-- The infinite bound. -/
theorem inf : Ideal.ofBits FTy.f32 0x7F800000#32 = ⊤ := by simp [Ideal.ofBits, Ideal.ieee]

/-- A head's mean. -/
def mean (z : Fin 64 → EReal) : EReal := (∑ n : Fin 64, z n) * Ideal.ofBits FTy.f32 0x3C800000#32

/-- An entry of a head, normalized within its head, scaled, moved, with the bonus added, gated. -/
def gated (z : Fin 64 → EReal) (y gw gb bonus g : EReal) : EReal :=
  ((y - mean z) * Ideal.rsqrt ((∑ n : Fin 64, (z n - mean z) * (z n - mean z)) * Ideal.ofBits FTy.f32 0x3C800000#32
    + Ideal.ofBits FTy.f32 0x3A27C5AC#32) * gw + gb + bonus) * Ideal.logistic g

/-- A sum over two heads, weighted by one at one's head and by zero elsewhere, is the sum over the head. -/
theorem sum_seg (f : Fin 128 → EReal) (j : Fin 128) :
    (∑ k : Fin 128, f k * (if k.val / 64 = j.val / 64 then 1 else 0)) = ∑ n : Fin 64, f ⟨j.val / 64 * 64 + n.val, by omega⟩ := by
  simp only [mul_ite, mul_one, mul_zero]
  rw [← Finset.sum_filter]
  symm
  refine Finset.sum_bij (fun n _ => (⟨j.val / 64 * 64 + n.val, by omega⟩ : Fin 128)) ?_ ?_ ?_ ?_
  · intro n _
    simp only [Finset.mem_filter, Finset.mem_univ, true_and]
    omega
  · intro a _ b _ h
    simp only [Fin.mk.injEq] at h
    exact Fin.ext (by omega)
  · intro k hk
    simp only [Finset.mem_filter, Finset.mem_univ, true_and] at hk
    exact ⟨⟨k.val % 64, by omega⟩, Finset.mem_univ _, Fin.ext (by simp only; omega)⟩
  · intro n _
    rfl

end Cert.Norm
end
-- ==== Proof.ScanIdealShape.lean ====
/-
  The scan kernel's body, written again as a walk over the rows of the state. The printed body spells out all the
  rows one after the other; here one row is stated once, for any row number, and the body is the rows in order.
-/
module

public import proofs.«01_k».proof.Proof.Gen.ScanIdeal.Skeleton

@[expose] public section

set_option maxRecDepth 65536
set_option maxHeartbeats 4000000

noncomputable section

namespace Cert.ScanIdeal.Shape

open Cert.ScanIdeal Cert.ScanIdeal.Gen
open Idealize.ShloMosaic Idealize.SL.Sem

variable {F : FTy → Type} [FloatOps F]

/-- The two running sums: the state read against the removal keys, and against the decayed receptance. -/
abbrev Sums (F : FTy → Type) : Type := FVec F S64x128 .f32 × FVec F S64x128 .f32

/-- Where a trip reads the current step's row `k`: its decay, its keys. -/
def offW (t : Fin k0_t1_loop.trips) (k : ℕ) : Fin 3 → Nat := ![(Scalar.indexCast (Scf.iv 0#32 1#32 t)).toNat, k, 0]
/-- Where it reads the next step's row `k`; the last step reads itself again. -/
def offA (t : Fin k0_t1_loop.trips) (k : ℕ) : Fin 3 → Nat :=
  ![(Scalar.indexCast (Scalar.minsi (Scalar.addi (Scf.iv 0#32 1#32 t) 1#32) 31#32)).toNat, k, 0]
/-- The slot of the two that holds the next step's decayed receptance. -/
def slot (t : Fin k0_t1_loop.trips) : BitVec 32 :=
  let x := Scalar.addi (Scf.iv 0#32 1#32 t) 1#32
  let two := Scalar.select (Scalar.cmpi .eq 2#32 0#32) 1#32 2#32
  let y := Scalar.remsi x two
  Scalar.select (Scalar.andi (Scalar.xori (Scalar.cmpi .slt y 0#32) (Scalar.cmpi .slt two 0#32)) (Scalar.cmpi .ne y 0#32)) (Scalar.addi y two) y
/-- Where it reads that slot's row `k`. -/
def offR (t : Fin k0_t1_loop.trips) (k : ℕ) : Fin 3 → Nat := ![(Scalar.indexCast (slot t)).toNat, k, 0]

theorem offW_eq (t : Fin k0_t1_loop.trips) (k : ℕ) : offW t k = ![t.val, k, 0] :=
  congrArg (fun x : ℕ => (![x, k, 0] : Fin 3 → ℕ))
    ((by decide +kernel : ∀ t : Fin k0_t1_loop.trips, (Scalar.indexCast (Scf.iv 0#32 1#32 t)).toNat = t.val) t)
theorem offA_eq (t : Fin k0_t1_loop.trips) (k : ℕ) : offA t k = ![min (t.val + 1) 31, k, 0] :=
  congrArg (fun x : ℕ => (![x, k, 0] : Fin 3 → ℕ))
    ((by decide +kernel : ∀ t : Fin k0_t1_loop.trips,
      (Scalar.indexCast (Scalar.minsi (Scalar.addi (Scf.iv 0#32 1#32 t) 1#32) 31#32)).toNat = min (t.val + 1) 31) t)
theorem offR_eq (t : Fin k0_t1_loop.trips) (k : ℕ) : offR t k = ![(t.val + 1) % 2, k, 0] :=
  congrArg (fun x : ℕ => (![x, k, 0] : Fin 3 → ℕ))
    ((by decide +kernel : ∀ t : Fin k0_t1_loop.trips, (Scalar.indexCast (slot t)).toNat = (t.val + 1) % 2) t)

theorem inb_row (x n : ℕ) (hx : x < n) (k : Fin 64) : ∀ a, (![x, k.val, 0] : Fin 3 → ℕ) a + S1x1x128.size a ≤ (⟨3, ![n, 64, 128]⟩ : Shape).size a := by
  intro a; have := k.isLt; fin_cases a <;> simp [Shape.size] <;> omega
theorem offW_inb (t : Fin k0_t1_loop.trips) (k : Fin 64) : ∀ a, offW t k.val a + S1x1x128.size a ≤ S32x64x128.size a := by
  rw [offW_eq]; exact inb_row t.val 32 t.isLt k
theorem offA_inb (t : Fin k0_t1_loop.trips) (k : Fin 64) : ∀ a, offA t k.val a + S1x1x128.size a ≤ S32x64x128.size a := by
  rw [offA_eq]; exact inb_row _ 32 (by omega) k
theorem offR_inb (t : Fin k0_t1_loop.trips) (k : Fin 64) : ∀ a, offR t k.val a + S1x1x128.size a ≤ S2x64x128.size a := by
  rw [offR_eq]; exact inb_row _ 2 (by omega) k
theorem offS_inb (k : Fin 64) : ∀ a, (![k.val, 0, 0] : Fin 3 → ℕ) a + S1x64x128.size a ≤ S64x64x128.size a := by
  intro a; have := k.isLt; fin_cases a <;> simp [Shape.size] <;> omega

section
variable (arg2 arg3 arg4 arg5 arg6 arg7 : Memref sig .tc .vmem S32x64x128 .f32) (arg9 : Memref sig .tc .vmem S32x64x128 .f32)
  (arg11 : Memref sig .tc .vmem S64x64x128 .f32) (arg12 : Memref sig .tc .vmem S2x64x128 .f32)

/-- One row of one trip: the state's row `k` is decayed, has the removal and the new key added, is stored, and is
    added to the two sums of the next step. -/
def row (t : Fin k0_t1_loop.trips) (sa v : FVec F S64x128 .f32) (k : Fin 64) (z : Sums F) :
    Prog (TpuEff nD τ sig (Elt F) Λ₀ .tc) (Sums F) := do
  let s : Vec F S1x64x128 .f32 ← Prog.lift (.load arg11 (Rect.unit (s := S64x64x128) ![k.val, 0, 0] S1x64x128.size (offS_inb k)).toLoadRect (View.loadsAt_vmem h_S1x64x128))
  let w : Vec F S1x1x128 .f32 ← Prog.lift (.load arg2 (Rect.unit (s := S32x64x128) (offW t k.val) S1x1x128.size (offW_inb t k)).toLoadRect (View.loadsAt_vmem h_S1x1x128))
  let b : Vec F S1x1x128 .f32 ← Prog.lift (.load arg4 (Rect.unit (s := S32x64x128) (offW t k.val) S1x1x128.size (offW_inb t k)).toLoadRect (View.loadsAt_vmem h_S1x1x128))
  let key : Vec F S1x1x128 .f32 ← Prog.lift (.load arg3 (Rect.unit (s := S32x64x128) (offW t k.val) S1x1x128.size (offW_inb t k)).toLoadRect (View.loadsAt_vmem h_S1x1x128))
  let _old : Vec F S1x64x128 .f32 ← Prog.lift (.load arg11 (Rect.unit (s := S64x64x128) ![k.val, 0, 0] S1x64x128.size (offS_inb k)).toLoadRect (View.loadsAt_vmem h_S1x64x128))
  Prog.lift (.store arg11 (Rect.unit (s := S64x64x128) ![k.val, 0, 0] S1x64x128.size (offS_inb k)) (k0_pay14 sa v s w b key) Finset.univ (View.stores_vmem_bits_univ h_S1x64x128 rfl) (.inl rfl))
  let a : Vec F S1x1x128 .f32 ← Prog.lift (.load arg5 (Rect.unit (s := S32x64x128) (offA t k.val) S1x1x128.size (offA_inb t k)).toLoadRect (View.loadsAt_vmem h_S1x1x128))
  let r : Vec F S1x1x128 .f32 ← Prog.lift (.load arg12 (Rect.unit (s := S2x64x128) (offR t k.val) S1x1x128.size (offR_inb t k)).toLoadRect (View.loadsAt_vmem h_S1x1x128))
  pure (k0_pay9 z.1 (k0_pay13 sa v s w b key) a, k0_pay9 z.2 (k0_pay13 sa v s w b key) r)

/-- The last `n` of the 64 rows, in order. -/
def rows (t : Fin k0_t1_loop.trips) (sa v : FVec F S64x128 .f32) : (n : ℕ) → Sums F → Prog (TpuEff nD τ sig (Elt F) Λ₀ .tc) (Sums F)
  | 0, z => pure z
  | n + 1, z => row arg2 arg3 arg4 arg5 arg11 arg12 t sa v ⟨63 - n, by omega⟩ z >>= rows t sa v n

/-- A trip before its rows: the step's result, from the two sums, and the next step's decayed receptance. It reads the values. -/
def start (t : Fin k0_t1_loop.trips) (z : Sums F) : Prog (TpuEff nD τ sig (Elt F) Λ₀ .tc) (Vec F S1x64x128 .f32) := do
  let r : Vec F S1x64x128 .f32 ← Prog.lift (.load arg6 (Rect.unit (s := S32x64x128) (k0_off1 t) S1x64x128.size (k0_off1_inb t)).toLoadRect (View.loadsAt_vmem h_S1x64x128))
  let v : Vec F S1x64x128 .f32 ← Prog.lift (.load arg7 (Rect.unit (s := S32x64x128) (k0_off1 t) S1x64x128.size (k0_off1_inb t)).toLoadRect (View.loadsAt_vmem h_S1x64x128))
  let b : Vec F S1x64x128 .f32 ← Prog.lift (.load arg4 (Rect.unit (s := S32x64x128) (k0_off1 t) S1x64x128.size (k0_off1_inb t)).toLoadRect (View.loadsAt_vmem h_S1x64x128))
  let key : Vec F S1x64x128 .f32 ← Prog.lift (.load arg3 (Rect.unit (s := S32x64x128) (k0_off1 t) S1x64x128.size (k0_off1_inb t)).toLoadRect (View.loadsAt_vmem h_S1x64x128))
  let _old : Vec F S1x64x128 .f32 ← Prog.lift (.load arg9 (Rect.unit (s := S32x64x128) (k0_off1 t) S1x64x128.size (k0_off1_inb t)).toLoadRect (View.loadsAt_vmem h_S1x64x128))
  Prog.lift (.store arg9 (Rect.unit (s := S32x64x128) (k0_off1 t) S1x64x128.size (k0_off1_inb t)) (k0_pay3 z.1 z.2 r v b key) Finset.univ (View.stores_vmem_bits_univ h_S1x64x128 rfl) (.inl rfl))
  let w' : Vec F S1x64x128 .f32 ← Prog.lift (.load arg2 (Rect.unit (s := S32x64x128) (k0_off2 t) S1x64x128.size (k0_off2_inb t)).toLoadRect (View.loadsAt_vmem h_S1x64x128))
  let r' : Vec F S1x64x128 .f32 ← Prog.lift (.load arg6 (Rect.unit (s := S32x64x128) (k0_off2 t) S1x64x128.size (k0_off2_inb t)).toLoadRect (View.loadsAt_vmem h_S1x64x128))
  let _old : Vec F S1x64x128 .f32 ← Prog.lift (.load arg12 (Rect.unit (s := S2x64x128) (k0_off3 t) S1x64x128.size (k0_off3_inb t)).toLoadRect (View.loadsAt_vmem h_S1x64x128))
  Prog.lift (.store arg12 (Rect.unit (s := S2x64x128) (k0_off3 t) S1x64x128.size (k0_off3_inb t)) (k0_pay4 w' r') Finset.univ (View.stores_vmem_bits_univ h_S1x64x128 rfl) (.inl rfl))
  pure v

/-- One trip: the step's output, the next step's decayed receptance, then the rows. -/
def trip (t : Fin k0_t1_loop.trips) (z : Sums F) : Prog (TpuEff nD τ sig (Elt F) Λ₀ .tc) (Sums F) :=
  start arg2 arg3 arg4 arg6 arg7 arg9 arg12 t z >>= fun v => rows arg2 arg3 arg4 arg5 arg11 arg12 t z.1 (k0_pay2 v) 64 (k0_pay5 (F := F), k0_pay6 (F := F))

/-- One row before the first trip: the state's row `k` is added to the two sums of the first step. -/
def first (k : Fin 64) (z : Sums F) : Prog (TpuEff nD τ sig (Elt F) Λ₀ .tc) (Sums F) := do
  let s : Vec F S1x64x128 .f32 ← Prog.lift (.load arg11 (Rect.unit (s := S64x64x128) ![k.val, 0, 0] S1x64x128.size (offS_inb k)).toLoadRect (View.loadsAt_vmem h_S1x64x128))
  let a : Vec F S1x1x128 .f32 ← Prog.lift (.load arg5 (Rect.unit (s := S32x64x128) ![0, k.val, 0] S1x1x128.size (inb_row 0 32 (by decide) k)).toLoadRect (View.loadsAt_vmem h_S1x1x128))
  let r : Vec F S1x1x128 .f32 ← Prog.lift (.load arg12 (Rect.unit (s := S2x64x128) ![0, k.val, 0] S1x1x128.size (inb_row 0 2 (by decide) k)).toLoadRect (View.loadsAt_vmem h_S1x1x128))
  pure (k0_pay9 z.1 (k0_pay278 s) a, k0_pay9 z.2 (k0_pay278 s) r)

/-- The last `n` of those rows, in order. -/
def firsts : (n : ℕ) → Sums F → Prog (TpuEff nD τ sig (Elt F) Λ₀ .tc) (Sums F)
  | 0, z => pure z
  | n + 1, z => first arg5 arg11 arg12 ⟨63 - n, by omega⟩ z >>= firsts n

/-- Whether the point is its group's first. -/
def isFirst (i : grid0.Coords) : BitVec 1 :=
  Scalar.cmpi .ne (Scalar.extui (Scalar.cmpi .eq (BitVec.ofNat 32 (i 1).val) 0#32) : BitVec 32) 0#32

/-- The state brought in at a group's first point. -/
def enter (arg8 : Memref sig .tc .vmem S1x64x64x128 .f32) (i : grid0.Coords) : Prog (TpuEff nD τ sig (Elt F) Λ₀ .tc) PUnit :=
  if isFirst i = 1#1 then do
    let s0 : Vec F S1x64x64x128 .f32 ← Prog.lift (.load arg8 (Rect.unit (s := S1x64x64x128) ![0, 0, 0, 0] S1x64x64x128.size inb_S1x64x64x128_S1x64x64x128_0_0_0_0).toLoadRect (View.loadsAt_vmem h_S1x64x64x128))
    let _old : Vec F S64x64x128 .f32 ← Prog.lift (.load arg11 (Rect.unit (s := S64x64x128) ![0, 0, 0] S64x64x128.size inb_S64x64x128_S64x64x128_0_0_0).toLoadRect (View.loadsAt_vmem h_S64x64x128))
    Prog.lift (.store arg11 (Rect.unit (s := S64x64x128) ![0, 0, 0] S64x64x128.size inb_S64x64x128_S64x64x128_0_0_0) (k0_pay276 s0) Finset.univ (View.stores_vmem_bits_univ h_S64x64x128 rfl) (.inl rfl))
    pure ⟨⟩
  else pure ⟨⟩

/-- The first step's decayed receptance. -/
def receive : Prog (TpuEff nD τ sig (Elt F) Λ₀ .tc) PUnit := do
  let w : Vec F S1x64x128 .f32 ← Prog.lift (.load arg2 (Rect.unit (s := S32x64x128) ![0, 0, 0] S1x64x128.size inb_S32x64x128_S1x64x128_0_0_0).toLoadRect (View.loadsAt_vmem h_S1x64x128))
  let r : Vec F S1x64x128 .f32 ← Prog.lift (.load arg6 (Rect.unit (s := S32x64x128) ![0, 0, 0] S1x64x128.size inb_S32x64x128_S1x64x128_0_0_0).toLoadRect (View.loadsAt_vmem h_S1x64x128))
  let _old : Vec F S1x64x128 .f32 ← Prog.lift (.load arg12 (Rect.unit (s := S2x64x128) ![0, 0, 0] S1x64x128.size inb_S2x64x128_S1x64x128_0_0_0).toLoadRect (View.loadsAt_vmem h_S1x64x128))
  Prog.lift (.store arg12 (Rect.unit (s := S2x64x128) ![0, 0, 0] S1x64x128.size inb_S2x64x128_S1x64x128_0_0_0) (k0_pay277 w r) Finset.univ (View.stores_vmem_bits_univ h_S1x64x128 rfl) (.inl rfl))
  pure ⟨⟩

/-- The state handed out at a group's last point. -/
def leave (arg10 : Memref sig .tc .vmem S1x64x64x128 .f32) (i : grid0.Coords) : Prog (TpuEff nD τ sig (Elt F) Λ₀ .tc) PUnit :=
  if k0_cond2 i = 1#1 then do
    let s : Vec F S64x64x128 .f32 ← Prog.lift (.load arg11 (Rect.unit (s := S64x64x128) ![0, 0, 0] S64x64x128.size inb_S64x64x128_S64x64x128_0_0_0).toLoadRect (View.loadsAt_vmem h_S64x64x128))
    let _old : Vec F S1x64x64x128 .f32 ← Prog.lift (.load arg10 (Rect.unit (s := S1x64x64x128) ![0, 0, 0, 0] S1x64x64x128.size inb_S1x64x64x128_S1x64x64x128_0_0_0_0).toLoadRect (View.loadsAt_vmem h_S1x64x64x128))
    Prog.lift (.store arg10 (Rect.unit (s := S1x64x64x128) ![0, 0, 0, 0] S1x64x64x128.size inb_S1x64x64x128_S1x64x64x128_0_0_0_0) (k0_pay1 s) Finset.univ (View.stores_vmem_bits_univ h_S1x64x64x128 rfl) (.inl rfl))
    pure ⟨⟩
  else pure ⟨⟩

/-- The trips, in order. -/
def walk (z : Sums F) : Prog (TpuEff nD τ sig (Elt F) Λ₀ .tc) PUnit := do
  let _z ← Scf.Loop.for k0_t1_loop k0_t1_ok z (trip arg2 arg3 arg4 arg5 arg6 arg7 arg9 arg11 arg12)
  pure ⟨⟩

/-- The whole body. -/
def body (arg8 arg10 : Memref sig .tc .vmem S1x64x64x128 .f32) (i : grid0.Coords) : Prog (TpuEff nD τ sig (Elt F) Λ₀ .tc) PUnit := do
  enter arg11 arg8 i
  receive arg2 arg6 arg12
  let z ← firsts arg5 arg11 arg12 64 (k0_pay5 (F := F), k0_pay6 (F := F))
  walk arg2 arg3 arg4 arg5 arg6 arg7 arg9 arg11 arg12 z
  leave arg11 arg10 i

end

/-- The printed body is that body. -/
theorem body_eq (i : grid0.Coords) (arg2 : Memref sig .tc .vmem S32x64x128 .f32) (harg2 : arg2.IsWhole) (arg3 : Memref sig .tc .vmem S32x64x128 .f32) (harg3 : arg3.IsWhole) (arg4 : Memref sig .tc .vmem S32x64x128 .f32) (harg4 : arg4.IsWhole) (arg5 : Memref sig .tc .vmem S32x64x128 .f32) (harg5 : arg5.IsWhole) (arg6 : Memref sig .tc .vmem S32x64x128 .f32) (harg6 : arg6.IsWhole) (arg7 : Memref sig .tc .vmem S32x64x128 .f32) (harg7 : arg7.IsWhole) (arg8 : Memref sig .tc .vmem S1x64x64x128 .f32) (harg8 : arg8.IsWhole) (arg9 : Memref sig .tc .vmem S32x64x128 .f32) (harg9 : arg9.IsWhole) (arg10 : Memref sig .tc .vmem S1x64x64x128 .f32) (harg10 : arg10.IsWhole) (arg11 : Memref sig .tc .vmem S64x64x128 .f32) (harg11 : arg11.IsWhole) (arg12 : Memref sig .tc .vmem S2x64x128 .f32) (harg12 : arg12.IsWhole) :
    cc0_wkv_scan (F := F) i arg2 harg2 arg3 harg3 arg4 harg4 arg5 harg5 arg6 harg6 arg7 harg7 arg8 harg8 arg9 harg9 arg10 harg10 arg11 harg11 arg12 harg12
      = body arg2 arg3 arg4 arg5 arg6 arg7 arg9 arg11 arg12 arg8 arg10 i := by
  unfold body enter leave isFirst
  rw [cc0_wkv_scan_eq_skeleton]; unfold cc0_wkv_scan_skel
  simp only [k0_part57_eq_skeleton]; unfold k0_part57_skel
  by_cases h1 : Scalar.cmpi .ne (Scalar.extui (Scalar.cmpi .eq (BitVec.ofNat 32 (i 1).val) 0#32) : BitVec 32) 0#32 = 1#1 <;>
    by_cases h2 : k0_cond2 i = 1#1
  all_goals
    simp only [h1, h2, if_true, if_false, dite_true, dite_false]
    rfl

end Cert.ScanIdeal.Shape

end
-- ==== Proof.ScanIdealBody.lean ====
/-
  The scan kernel's body, run once: what the eleven buffers hold after a grid point, as plain functions of what they
  hold before it, for any float values.
-/
module

public import proofs.«01_k».proof.Proof.Gen.ScanIdeal.Frame
public import proofs.«01_k».proof.Proof.ScanIdealShape
public import Idealize.ShloMosaic.Lib.Tactic
public import Idealize.ShloMosaic.Lib.VecWindow
public import proofs.«01_k».proof.Proof.Rects

@[expose] public section

set_option maxRecDepth 16384

noncomputable section

namespace Cert.ScanIdeal.Body

open Cert.ScanIdeal Cert.ScanIdeal.Gen Cert.ScanIdeal.Shape
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open VecWindow (window put)

variable {F : FTy → Type} [FloatOps F]

local notation "𝕄" => MT nD τ sig Unit (Elt F) ℕ (UR sig nD τ) ℕ

/-! ## What a row, a trip and a point make of the buffers' values -/

/-- The six sequences' blocks at a point: 32 steps of decay, key, added key, removal key, receptance, value. -/
structure In (F : FTy → Type) where
  w : Vec F S32x64x128 .f32
  key : Vec F S32x64x128 .f32
  b : Vec F S32x64x128 .f32
  a : Vec F S32x64x128 .f32
  r : Vec F S32x64x128 .f32
  v : Vec F S32x64x128 .f32

theorem inb_step (x n : ℕ) (hx : x < n) : ∀ a, (![x, 0, 0] : Fin 3 → ℕ) a + S1x64x128.size a ≤ (⟨3, ![n, 64, 128]⟩ : Shape).size a := by
  intro a; fin_cases a <;> simp [Shape.size] <;> omega

/-- Step `t` of a block, all its rows. -/
def step (x : Vec F S32x64x128 .f32) (t : ℕ) (ht : t < 32) : Vec F S1x64x128 .f32 :=
  window x ![t, 0, 0] S1x64x128.size (inb_step t 32 ht)
/-- Step `t` of a block, row `k`. -/
def cell (x : Vec F S32x64x128 .f32) (t : ℕ) (ht : t < 32) (k : Fin 64) : Vec F S1x1x128 .f32 :=
  window x ![t, k.val, 0] S1x1x128.size (inb_row t 32 ht k)
/-- Row `k` of a slot of the decayed receptance. -/
def wrCell (x : Vec F S2x64x128 .f32) (t : ℕ) (ht : t < 2) (k : Fin 64) : Vec F S1x1x128 .f32 :=
  window x ![t, k.val, 0] S1x1x128.size (inb_row t 2 ht k)
/-- Row `k` of the state. -/
def stRow (S : Vec F S64x64x128 .f32) (k : Fin 64) : Vec F S1x64x128 .f32 :=
  window S ![k.val, 0, 0] S1x64x128.size (offS_inb k)

/-- The step after `t`, held at the last. -/
abbrev next (t : ℕ) : ℕ := min (t + 1) 31
theorem next_lt (t : ℕ) : next t < 32 := by unfold next; omega
theorem slot_lt (t : ℕ) : (t + 1) % 2 < 2 := Nat.mod_lt _ (by decide)

/-- The state and the two sums after row `k` of trip `t`. -/
def rowOut (x : In F) (R : Vec F S2x64x128 .f32) (t : Fin k0_t1_loop.trips) (sa v : FVec F S64x128 .f32) (k : Fin 64)
    (p : Vec F S64x64x128 .f32 × Sums F) : Vec F S64x64x128 .f32 × Sums F :=
  (put p.1 ![k.val, 0, 0] S1x64x128.size (k0_pay14 sa v (stRow p.1 k) (cell x.w t.val t.isLt k) (cell x.b t.val t.isLt k) (cell x.key t.val t.isLt k)),
    k0_pay9 p.2.1 (k0_pay13 sa v (stRow p.1 k) (cell x.w t.val t.isLt k) (cell x.b t.val t.isLt k) (cell x.key t.val t.isLt k)) (cell x.a (next t.val) (next_lt _) k),
    k0_pay9 p.2.2 (k0_pay13 sa v (stRow p.1 k) (cell x.w t.val t.isLt k) (cell x.b t.val t.isLt k) (cell x.key t.val t.isLt k)) (wrCell R ((t.val + 1) % 2) (slot_lt _) k))

/-- After the last `n` rows. -/
def rowsOut (x : In F) (R : Vec F S2x64x128 .f32) (t : Fin k0_t1_loop.trips) (sa v : FVec F S64x128 .f32) :
    ℕ → Vec F S64x64x128 .f32 × Sums F → Vec F S64x64x128 .f32 × Sums F
  | 0, p => p
  | n + 1, p => rowsOut x R t sa v n (rowOut x R t sa v ⟨63 - n, by omega⟩ p)

/-- The buffers a trip changes, and the sums it carries. -/
structure Held (F : FTy → Type) where
  y : Vec F S32x64x128 .f32
  wr : Vec F S2x64x128 .f32
  st : Vec F S64x64x128 .f32
  z : Sums F

/-- The decayed receptance after trip `t` has put the next step's in. -/
def wrOut (x : In F) (t : Fin k0_t1_loop.trips) (R : Vec F S2x64x128 .f32) : Vec F S2x64x128 .f32 :=
  put R ![(t.val + 1) % 2, 0, 0] S1x64x128.size (k0_pay4 (step x.w (next t.val) (next_lt _)) (step x.r (next t.val) (next_lt _)))

/-- After trip `t`. -/
def tripOut (x : In F) (t : Fin k0_t1_loop.trips) (h : Held F) : Held F where
  y := put h.y ![t.val, 0, 0] S1x64x128.size
    (k0_pay3 h.z.1 h.z.2 (step x.r t.val t.isLt) (step x.v t.val t.isLt) (step x.b t.val t.isLt) (step x.key t.val t.isLt))
  wr := wrOut x t h.wr
  st := (rowsOut x (wrOut x t h.wr) t h.z.1 (k0_pay2 (step x.v t.val t.isLt)) 64 (h.st, (k0_pay5 (F := F), k0_pay6 (F := F)))).1
  z := (rowsOut x (wrOut x t h.wr) t h.z.1 (k0_pay2 (step x.v t.val t.isLt)) 64 (h.st, (k0_pay5 (F := F), k0_pay6 (F := F)))).2

/-- After `n` trips. -/
def walkOut (x : In F) (h : Held F) : ℕ → Held F
  | 0 => h
  | n + 1 => if hn : n < k0_t1_loop.trips then tripOut x ⟨n, hn⟩ (walkOut x h n) else walkOut x h n

theorem walkOut_succ (x : In F) (h : Held F) (t : Fin k0_t1_loop.trips) : walkOut x h (t.val + 1) = tripOut x t (walkOut x h t.val) := by
  rw [walkOut]; exact dif_pos t.isLt

/-- The two sums after row `k` before the first trip. -/
def firstOut (x : In F) (R : Vec F S2x64x128 .f32) (S : Vec F S64x64x128 .f32) (k : Fin 64) (z : Sums F) : Sums F :=
  (k0_pay9 z.1 (k0_pay278 (stRow S k)) (cell x.a 0 (by decide) k), k0_pay9 z.2 (k0_pay278 (stRow S k)) (wrCell R 0 (by decide) k))
/-- After the last `n` of those rows. -/
def firstsOut (x : In F) (R : Vec F S2x64x128 .f32) (S : Vec F S64x64x128 .f32) : ℕ → Sums F → Sums F
  | 0, z => z
  | n + 1, z => firstsOut x R S n (firstOut x R S ⟨63 - n, by omega⟩ z)

/-- The state a point starts from. -/
def stIn (i : grid0.Coords) (s0 : Vec F S1x64x64x128 .f32) (S : Vec F S64x64x128 .f32) : Vec F S64x64x128 .f32 :=
  if isFirst i = 1#1 then k0_pay276 s0 else S
/-- The decayed receptance it starts from. -/
def wrIn (x : In F) (R : Vec F S2x64x128 .f32) : Vec F S2x64x128 .f32 :=
  put R ![0, 0, 0] S1x64x128.size (k0_pay277 (step x.w 0 (by decide)) (step x.r 0 (by decide)))
/-- What the trips start from. -/
def heldIn (x : In F) (i : grid0.Coords) (s0 : Vec F S1x64x64x128 .f32) (y : Vec F S32x64x128 .f32) (S : Vec F S64x64x128 .f32) (R : Vec F S2x64x128 .f32) : Held F where
  y := y
  wr := wrIn x R
  st := stIn i s0 S
  z := firstsOut x (wrIn x R) (stIn i s0 S) 64 (k0_pay5 (F := F), k0_pay6 (F := F))
/-- What a point leaves. -/
def out (x : In F) (i : grid0.Coords) (s0 : Vec F S1x64x64x128 .f32) (y : Vec F S32x64x128 .f32) (S : Vec F S64x64x128 .f32) (R : Vec F S2x64x128 .f32) : Held F :=
  walkOut x (heldIn x i s0 y S R) k0_t1_loop.trips
/-- The final state's buffer after a point. -/
def finOut (i : grid0.Coords) (S : Vec F S64x64x128 .f32) (fin : Vec F S1x64x64x128 .f32) : Vec F S1x64x64x128 .f32 :=
  if k0_cond2 i = 1#1 then k0_pay1 S else fin

/-! ## The runs -/

section
variable (c : Dev nD) (E : Set ℕ)
  (arg2 : Memref sig .tc .vmem S32x64x128 .f32) (harg2 : arg2.IsWhole) (arg3 : Memref sig .tc .vmem S32x64x128 .f32) (harg3 : arg3.IsWhole)
  (arg4 : Memref sig .tc .vmem S32x64x128 .f32) (harg4 : arg4.IsWhole) (arg5 : Memref sig .tc .vmem S32x64x128 .f32) (harg5 : arg5.IsWhole)
  (arg6 : Memref sig .tc .vmem S32x64x128 .f32) (harg6 : arg6.IsWhole) (arg7 : Memref sig .tc .vmem S32x64x128 .f32) (harg7 : arg7.IsWhole)
  (arg8 : Memref sig .tc .vmem S1x64x64x128 .f32) (harg8 : arg8.IsWhole) (arg9 : Memref sig .tc .vmem S32x64x128 .f32) (harg9 : arg9.IsWhole)
  (arg10 : Memref sig .tc .vmem S1x64x64x128 .f32) (harg10 : arg10.IsWhole) (arg11 : Memref sig .tc .vmem S64x64x128 .f32) (harg11 : arg11.IsWhole)
  (arg12 : Memref sig .tc .vmem S2x64x128 .f32) (harg12 : arg12.IsWhole)

/-- A load of one row of one step. -/
theorem load_step (m : Memref sig .tc .vmem S32x64x128 .f32) {t : ℕ} {ht : t < 32} {k : Fin 64} {off : Fin 3 → ℕ} (e : off = ![t, k.val, 0])
    (inb : ∀ a, off a + S1x1x128.size a ≤ S32x64x128.size a) (f : m.view.ty.Contents (Elt F)) :
    m.view.readAt (Elt F) (Rect.unit (s := S32x64x128) off S1x1x128.size inb).toLoadRect f = cell (m.view.read (Elt F) f) t ht k :=
  View.readAt_unit m.view f inb e (inb_row t 32 ht k)
/-- A load of one row of a slot. -/
theorem load_slot (m : Memref sig .tc .vmem S2x64x128 .f32) {t : ℕ} {ht : t < 2} {k : Fin 64} {off : Fin 3 → ℕ} (e : off = ![t, k.val, 0])
    (inb : ∀ a, off a + S1x1x128.size a ≤ S2x64x128.size a) (f : m.view.ty.Contents (Elt F)) :
    m.view.readAt (Elt F) (Rect.unit (s := S2x64x128) off S1x1x128.size inb).toLoadRect f = wrCell (m.view.read (Elt F) f) t ht k :=
  View.readAt_unit m.view f inb e (inb_row t 2 ht k)
/-- A load of all rows of one step. -/
theorem load_all (m : Memref sig .tc .vmem S32x64x128 .f32) {t : ℕ} {ht : t < 32} {off : Fin 3 → ℕ} (e : off = ![t, 0, 0])
    (inb : ∀ a, off a + S1x64x128.size a ≤ S32x64x128.size a) (f : m.view.ty.Contents (Elt F)) :
    m.view.readAt (Elt F) (Rect.unit (s := S32x64x128) off S1x64x128.size inb).toLoadRect f = step (m.view.read (Elt F) f) t ht :=
  View.readAt_unit m.view f inb e (inb_step t 32 ht)
/-- A load of one row of the state. -/
theorem load_row (m : Memref sig .tc .vmem S64x64x128 .f32) (k : Fin 64) (f : m.view.ty.Contents (Elt F)) :
    m.view.readAt (Elt F) (Rect.unit (s := S64x64x128) ![k.val, 0, 0] S1x64x128.size (offS_inb k)).toLoadRect f = stRow (m.view.read (Elt F) f) k :=
  rfl

/-- A row's run. -/
theorem row_sound (x : In F) (R : Vec F S2x64x128 .f32) (t : Fin k0_t1_loop.trips) (sa v : FVec F S64x128 .f32) (k : Fin 64)
    (p : Vec F S64x64x128 .f32 × Sums F) (K : Sums F → sProp 𝕄) :
    iprop(owns (c : Thread nD τ) arg2 fullShare x.w ∗ owns (c : Thread nD τ) arg3 fullShare x.key ∗ owns (c : Thread nD τ) arg4 fullShare x.b
        ∗ owns (c : Thread nD τ) arg5 fullShare x.a ∗ owns (c : Thread nD τ) arg11 fullShare p.1 ∗ owns (c : Thread nD τ) arg12 fullShare R
        ∗ (iprop(owns (c : Thread nD τ) arg2 fullShare x.w ∗ owns (c : Thread nD τ) arg3 fullShare x.key ∗ owns (c : Thread nD τ) arg4 fullShare x.b
            ∗ owns (c : Thread nD τ) arg5 fullShare x.a ∗ owns (c : Thread nD τ) arg11 fullShare (rowOut x R t sa v k p).1 ∗ owns (c : Thread nD τ) arg12 fullShare R)
            -∗ K (rowOut x R t sa v k p).2))
      ⊢ wp frame (wpE (defs₀ (F := F)) Variants.none c none) E (row arg2 arg3 arg4 arg5 arg11 arg12 t sa v k p.2) K := by
  obtain ⟨w, key, b, a, r, vv⟩ := x
  obtain ⟨S, z⟩ := p
  unfold row owns rowOut
  iintro ⟨⟨%f2, %hf2, H2⟩, ⟨%f3, %hf3, H3⟩, ⟨%f4, %hf4, H4⟩, ⟨%f5, %hf5, H5⟩, ⟨%f11, %hf11, H11⟩, ⟨%f12, %hf12, H12⟩, Hk⟩
  dsimp only at hf2 hf3 hf4 hf5 hf11
  subst hf2 hf3 hf4 hf5 hf11 hf12
  sl_exec
  sl_step
  rw [load_step arg2 (ht := t.isLt) (offW_eq t k.val) (offW_inb t k) f2, load_step arg3 (ht := t.isLt) (offW_eq t k.val) (offW_inb t k) f3,
    load_step arg4 (ht := t.isLt) (offW_eq t k.val) (offW_inb t k) f4, load_step arg5 (ht := next_lt t.val) (offA_eq t k.val) (offA_inb t k) f5,
    load_slot arg12 (ht := slot_lt t.val) (offR_eq t k.val) (offR_inb t k) f12, load_row arg11 k f11]
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H11]; · iexists _; isplitr; swap; · iexact H11
                   ipureintro
                   exact View.read_writes_cons_put _ _ _ _ _ rfl
  iexists f12; isplitr; · ipureintro; rfl
  iexact H12

/-- The last rows' run, by the number of them. -/
theorem rows_sound (x : In F) (R : Vec F S2x64x128 .f32) (t : Fin k0_t1_loop.trips) (sa v : FVec F S64x128 .f32) (n : ℕ) :
    ∀ (p : Vec F S64x64x128 .f32 × Sums F) (K : Sums F → sProp 𝕄),
    iprop(owns (c : Thread nD τ) arg2 fullShare x.w ∗ owns (c : Thread nD τ) arg3 fullShare x.key ∗ owns (c : Thread nD τ) arg4 fullShare x.b
        ∗ owns (c : Thread nD τ) arg5 fullShare x.a ∗ owns (c : Thread nD τ) arg11 fullShare p.1 ∗ owns (c : Thread nD τ) arg12 fullShare R
        ∗ (iprop(owns (c : Thread nD τ) arg2 fullShare x.w ∗ owns (c : Thread nD τ) arg3 fullShare x.key ∗ owns (c : Thread nD τ) arg4 fullShare x.b
            ∗ owns (c : Thread nD τ) arg5 fullShare x.a ∗ owns (c : Thread nD τ) arg11 fullShare (rowsOut x R t sa v n p).1 ∗ owns (c : Thread nD τ) arg12 fullShare R)
            -∗ K (rowsOut x R t sa v n p).2))
      ⊢ wp frame (wpE (defs₀ (F := F)) Variants.none c none) E (rows arg2 arg3 arg4 arg5 arg11 arg12 t sa v n p.2) K := by
  induction n with
  | zero =>
    intro p K
    rw [rows, rowsOut, Prog.pure_eq_ret, wp_ret]
    iintro ⟨H2, H3, H4, H5, H11, H12, Hk⟩
    imodintro
    iapply Hk
    isplitl [H2]; · iexact H2
    isplitl [H3]; · iexact H3
    isplitl [H4]; · iexact H4
    isplitl [H5]; · iexact H5
    isplitl [H11]; · iexact H11
    iexact H12
  | succ n ih =>
    intro p K
    rw [rows, rowsOut, wp_bind]
    iintro ⟨H2, H3, H4, H5, H11, H12, Hk⟩
    iapply (row_sound c E arg2 arg3 arg4 arg5 arg11 arg12 x R t sa v _ p)
    isplitl [H2]; · iexact H2
    isplitl [H3]; · iexact H3
    isplitl [H4]; · iexact H4
    isplitl [H5]; · iexact H5
    isplitl [H11]; · iexact H11
    isplitl [H12]; · iexact H12
    iintro ⟨H2, H3, H4, H5, H11, H12⟩
    iapply (ih _ K)
    isplitl [H2]; · iexact H2
    isplitl [H3]; · iexact H3
    isplitl [H4]; · iexact H4
    isplitl [H5]; · iexact H5
    isplitl [H11]; · iexact H11
    isplitl [H12]; · iexact H12
    iexact Hk

/-- The run of a trip's start. -/
theorem start_sound (x : In F) (t : Fin k0_t1_loop.trips) (h : Held F) (K : Vec F S1x64x128 .f32 → sProp 𝕄) :
    iprop(owns (c : Thread nD τ) arg2 fullShare x.w ∗ owns (c : Thread nD τ) arg3 fullShare x.key ∗ owns (c : Thread nD τ) arg4 fullShare x.b
        ∗ owns (c : Thread nD τ) arg6 fullShare x.r ∗ owns (c : Thread nD τ) arg7 fullShare x.v
        ∗ owns (c : Thread nD τ) arg9 fullShare h.y ∗ owns (c : Thread nD τ) arg12 fullShare h.wr
        ∗ (iprop(owns (c : Thread nD τ) arg2 fullShare x.w ∗ owns (c : Thread nD τ) arg3 fullShare x.key ∗ owns (c : Thread nD τ) arg4 fullShare x.b
            ∗ owns (c : Thread nD τ) arg6 fullShare x.r ∗ owns (c : Thread nD τ) arg7 fullShare x.v
            ∗ owns (c : Thread nD τ) arg9 fullShare (tripOut x t h).y ∗ owns (c : Thread nD τ) arg12 fullShare (wrOut x t h.wr))
            -∗ K (step x.v t.val t.isLt)))
      ⊢ wp frame (wpE (defs₀ (F := F)) Variants.none c none) E (start arg2 arg3 arg4 arg6 arg7 arg9 arg12 t h.z) K := by
  obtain ⟨w, key, b, a, r, v⟩ := x
  obtain ⟨y, R, S, z⟩ := h
  unfold start owns
  iintro ⟨⟨%f2, %hf2, H2⟩, ⟨%f3, %hf3, H3⟩, ⟨%f4, %hf4, H4⟩, ⟨%f6, %hf6, H6⟩, ⟨%f7, %hf7, H7⟩, ⟨%f9, %hf9, H9⟩, ⟨%f12, %hf12, H12⟩, Hk⟩
  dsimp only at hf2 hf3 hf4 hf6 hf7 hf9 hf12
  subst hf2 hf3 hf4 hf6 hf7 hf9 hf12
  sl_exec
  sl_step
  rw [load_all arg6 (ht := t.isLt) (k0_off1_eq t) (k0_off1_inb t) f6, load_all arg7 (ht := t.isLt) (k0_off1_eq t) (k0_off1_inb t) f7,
    load_all arg4 (ht := t.isLt) (k0_off1_eq t) (k0_off1_inb t) f4, load_all arg3 (ht := t.isLt) (k0_off1_eq t) (k0_off1_inb t) f3,
    load_all arg2 (ht := next_lt t.val) (k0_off2_eq t) (k0_off2_inb t) f2, load_all arg6 (ht := next_lt t.val) (k0_off2_eq t) (k0_off2_inb t) f6]
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H6]; · iexists f6; isplitr; · ipureintro; rfl
                  iexact H6
  isplitl [H7]; · iexists f7; isplitr; · ipureintro; rfl
                  iexact H7
  isplitl [H9]; · iexists _; isplitr; swap; · iexact H9
                  ipureintro
                  exact View.read_writes_cons_put _ _ _ _ _ (k0_off1_eq t)
  iexists _; isplitr; swap; · iexact H12
  ipureintro
  exact View.read_writes_cons_put _ _ _ _ _ (offR_eq t 0)

/-- A trip's run. -/
theorem trip_sound (x : In F) (t : Fin k0_t1_loop.trips) (h : Held F) (K : Sums F → sProp 𝕄) :
    iprop(owns (c : Thread nD τ) arg2 fullShare x.w ∗ owns (c : Thread nD τ) arg3 fullShare x.key ∗ owns (c : Thread nD τ) arg4 fullShare x.b
        ∗ owns (c : Thread nD τ) arg5 fullShare x.a ∗ owns (c : Thread nD τ) arg6 fullShare x.r ∗ owns (c : Thread nD τ) arg7 fullShare x.v
        ∗ owns (c : Thread nD τ) arg9 fullShare h.y ∗ owns (c : Thread nD τ) arg11 fullShare h.st ∗ owns (c : Thread nD τ) arg12 fullShare h.wr
        ∗ (iprop(owns (c : Thread nD τ) arg2 fullShare x.w ∗ owns (c : Thread nD τ) arg3 fullShare x.key ∗ owns (c : Thread nD τ) arg4 fullShare x.b
            ∗ owns (c : Thread nD τ) arg5 fullShare x.a ∗ owns (c : Thread nD τ) arg6 fullShare x.r ∗ owns (c : Thread nD τ) arg7 fullShare x.v
            ∗ owns (c : Thread nD τ) arg9 fullShare (tripOut x t h).y ∗ owns (c : Thread nD τ) arg11 fullShare (tripOut x t h).st
            ∗ owns (c : Thread nD τ) arg12 fullShare (tripOut x t h).wr)
            -∗ K (tripOut x t h).z))
      ⊢ wp frame (wpE (defs₀ (F := F)) Variants.none c none) E (trip arg2 arg3 arg4 arg5 arg6 arg7 arg9 arg11 arg12 t h.z) K := by
  rw [trip, wp_bind]
  iintro ⟨H2, H3, H4, H5, H6, H7, H9, H11, H12, Hk⟩
  iapply (start_sound c E arg2 arg3 arg4 arg6 arg7 arg9 arg12 x t h)
  isplitl [H2]; · iexact H2
  isplitl [H3]; · iexact H3
  isplitl [H4]; · iexact H4
  isplitl [H6]; · iexact H6
  isplitl [H7]; · iexact H7
  isplitl [H9]; · iexact H9
  isplitl [H12]; · iexact H12
  iintro ⟨H2, H3, H4, H6, H7, H9, H12⟩
  iapply (rows_sound c E arg2 arg3 arg4 arg5 arg11 arg12 x (wrOut x t h.wr) t h.z.1 (k0_pay2 (step x.v t.val t.isLt)) 64 (h.st, (k0_pay5 (F := F), k0_pay6 (F := F))) K)
  isplitl [H2]; · iexact H2
  isplitl [H3]; · iexact H3
  isplitl [H4]; · iexact H4
  isplitl [H5]; · iexact H5
  isplitl [H11]; · iexact H11
  isplitl [H12]; · iexact H12
  iintro ⟨H2, H3, H4, H5, H11, H12⟩
  rw [show (rowsOut x (wrOut x t h.wr) t h.z.1 (k0_pay2 (step x.v t.val t.isLt)) 64 (h.st, (k0_pay5 (F := F), k0_pay6 (F := F)))).2 = (tripOut x t h).z from rfl]
  iapply Hk
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  iexact H12

/-- One row before the first trip. -/
theorem first_sound (x : In F) (R : Vec F S2x64x128 .f32) (S : Vec F S64x64x128 .f32) (k : Fin 64) (z : Sums F) (K : Sums F → sProp 𝕄) :
    iprop(owns (c : Thread nD τ) arg5 fullShare x.a ∗ owns (c : Thread nD τ) arg11 fullShare S ∗ owns (c : Thread nD τ) arg12 fullShare R
        ∗ (iprop(owns (c : Thread nD τ) arg5 fullShare x.a ∗ owns (c : Thread nD τ) arg11 fullShare S ∗ owns (c : Thread nD τ) arg12 fullShare R)
            -∗ K (firstOut x R S k z)))
      ⊢ wp frame (wpE (defs₀ (F := F)) Variants.none c none) E (first arg5 arg11 arg12 k z) K := by
  obtain ⟨w, key, b, a, r, vv⟩ := x
  unfold first owns firstOut
  iintro ⟨⟨%f5, %hf5, H5⟩, ⟨%f11, %hf11, H11⟩, ⟨%f12, %hf12, H12⟩, Hk⟩
  dsimp only at hf5 hf11 hf12
  subst hf5 hf11 hf12
  sl_exec
  sl_step
  rw [load_step arg5 (ht := by decide) rfl _ f5, load_slot arg12 (ht := by decide) rfl _ f12, load_row arg11 k f11]
  iapply Hk
  isplitl [H5]; · iexists f5; isplitr; · ipureintro; rfl
                  iexact H5
  isplitl [H11]; · iexists f11; isplitr; · ipureintro; rfl
                   iexact H11
  iexists f12; isplitr; · ipureintro; rfl
  iexact H12

/-- The last of those rows, by the number of them. -/
theorem firsts_sound (x : In F) (R : Vec F S2x64x128 .f32) (S : Vec F S64x64x128 .f32) (n : ℕ) :
    ∀ (z : Sums F) (K : Sums F → sProp 𝕄),
    iprop(owns (c : Thread nD τ) arg5 fullShare x.a ∗ owns (c : Thread nD τ) arg11 fullShare S ∗ owns (c : Thread nD τ) arg12 fullShare R
        ∗ (iprop(owns (c : Thread nD τ) arg5 fullShare x.a ∗ owns (c : Thread nD τ) arg11 fullShare S ∗ owns (c : Thread nD τ) arg12 fullShare R)
            -∗ K (firstsOut x R S n z)))
      ⊢ wp frame (wpE (defs₀ (F := F)) Variants.none c none) E (firsts arg5 arg11 arg12 n z) K := by
  induction n with
  | zero =>
    intro z K
    rw [firsts, firstsOut, Prog.pure_eq_ret, wp_ret]
    iintro ⟨H5, H11, H12, Hk⟩
    imodintro
    iapply Hk
    isplitl [H5]; · iexact H5
    isplitl [H11]; · iexact H11
    iexact H12
  | succ n ih =>
    intro z K
    rw [firsts, firstsOut, wp_bind]
    iintro ⟨H5, H11, H12, Hk⟩
    iapply (first_sound c E arg5 arg11 arg12 x R S _ z)
    isplitl [H5]; · iexact H5
    isplitl [H11]; · iexact H11
    isplitl [H12]; · iexact H12
    iintro ⟨H5, H11, H12⟩
    iapply (ih _ K)
    isplitl [H5]; · iexact H5
    isplitl [H11]; · iexact H11
    isplitl [H12]; · iexact H12
    iexact Hk

/-- What the loop holds after `n` trips. -/
def inv (x : In F) (h : Held F) (n : ℕ) (z : Sums F) : sProp 𝕄 :=
  iprop(⌜z = (walkOut x h n).z⌝ ∗ owns (c : Thread nD τ) arg2 fullShare x.w ∗ owns (c : Thread nD τ) arg3 fullShare x.key ∗ owns (c : Thread nD τ) arg4 fullShare x.b
        ∗ owns (c : Thread nD τ) arg5 fullShare x.a ∗ owns (c : Thread nD τ) arg6 fullShare x.r ∗ owns (c : Thread nD τ) arg7 fullShare x.v
        ∗ owns (c : Thread nD τ) arg9 fullShare (walkOut x h n).y ∗ owns (c : Thread nD τ) arg11 fullShare (walkOut x h n).st
        ∗ owns (c : Thread nD τ) arg12 fullShare (walkOut x h n).wr)

theorem inv_step (x : In F) (h : Held F) (t : Fin k0_t1_loop.trips) (z : Sums F) :
    inv c arg2 arg3 arg4 arg5 arg6 arg7 arg9 arg11 arg12 x h t.val z
      ⊢ wp frame (wpE (defs₀ (F := F)) Variants.none c none) E (trip arg2 arg3 arg4 arg5 arg6 arg7 arg9 arg11 arg12 t z)
          (inv c arg2 arg3 arg4 arg5 arg6 arg7 arg9 arg11 arg12 x h (t.val + 1)) := by
  unfold inv
  rw [walkOut_succ x h t]
  iintro ⟨%hz, H2, H3, H4, H5, H6, H7, H9, H11, H12⟩
  subst hz
  iapply (trip_sound c E arg2 arg3 arg4 arg5 arg6 arg7 arg9 arg11 arg12 x t (walkOut x h t.val))
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  iintro ⟨H2, H3, H4, H5, H6, H7, H9, H11, H12⟩
  isplitr; · ipureintro; rfl
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  iexact H12

/-- The loop's run. -/
theorem walk_sound (x : In F) (h : Held F) (K : PUnit → sProp 𝕄) :
    iprop(owns (c : Thread nD τ) arg2 fullShare x.w ∗ owns (c : Thread nD τ) arg3 fullShare x.key ∗ owns (c : Thread nD τ) arg4 fullShare x.b
        ∗ owns (c : Thread nD τ) arg5 fullShare x.a ∗ owns (c : Thread nD τ) arg6 fullShare x.r ∗ owns (c : Thread nD τ) arg7 fullShare x.v
        ∗ owns (c : Thread nD τ) arg9 fullShare h.y ∗ owns (c : Thread nD τ) arg11 fullShare h.st ∗ owns (c : Thread nD τ) arg12 fullShare h.wr
        ∗ (∀ z, inv c arg2 arg3 arg4 arg5 arg6 arg7 arg9 arg11 arg12 x h k0_t1_loop.trips z -∗ K ⟨⟩))
      ⊢ wp frame (wpE (defs₀ (F := F)) Variants.none c none) E (walk arg2 arg3 arg4 arg5 arg6 arg7 arg9 arg11 arg12 h.z) K := by
  rw [walk, wp_bind]
  iintro ⟨H2, H3, H4, H5, H6, H7, H9, H11, H12, Hk⟩
  iapply (Scf.wp_for _ _ _ k0_t1_loop.lb k0_t1_loop.ub k0_t1_loop.st k0_t1_ok h.z _ (inv c arg2 arg3 arg4 arg5 arg6 arg7 arg9 arg11 arg12 x h)
    (fun t z => inv_step c E arg2 arg3 arg4 arg5 arg6 arg7 arg9 arg11 arg12 x h t z))
  isplitr [Hk]
  · unfold inv
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H11]; · iexact H11
    iexact H12
  iintro %z HI
  rw [Prog.pure_eq_ret, wp_ret]
  imodintro
  iapply Hk $$ %z HI

/-- The state's entry. -/
theorem enter_sound (i : grid0.Coords) (s0 : Vec F S1x64x64x128 .f32) (S : Vec F S64x64x128 .f32) (K : PUnit → sProp 𝕄) :
    iprop(owns (c : Thread nD τ) arg8 fullShare s0 ∗ owns (c : Thread nD τ) arg11 fullShare S
        ∗ (iprop(owns (c : Thread nD τ) arg8 fullShare s0 ∗ owns (c : Thread nD τ) arg11 fullShare (stIn i s0 S)) -∗ K ⟨⟩))
      ⊢ wp frame (wpE (defs₀ (F := F)) Variants.none c none) E (enter arg11 arg8 i) K := by
  unfold enter stIn owns
  iintro ⟨⟨%f8, %hf8, H8⟩, ⟨%f11, %hf11, H11⟩, Hk⟩
  subst hf8 hf11
  by_cases h : isFirst i = 1#1
  all_goals
    simp only [h, if_true, if_false]
    sl_exec
    sl_step
    iapply Hk
    isplitl [H8]
    · iexists f8; isplitr; · ipureintro; rfl
      iexact H8
    iexists _; isplitr
    swap; · iexact H11
    ipureintro
  · rw [Rects.store3]
    exact congrArg k0_pay276 (View.readAt_full arg8.view f8 _)
  · rfl

/-- The first step's decayed receptance put in. -/
theorem receive_sound (x : In F) (R : Vec F S2x64x128 .f32) (K : PUnit → sProp 𝕄) :
    iprop(owns (c : Thread nD τ) arg2 fullShare x.w ∗ owns (c : Thread nD τ) arg6 fullShare x.r ∗ owns (c : Thread nD τ) arg12 fullShare R
        ∗ (iprop(owns (c : Thread nD τ) arg2 fullShare x.w ∗ owns (c : Thread nD τ) arg6 fullShare x.r ∗ owns (c : Thread nD τ) arg12 fullShare (wrIn x R)) -∗ K ⟨⟩))
      ⊢ wp frame (wpE (defs₀ (F := F)) Variants.none c none) E (receive arg2 arg6 arg12) K := by
  obtain ⟨w, key, b, a, r, vv⟩ := x
  unfold receive owns
  iintro ⟨⟨%f2, %hf2, H2⟩, ⟨%f6, %hf6, H6⟩, ⟨%f12, %hf12, H12⟩, Hk⟩
  dsimp only at hf2 hf6 hf12
  subst hf2 hf6 hf12
  sl_exec
  sl_step
  rw [load_all arg2 (t := 0) (ht := by decide) rfl _ f2, load_all arg6 (t := 0) (ht := by decide) rfl _ f6]
  iapply Hk
  isplitl [H2]
  · iexists f2; isplitr; · ipureintro; rfl
    iexact H2
  isplitl [H6]
  · iexists f6; isplitr; · ipureintro; rfl
    iexact H6
  iexists _; isplitr
  swap; · iexact H12
  ipureintro
  exact View.read_writes_cons_put _ _ _ _ _ rfl

/-- The state's exit. -/
theorem leave_sound (i : grid0.Coords) (fin : Vec F S1x64x64x128 .f32) (S : Vec F S64x64x128 .f32) (K : PUnit → sProp 𝕄) :
    iprop(owns (c : Thread nD τ) arg10 fullShare fin ∗ owns (c : Thread nD τ) arg11 fullShare S
        ∗ (iprop(owns (c : Thread nD τ) arg10 fullShare (finOut i S fin) ∗ owns (c : Thread nD τ) arg11 fullShare S) -∗ K ⟨⟩))
      ⊢ wp frame (wpE (defs₀ (F := F)) Variants.none c none) E (leave arg11 arg10 i) K := by
  unfold leave finOut owns
  iintro ⟨⟨%f10, %hf10, H10⟩, ⟨%f11, %hf11, H11⟩, Hk⟩
  subst hf10 hf11
  by_cases h : k0_cond2 i = 1#1
  all_goals
    simp only [h, if_true, if_false]
    sl_exec
    sl_step
    iapply Hk
    isplitr [H11]
    swap
    · iexists f11; isplitr; · ipureintro; rfl
      iexact H11
    iexists _; isplitr
    swap; · iexact H10
    ipureintro
  · exact (View.read_writes_full arg10.view f10 _ _ _).trans (congrArg k0_pay1 (View.readAt_full arg11.view f11 _))
  · rfl

/-- The body's run. -/
theorem sound_kernel (i : grid0.Coords) (x : In F) (s0 fin : Vec F S1x64x64x128 .f32) (y : Vec F S32x64x128 .f32)
    (S : Vec F S64x64x128 .f32) (R : Vec F S2x64x128 .f32) (K : PUnit → sProp 𝕄) :
    iprop(owns (c : Thread nD τ) arg2 fullShare x.w ∗ owns (c : Thread nD τ) arg3 fullShare x.key ∗ owns (c : Thread nD τ) arg4 fullShare x.b
        ∗ owns (c : Thread nD τ) arg5 fullShare x.a ∗ owns (c : Thread nD τ) arg6 fullShare x.r ∗ owns (c : Thread nD τ) arg7 fullShare x.v
        ∗ owns (c : Thread nD τ) arg8 fullShare s0 ∗ owns (c : Thread nD τ) arg9 fullShare y ∗ owns (c : Thread nD τ) arg10 fullShare fin
        ∗ owns (c : Thread nD τ) arg11 fullShare S ∗ owns (c : Thread nD τ) arg12 fullShare R
        ∗ (iprop(owns (c : Thread nD τ) arg2 fullShare x.w ∗ owns (c : Thread nD τ) arg3 fullShare x.key ∗ owns (c : Thread nD τ) arg4 fullShare x.b
            ∗ owns (c : Thread nD τ) arg5 fullShare x.a ∗ owns (c : Thread nD τ) arg6 fullShare x.r ∗ owns (c : Thread nD τ) arg7 fullShare x.v
            ∗ owns (c : Thread nD τ) arg8 fullShare s0 ∗ owns (c : Thread nD τ) arg9 fullShare (out x i s0 y S R).y
            ∗ owns (c : Thread nD τ) arg10 fullShare (finOut i (out x i s0 y S R).st fin)
            ∗ owns (c : Thread nD τ) arg11 fullShare (out x i s0 y S R).st ∗ owns (c : Thread nD τ) arg12 fullShare (out x i s0 y S R).wr) -∗ K ⟨⟩))
      ⊢ wp frame (wpE (defs₀ (F := F)) Variants.none c none) E
          (cc0_wkv_scan i arg2 harg2 arg3 harg3 arg4 harg4 arg5 harg5 arg6 harg6 arg7 harg7 arg8 harg8 arg9 harg9 arg10 harg10 arg11 harg11 arg12 harg12) K := by
  rw [body_eq, Shape.body, wp_bind]
  iintro ⟨H2, H3, H4, H5, H6, H7, H8, H9, H10, H11, H12, Hk⟩
  iapply (enter_sound c E arg8 arg11 i s0 S)
  isplitl [H8]; · iexact H8
  isplitl [H11]; · iexact H11
  iintro ⟨H8, H11⟩
  rw [wp_bind]
  iapply (receive_sound c E arg2 arg6 arg12 x R)
  isplitl [H2]; · iexact H2
  isplitl [H6]; · iexact H6
  isplitl [H12]; · iexact H12
  iintro ⟨H2, H6, H12⟩
  rw [wp_bind]
  iapply (firsts_sound c E arg5 arg11 arg12 x (wrIn x R) (stIn i s0 S) 64)
  isplitl [H5]; · iexact H5
  isplitl [H11]; · iexact H11
  isplitl [H12]; · iexact H12
  iintro ⟨H5, H11, H12⟩
  rw [wp_bind]
  iapply (walk_sound c E arg2 arg3 arg4 arg5 arg6 arg7 arg9 arg11 arg12 x (heldIn x i s0 y S R))
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  iintro %z HI
  unfold inv
  icases HI with ⟨%hz, H2, H3, H4, H5, H6, H7, H9, H11, H12⟩
  iapply (leave_sound c E arg10 arg11 i fin)
  isplitl [H10]; · iexact H10
  isplitl [H11]; · iexact H11
  iintro ⟨H10, H11⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end
end Cert.ScanIdeal.Body
end
-- ==== Proof.ScanIdealFrame.lean ====
/-
  The scan kernel's frame: the run ends with the arguments unchanged and the counters at zero. Nothing is said of what
  the staging buffers and the scratch hold.
-/
module

public import proofs.«01_k».proof.Proof.ScanIdealBody

@[expose] public section

set_option maxRecDepth 16384

noncomputable section

namespace Cert.ScanIdeal.Body

open Cert.ScanIdeal Cert.ScanIdeal.Gen Cert.ScanIdeal.Shape
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, each at some contents, and the generator register. -/
theorem scratch_eq (c : Dev nD) :
    (Pipeline.ΦA spec0 c : sProp 𝕄)
      = iprop(((∃ S : Vec F S64x64x128 .f32, owns (c : Thread nD τ) (Memref.whole cc0_scratch0) fullShare S)
          ∗ (∃ R : Vec F S2x64x128 .f32, owns (c : Thread nD τ) (Memref.whole cc0_scratch1) fullShare R)) ∗ ∃ r, prngReg c r) := by
  unfold Pipeline.ΦA
  rw [scopedRest0_eq]
  simp only [owns_whole]
  rfl

/-- Proof data that names the arrays and nothing of what the buffers hold. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem body_obligation (c : Dev nD) : (rdat m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, scratch_eq]
  iintro ⟨⟨⟨⟨%S, HS⟩, ⟨%R, HR⟩⟩, Hp⟩, Ho, H0, H1, H2, H3, H4, H5, H6, H7, H8⟩
  iapply (sound_kernel c Set.univ _ _ _ _ _ _ _ _ _ _ _ _ _ _ _ _ _ _ _ _ _ _ (grid0.coords t)
    ⟨Y 0, Y 1, Y 2, Y 3, Y 4, Y 5⟩ (Y 6) (Y 8) (Y 7) S R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HR]; · iexact HR
  iintro ⟨H0, H1, H2, H3, H4, H5, H6, H7, H8, HS, HR⟩
  isplitl [HS HR Hp]
  · isplitr [Hp]
    · isplitl [HS]
      · iexists _; iexact HS
      · iexists _; iexact HR
    · iexact Hp
  isplitl [Ho]; · iexact Ho
  isplitl [H0]; · iexists _; isplitr; swap; · iexact H0
                  ipureintro; trivial
  isplitl [H1]; · iexists _; isplitr; swap; · iexact H1
                  ipureintro; trivial
  isplitl [H2]; · iexists _; isplitr; swap; · iexact H2
                  ipureintro; trivial
  isplitl [H3]; · iexists _; isplitr; swap; · iexact H3
                  ipureintro; trivial
  isplitl [H4]; · iexists _; isplitr; swap; · iexact H4
                  ipureintro; trivial
  isplitl [H5]; · iexists _; isplitr; swap; · iexact H5
                  ipureintro; trivial
  isplitl [H6]; · iexists _; isplitr; swap; · iexact H6
                  ipureintro; trivial
  isplitl [H7]; · iexists _; isplitr; swap; · iexact H7
                  ipureintro; trivial
  iexists _; isplitr; swap; · iexact H8
  ipureintro; trivial

/-- The argument arrays end as they were and every counter ends at zero. -/
abbrev Kept (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0

/-- What a final state of the launch keeps, whatever the proof data say of the buffers. -/
theorem kept_of (rd : (c : Dev nD) → RDat τ (Elt F) Unit ℕ (UR sig nD τ) ℕ cfg0 c)
    (hA : ∀ c w, (rd c).A w = V m c (Pipeline.arrRef spec0 w)) (r : PUnit × MemSt nD τ sig (Elt F))
    (h : RDat.FramePost cfg0 rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hin : ∀ w, (cfg0.win w).isOut = false → r.2.mem ((cfg0.spec w).arr.view.loc (c.tc : Thread nD τ)) = V m c (Pipeline.arrRef spec0 w) :=
    fun w hw => by
      have h1 := (h c).1 w
      rw [RDat.ArrAt_in (rd c) w hw] at h1
      exact h1.trans (hA c w)
  exact ⟨(hin 0 rfl).trans (V_main_arg0 m c), (hin 1 rfl).trans (V_main_arg1 m c), (hin 2 rfl).trans (V_main_arg2 m c),
    (hin 3 rfl).trans (V_main_arg3 m c), (hin 4 rfl).trans (V_main_arg4 m c), (hin 5 rfl).trans (V_main_arg5 m c),
    (hin 6 rfl).trans (V_main_arg6 m c)⟩

set_option backward.isDefEq.respectTransparency.types false in
/-- The frame. -/
theorem run_kept : θ_run defs (onTc (τ := τ) (main (F := F))) (s₀ m ρ) (Kept m) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)
    (Q' := Kept m) (hQ' := fun r h => ⟨kept_of m (rdat m) (fun _ _ => rfl) r h.1, h.2⟩)

end Cert.ScanIdeal.Body
end
-- ==== Proof.Recurrence.lean ====
/-
  The RWKV-7 recurrence at one lane: a state of 64 keys by 64 values, moved by one step's decay, keys and value.
-/
module

public import Idealize.ShloMosaic.Lib.Pipeline.ValueKit

@[expose] public section

noncomputable section

namespace Cert.Recurrence

open Idealize.ShloMosaic

/-- A lane's six sequences by step: decay, key, added key, removal key, receptance, value. -/
structure Lane where
  w : ℕ → Fin 64 → EReal
  key : ℕ → Fin 64 → EReal
  b : ℕ → Fin 64 → EReal
  a : ℕ → Fin 64 → EReal
  r : ℕ → Fin 64 → EReal
  v : ℕ → Fin 64 → EReal

/-- A state: by key, then by value. -/
abbrev State := Fin 64 → Fin 64 → EReal

/-- A state read by a vector over its keys. -/
def read (S : State) (u : Fin 64 → EReal) (j : Fin 64) : EReal := ∑ k, S k j * u k

/-- One step. -/
def Lane.move (q : Lane) (n : ℕ) (S : State) : State := fun k j => S k j * q.w n k + read S (q.a n) j * q.b n k + q.v n j * q.key n k

/-- The state before step `n`. -/
def Lane.before (q : Lane) (S : State) : ℕ → State
  | 0 => S
  | n + 1 => q.move n (q.before S n)

/-- A step's output: the state after it, read by the receptance. -/
def Lane.plain (q : Lane) (n : ℕ) (S : State) (j : Fin 64) : EReal := read (q.move n S) (q.r n) j

/-- The same output from the state before the step. -/
def Lane.ahead (q : Lane) (n : ℕ) (S : State) (j : Fin 64) : EReal :=
  read S (fun k => q.w n k * q.r n k) j + read S (q.a n) j * (∑ k, q.b n k * q.r n k) + q.v n j * ∑ k, q.key n k * q.r n k

/-! ## The lanes of whole arrays -/

/-- 256 steps by 64 elements by 1024 lanes. -/
abbrev Seqs : Shape := ⟨3, ![256, 64, 1024]⟩
/-- Eight groups of 64 by 64 states of 128 lanes. -/
abbrev Starts : Shape := ⟨4, ![8, 64, 64, 128]⟩

/-- A sequence's step `n` at a lane. -/
def seqAt (X : Seqs.Idx → EReal) (L : Fin 1024) (n : ℕ) (k : Fin 64) : EReal := if h : n < 256 then X (ix3 ⟨n, h⟩ k L) else 0

/-- A lane of six arrays. -/
def laneAt (w key b a r v : Seqs.Idx → EReal) (L : Fin 1024) : Lane :=
  ⟨seqAt w L, seqAt key L, seqAt b L, seqAt a L, seqAt r L, seqAt v L⟩

/-- A lane's starting state. -/
def startAt (s0 : Starts.Idx → EReal) (L : Fin 1024) : State := fun k j =>
  s0 (ix4 ⟨L.val / 128, by omega⟩ k j ⟨L.val % 128, Nat.mod_lt _ (by decide)⟩)

/-- Two lanes agree at a step. -/
def Same (q : Lane) (n : ℕ) (q' : Lane) (n' : ℕ) : Prop :=
  q.w n = q'.w n' ∧ q.key n = q'.key n' ∧ q.b n = q'.b n' ∧ q.a n = q'.a n' ∧ q.r n = q'.r n' ∧ q.v n = q'.v n'

theorem move_same {q q' : Lane} {n n' : ℕ} (h : Same q n q' n') (S : State) : q.move n S = q'.move n' S := by
  obtain ⟨h1, h2, h3, h4, h5, h6⟩ := h
  unfold Lane.move; rw [h1, h2, h3, h4, h6]

theorem ahead_same {q q' : Lane} {n n' : ℕ} (h : Same q n q' n') (S : State) (j : Fin 64) : q.ahead n S j = q'.ahead n' S j := by
  obtain ⟨h1, h2, h3, h4, h5, h6⟩ := h
  unfold Lane.ahead; rw [h1, h2, h3, h4, h5, h6]

/-- The state runs through a stretch of a longer lane. -/
theorem before_stretch {q q' : Lane} (m : ℕ) (S : State) :
    ∀ n, (∀ i, i < n → Same q' i q (m + i)) → q'.before (q.before S m) n = q.before S (m + n)
  | 0, _ => rfl
  | n + 1, h => by
    show q'.move n (q'.before (q.before S m) n) = q.move (m + n) (q.before S (m + n))
    rw [before_stretch m S n fun i hi => h i (by omega)]
    exact move_same (h n (by omega)) _

/-! ## Real values -/

/-- Real numbers throughout. -/
def Real1 (u : Fin 64 → EReal) : Prop := ∃ f : Fin 64 → ℝ, u = fun k => (f k : EReal)
def Real2 (S : State) : Prop := ∃ f : Fin 64 → Fin 64 → ℝ, S = fun k j => (f k j : EReal)

theorem real1 {u : Fin 64 → EReal} (h : ∀ k, u k ≠ ⊤ ∧ u k ≠ ⊥) : Real1 u :=
  ⟨fun k => (u k).toReal, funext fun k => (EReal.coe_toReal (h k).1 (h k).2).symm⟩
theorem real2 {S : State} (h : ∀ k j, S k j ≠ ⊤ ∧ S k j ≠ ⊥) : Real2 S :=
  ⟨fun k j => (S k j).toReal, funext fun k => funext fun j => (EReal.coe_toReal (h k j).1 (h k j).2).symm⟩

/-- All of a lane's steps before `n` are real. -/
def RealLane (q : Lane) (n : ℕ) : Prop := Real1 (q.w n) ∧ Real1 (q.key n) ∧ Real1 (q.b n) ∧ Real1 (q.a n) ∧ Real1 (q.r n) ∧ Real1 (q.v n)

theorem coe_sum {ι : Type} [Fintype ι] (f : ι → ℝ) : (∑ k, (f k : EReal)) = ((∑ k, f k : ℝ) : EReal) := by
  classical
  induction (Finset.univ : Finset ι) using Finset.induction with
  | empty => simp
  | insert x s hx ih => rw [Finset.sum_insert hx, Finset.sum_insert hx, ih, EReal.coe_add]

theorem read_coe (f : Fin 64 → Fin 64 → ℝ) (u : Fin 64 → ℝ) (j : Fin 64) :
    read (fun k j => (f k j : EReal)) (fun k => (u k : EReal)) j = ((∑ k, f k j * u k : ℝ) : EReal) := by
  unfold read
  rw [← coe_sum]
  exact Finset.sum_congr rfl fun k _ => (EReal.coe_mul _ _).symm

theorem move_real {q : Lane} {n : ℕ} (hq : RealLane q n) {S : State} (hS : Real2 S) : Real2 (q.move n S) := by
  obtain ⟨⟨w, hw⟩, ⟨key, hk⟩, ⟨b, hb⟩, ⟨a, ha⟩, -, ⟨v, hv⟩⟩ := hq
  obtain ⟨f, rfl⟩ := hS
  refine ⟨fun k j => f k j * w k + (∑ i, f i j * a i) * b k + v j * key k, ?_⟩
  funext k j
  unfold Lane.move
  rw [hw, hk, hb, ha, hv, read_coe]
  simp only [EReal.coe_add, EReal.coe_mul]

theorem before_real {q : Lane} {S : State} (hS : Real2 S) : ∀ n, (∀ i, i < n → RealLane q i) → Real2 (q.before S n)
  | 0, _ => hS
  | n + 1, h => move_real (h n (by omega)) (before_real hS n fun i hi => h i (by omega))

/-- At real numbers the two ways to a step's output agree. -/
theorem ahead_eq_plain {q : Lane} {n : ℕ} (hq : RealLane q n) {S : State} (hS : Real2 S) (j : Fin 64) : q.ahead n S j = q.plain n S j := by
  obtain ⟨⟨w, hw⟩, ⟨key, hk⟩, ⟨b, hb⟩, ⟨a, ha⟩, ⟨r, hr⟩, ⟨v, hv⟩⟩ := hq
  obtain ⟨f, rfl⟩ := hS
  have hm : q.move n (fun k j => (f k j : EReal)) = fun k j => ((f k j * w k + (∑ i, f i j * a i) * b k + v j * key k : ℝ) : EReal) := by
    funext k j
    unfold Lane.move
    rw [hw, hk, hb, ha, hv, read_coe]
    simp only [EReal.coe_add, EReal.coe_mul]
  unfold Lane.plain Lane.ahead
  rw [hm, hr, read_coe, hw, hk, hb, ha, hv, read_coe]
  simp only [← EReal.coe_mul]
  rw [read_coe, coe_sum, coe_sum]
  simp only [← EReal.coe_mul, ← EReal.coe_add]
  refine congrArg _ ?_
  rw [Finset.mul_sum, Finset.mul_sum, ← Finset.sum_add_distrib, ← Finset.sum_add_distrib]
  exact Finset.sum_congr rfl fun k _ => by ring

end Cert.Recurrence

end
-- ==== Proof.ScanRows.lean ====
/-
  The scan kernel's trips at the ideal floats: a grid point walks a block of 32 steps of the recurrence, at each of its
  128 lanes.
-/
module

public import proofs.«01_k».proof.Proof.ScanIdealBody
public import proofs.«01_k».proof.Proof.Recurrence
public import Idealize.ShloMosaic.Lib.Pipeline.ValueKit

@[expose] public section

set_option maxRecDepth 16384

noncomputable section

namespace Cert.ScanIdeal.Value

open Cert.ScanIdeal Cert.ScanIdeal.Gen Cert.ScanIdeal.Shape Cert.ScanIdeal.Body Cert.Recurrence
open Idealize.ShloMosaic Idealize.ShloMosaic.TcCoe Idealize.ShloMosaic.Tactic
open VecWindow (window put)

/-! ## Windows at an element -/

theorem step_at (x : Vec Ideal S32x64x128 .f32) (t : ℕ) (ht : t < 32) (k : Fin 64) (l : Fin 128) :
    step x t ht (ix3 0 k l) = x (ix3 ⟨t, ht⟩ k l) :=
  congrArg x (funext fun a => Fin.ext (by fin_cases a <;> simp [Rect.emb, Rect.unit, ix3]))

theorem cell_at (x : Vec Ideal S32x64x128 .f32) (t : ℕ) (ht : t < 32) (k : Fin 64) (l : Fin 128) :
    cell x t ht k (ix3 0 0 l) = x (ix3 ⟨t, ht⟩ k l) :=
  congrArg x (funext fun a => Fin.ext (by fin_cases a <;> simp [Rect.emb, Rect.unit, ix3]))

theorem wrCell_at (x : Vec Ideal S2x64x128 .f32) (t : ℕ) (ht : t < 2) (k : Fin 64) (l : Fin 128) :
    wrCell x t ht k (ix3 0 0 l) = x (ix3 ⟨t, ht⟩ k l) :=
  congrArg x (funext fun a => Fin.ext (by fin_cases a <;> simp [Rect.emb, Rect.unit, ix3]))

theorem stRow_at (S : Vec Ideal S64x64x128 .f32) (k j : Fin 64) (l : Fin 128) : stRow S k (ix3 0 j l) = S (ix3 k j l) :=
  congrArg S (funext fun a => Fin.ext (by fin_cases a <;> simp [Rect.emb, Rect.unit, ix3]))

/-- A store of one slice of a buffer of `n`, at an element. -/
theorem put_at {n : ℕ} (x : (⟨3, ![n, 64, 128]⟩ : Shape).Idx → EReal) (t : ℕ) (w : Vec Ideal S1x64x128 .f32) (t' : Fin n) (k : Fin 64) (l : Fin 128) :
    put (s := ⟨3, ![n, 64, 128]⟩) x ![t, 0, 0] S1x64x128.size w (ix3 t' k l) = if t'.val = t then w (ix3 0 k l) else x (ix3 t' k l) := by
  have hk := k.isLt
  have hl := l.isLt
  unfold VecWindow.put
  by_cases h : t'.val = t
  · subst h
    have hin : ∀ a : Fin 3, (![t'.val, 0, 0] : Fin 3 → ℕ) a ≤ ((ix3 t' k l) a).val ∧ ((ix3 t' k l) a).val < (![t'.val, 0, 0] : Fin 3 → ℕ) a + S1x64x128.size a := by
      intro a; fin_cases a <;> simp [ix3, Shape.size] <;> omega
    rw [if_pos rfl]
    refine (dif_pos hin).trans (congrArg w (funext fun a => Fin.ext ?_))
    fin_cases a <;> simp [Rect.unitLocal, ix3] <;> omega
  · rw [if_neg h]
    exact dif_neg fun hin => h (Nat.le_antisymm (Nat.lt_succ_iff.mp (hin 0).2) (hin 0).1)

/-! ## Payloads at an element -/

theorem pay13_at (sa v : FVec Ideal S64x128 .f32) (s : Vec Ideal S1x64x128 .f32) (w b key : Vec Ideal S1x1x128 .f32) (j : Fin 64) (l : Fin 128) :
    k0_pay13 sa v s w b key (ix2 j l)
      = s (ix3 0 j l) * w (ix3 0 0 l) + sa (ix2 j l) * b (ix3 0 0 l) + v (ix2 j l) * key (ix3 0 0 l) := by
  pointwise [k0_pay13]

theorem pay14_at (sa v : FVec Ideal S64x128 .f32) (s : Vec Ideal S1x64x128 .f32) (w b key : Vec Ideal S1x1x128 .f32) (j : Fin 64) (l : Fin 128) :
    k0_pay14 sa v s w b key (ix3 0 j l) = k0_pay13 sa v s w b key (ix2 j l) := by
  pointwise [k0_pay14]

theorem pay9_at (z s : FVec Ideal S64x128 .f32) (u : Vec Ideal S1x1x128 .f32) (j : Fin 64) (l : Fin 128) :
    k0_pay9 z s u (ix2 j l) = z (ix2 j l) + s (ix2 j l) * u (ix3 0 0 l) := by
  pointwise [k0_pay9]

theorem pay2_at (v : Vec Ideal S1x64x128 .f32) (j : Fin 64) (l : Fin 128) : k0_pay2 v (ix2 j l) = v (ix3 0 j l) := by
  pointwise [k0_pay2]
theorem pay278_at (v : Vec Ideal S1x64x128 .f32) (j : Fin 64) (l : Fin 128) : k0_pay278 v (ix2 j l) = v (ix3 0 j l) := by
  pointwise [k0_pay278]
theorem pay5_at (j : Fin 64) (l : Fin 128) : k0_pay5 (F := Ideal) (ix2 j l) = 0 := by
  pointwise [k0_pay5]
theorem pay6_at (j : Fin 64) (l : Fin 128) : k0_pay6 (F := Ideal) (ix2 j l) = 0 := by
  pointwise [k0_pay6]
theorem pay4_at (w r : Vec Ideal S1x64x128 .f32) (j : Fin 64) (l : Fin 128) :
    k0_pay4 w r (ix3 0 j l) = w (ix3 0 j l) * r (ix3 0 j l) := by
  pointwise [k0_pay4]
theorem pay277_at (w r : Vec Ideal S1x64x128 .f32) (j : Fin 64) (l : Fin 128) :
    k0_pay277 w r (ix3 0 j l) = w (ix3 0 j l) * r (ix3 0 j l) := by
  pointwise [k0_pay277]
theorem pay276_at (s : Vec Ideal S1x64x64x128 .f32) (k j : Fin 64) (l : Fin 128) :
    k0_pay276 s (ix3 k j l) = s (ix4 0 k j l) := by
  pointwise [k0_pay276]
theorem pay1_at (s : Vec Ideal S64x64x128 .f32) (k j : Fin 64) (l : Fin 128) :
    k0_pay1 s (ix4 0 k j l) = s (ix3 k j l) := by
  pointwise [k0_pay1]
theorem pay3_at (sa y0 : FVec Ideal S64x128 .f32) (r v b key : Vec Ideal S1x64x128 .f32) (j : Fin 64) (l : Fin 128) :
    k0_pay3 sa y0 r v b key (ix3 0 j l)
      = y0 (ix2 j l) + sa (ix2 j l) * (∑ k : Fin 64, b (ix3 0 k l) * r (ix3 0 k l)) + v (ix3 0 j l) * ∑ k : Fin 64, key (ix3 0 k l) * r (ix3 0 k l) := by
  pointwise [k0_pay3]
  rw [pay2_at]

/-! ## A trip -/

theorem lt32 (t : Fin k0_t1_loop.trips) : t.val < 32 := t.isLt

/-- A block's step `n` at a lane. -/
def ev (X : Vec Ideal S32x64x128 .f32) (l : Fin 128) (n : ℕ) (k : Fin 64) : EReal := if h : n < 32 then X (ix3 ⟨n, h⟩ k l) else 0
theorem ev_at (X : Vec Ideal S32x64x128 .f32) (l : Fin 128) (n : ℕ) (h : n < 32) (k : Fin 64) : ev X l n k = X (ix3 ⟨n, h⟩ k l) := dif_pos h
/-- A point's blocks at a lane. -/
def lane (x : In Ideal) (l : Fin 128) : Lane := ⟨ev x.w l, ev x.key l, ev x.b l, ev x.a l, ev x.r l, ev x.v l⟩
/-- A state's values at a lane. -/
def stAt (S : Vec Ideal S64x64x128 .f32) (l : Fin 128) : State := fun k j => S (ix3 k j l)

/-- A sum over all rows that starts from nothing. -/
theorem sum_all {z : EReal} (hz : z = 0) {f g : Fin 64 → EReal} (h : ∀ k, f k = g k) :
    z + (∑ k : Fin 64, if 64 - 64 ≤ k.val then f k else 0) = ∑ k, g k := by
  rw [hz, zero_add]
  exact Finset.sum_congr rfl fun k _ => (if_pos (by omega)).trans (h k)

/-- The sum over the rows from `63 - n` on is row `63 - n` and the rows after it. -/
theorem sum_rows (f : Fin 64 → EReal) (n : ℕ) (hn : n < 64) :
    (∑ k : Fin 64, if 64 - (n + 1) ≤ k.val then f k else 0) = f ⟨63 - n, by omega⟩ + ∑ k : Fin 64, if 64 - n ≤ k.val then f k else 0 := by
  have e : ∀ k : Fin 64, (if 64 - (n + 1) ≤ k.val then f k else 0) = (if k = ⟨63 - n, by omega⟩ then f k else 0) + if 64 - n ≤ k.val then f k else 0 := by
    intro k
    by_cases h : k = ⟨63 - n, by omega⟩
    · have hv : k.val = 63 - n := congrArg Fin.val h
      rw [if_pos h, if_pos (by omega), if_neg (by omega), add_zero]
    · have hv : k.val ≠ 63 - n := fun e => h (Fin.ext e)
      rw [if_neg h, zero_add]
      by_cases h' : 64 - n ≤ k.val
      · rw [if_pos h', if_pos (by omega)]
      · rw [if_neg h', if_neg (by omega)]
  rw [Finset.sum_congr rfl fun k _ => e k, Finset.sum_add_distrib, Finset.sum_ite_eq' Finset.univ, if_pos (Finset.mem_univ _)]

section
variable (x : In Ideal) (R : Vec Ideal S2x64x128 .f32) (t : Fin k0_t1_loop.trips) (sa v : FVec Ideal S64x128 .f32) (j : Fin 64) (l : Fin 128)

/-- Row `k`'s new value of the old one `s`. -/
def fresh (k : Fin 64) (s : EReal) : EReal :=
  s * x.w (ix3 ⟨t.val, lt32 t⟩ k l) + sa (ix2 j l) * x.b (ix3 ⟨t.val, lt32 t⟩ k l) + v (ix2 j l) * x.key (ix3 ⟨t.val, lt32 t⟩ k l)

theorem pay13_row (S : Vec Ideal S64x64x128 .f32) (k : Fin 64) :
    k0_pay13 sa v (stRow S k) (cell x.w t.val t.isLt k) (cell x.b t.val t.isLt k) (cell x.key t.val t.isLt k) (ix2 j l)
      = fresh x t sa v j l k (S (ix3 k j l)) := by
  exact (pay13_at _ _ _ _ _ _ j l).trans (congrArg₂ (· + ·) (congrArg₂ (· + ·)
    (congrArg₂ (· * ·) (stRow_at S k j l) (cell_at x.w t.val (lt32 t) k l)) (congrArg (sa (ix2 j l) * ·) (cell_at x.b t.val (lt32 t) k l)))
    (congrArg (v (ix2 j l) * ·) (cell_at x.key t.val (lt32 t) k l)))

theorem row_state (p : Vec Ideal S64x64x128 .f32 × Sums Ideal) (k k' : Fin 64) :
    (rowOut x R t sa v k p).1 (ix3 k' j l) = if k' = k then fresh x t sa v j l k (p.1 (ix3 k j l)) else p.1 (ix3 k' j l) := by
  refine (put_at p.1 k.val _ k' j l).trans ?_
  rw [pay14_at, pay13_row]
  exact if_congr Fin.ext_iff.symm rfl rfl

theorem row_sa (p : Vec Ideal S64x64x128 .f32 × Sums Ideal) (k : Fin 64) :
    (rowOut x R t sa v k p).2.1 (ix2 j l)
      = p.2.1 (ix2 j l) + fresh x t sa v j l k (p.1 (ix3 k j l)) * x.a (ix3 ⟨next t.val, next_lt _⟩ k l) := by
  refine (pay9_at _ _ _ j l).trans ?_
  rw [pay13_row, cell_at]

theorem row_y0 (p : Vec Ideal S64x64x128 .f32 × Sums Ideal) (k : Fin 64) :
    (rowOut x R t sa v k p).2.2 (ix2 j l)
      = p.2.2 (ix2 j l) + fresh x t sa v j l k (p.1 (ix3 k j l)) * R (ix3 ⟨(t.val + 1) % 2, slot_lt _⟩ k l) := by
  refine (pay9_at _ _ _ j l).trans ?_
  rw [pay13_row, wrCell_at]

/-- The last `n` rows. -/
theorem rows_at : ∀ (n : ℕ) (hn : n ≤ 64) (p : Vec Ideal S64x64x128 .f32 × Sums Ideal),
    (∀ k, (rowsOut x R t sa v n p).1 (ix3 k j l) = if 64 - n ≤ k.val then fresh x t sa v j l k (p.1 (ix3 k j l)) else p.1 (ix3 k j l))
    ∧ (rowsOut x R t sa v n p).2.1 (ix2 j l) = p.2.1 (ix2 j l) + ∑ k : Fin 64, (if 64 - n ≤ k.val then
        fresh x t sa v j l k (p.1 (ix3 k j l)) * x.a (ix3 ⟨next t.val, next_lt _⟩ k l) else 0)
    ∧ (rowsOut x R t sa v n p).2.2 (ix2 j l) = p.2.2 (ix2 j l) + ∑ k : Fin 64, (if 64 - n ≤ k.val then
        fresh x t sa v j l k (p.1 (ix3 k j l)) * R (ix3 ⟨(t.val + 1) % 2, slot_lt _⟩ k l) else 0)
  | 0, hn, p => by
    have h : ∀ k : Fin 64, ¬ 64 - 0 ≤ k.val := fun k => by have := k.isLt; omega
    refine ⟨fun k => (if_neg (h k)).symm, ?_, ?_⟩
    · rw [Finset.sum_congr rfl fun k _ => if_neg (h k), Finset.sum_const_zero, add_zero]; rfl
    · rw [Finset.sum_congr rfl fun k _ => if_neg (h k), Finset.sum_const_zero, add_zero]; rfl
  | n + 1, hn, p => by
    obtain ⟨h1, h2, h3⟩ := rows_at n (by omega) (rowOut x R t sa v ⟨63 - n, by omega⟩ p)
    have other : ∀ k : Fin 64, 64 - n ≤ k.val → (rowOut x R t sa v ⟨63 - n, by omega⟩ p).1 (ix3 k j l) = p.1 (ix3 k j l) := fun k hk =>
      (row_state x R t sa v j l p _ k).trans (if_neg fun e => by have := congrArg Fin.val e; simp at this; omega)
    rw [rowsOut]
    refine ⟨fun k => (h1 k).trans ?_, h2.trans ?_, h3.trans ?_⟩
    · by_cases h : 64 - n ≤ k.val
      · rw [if_pos h, if_pos (by omega), other k h]
      · rw [if_neg h, row_state]
        by_cases h' : k = ⟨63 - n, by omega⟩
        · have hv : k.val = 63 - n := congrArg Fin.val h'
          rw [if_pos h', if_pos (by omega), h']
        · have hv : k.val ≠ 63 - n := fun e => h' (Fin.ext e)
          rw [if_neg h', if_neg (by omega)]
    · rw [row_sa, add_assoc, sum_rows _ n (by omega)]
      refine congrArg _ (congrArg _ (Finset.sum_congr rfl fun k _ => ?_))
      by_cases h : 64 - n ≤ k.val
      · rw [if_pos h, if_pos h, other k h]
      · rw [if_neg h, if_neg h]
    · rw [row_y0, add_assoc, sum_rows _ n (by omega)]
      refine congrArg _ (congrArg _ (Finset.sum_congr rfl fun k _ => ?_))
      by_cases h : 64 - n ≤ k.val
      · rw [if_pos h, if_pos h, other k h]
      · rw [if_neg h, if_neg h]

end

/-- What the sums hold at a lane: the state read by the removal key, and by the decayed receptance, of step `n`. -/
def Ready (x : In Ideal) (n : ℕ) (S : State) (z : Sums Ideal) (l : Fin 128) : Prop :=
  ∀ j, z.1 (ix2 j l) = read S ((lane x l).a n) j ∧ z.2 (ix2 j l) = read S (fun k => (lane x l).w n k * (lane x l).r n k) j

theorem wrOut_at (x : In Ideal) (t : Fin k0_t1_loop.trips) (R : Vec Ideal S2x64x128 .f32) (k : Fin 64) (l : Fin 128) :
    wrOut x t R (ix3 ⟨(t.val + 1) % 2, slot_lt _⟩ k l) = (lane x l).w (next t.val) k * (lane x l).r (next t.val) k := by
  refine (put_at (n := 2) R _ _ _ k l).trans ?_
  rw [if_pos rfl, pay4_at, step_at, step_at]
  exact congrArg₂ (· * ·) (ev_at x.w l _ (next_lt _) k).symm (ev_at x.r l _ (next_lt _) k).symm

section
variable (x : In Ideal) (t : Fin k0_t1_loop.trips) (h : Held Ideal) (l : Fin 128)
  (hz : Ready x t.val (stAt h.st l) h.z l)
include hz

theorem fresh_at (j k : Fin 64) :
    fresh x t h.z.1 (k0_pay2 (step x.v t.val t.isLt)) j l k (h.st (ix3 k j l)) = (lane x l).move t.val (stAt h.st l) k j := by
  have hv : k0_pay2 (step x.v t.val t.isLt) (ix2 j l) = ev x.v l t.val j :=
    (pay2_at _ j l).trans ((step_at x.v t.val (lt32 t) j l).trans (ev_at x.v l _ (lt32 t) j).symm)
  exact congrArg₂ (· + ·) (congrArg₂ (· + ·) (congrArg (h.st (ix3 k j l) * ·) (ev_at x.w l _ (lt32 t) k).symm)
    (congrArg₂ (· * ·) (hz j).1 (ev_at x.b l _ (lt32 t) k).symm)) (congrArg₂ (· * ·) hv (ev_at x.key l _ (lt32 t) k).symm)

/-- A trip moves the state by its step. -/
theorem trip_state : stAt (tripOut x t h).st l = (lane x l).move t.val (stAt h.st l) := by
  funext k j
  refine ((rows_at x (wrOut x t h.wr) t h.z.1 (k0_pay2 (step x.v t.val t.isLt)) j l 64 le_rfl (h.st, (k0_pay5 (F := Ideal), k0_pay6 (F := Ideal)))).1 k).trans ?_
  rw [if_pos (by omega)]
  exact fresh_at x t h l hz j k

/-- A trip leaves the sums ready for the next step. -/
theorem trip_ready : Ready x (next t.val) ((lane x l).move t.val (stAt h.st l)) (tripOut x t h).z l := by
  intro j
  have hr := (rows_at x (wrOut x t h.wr) t h.z.1 (k0_pay2 (step x.v t.val t.isLt)) j l 64 le_rfl (h.st, (k0_pay5 (F := Ideal), k0_pay6 (F := Ideal)))).2
  exact ⟨hr.1.trans (sum_all (pay5_at j l) fun k => congrArg₂ (· * ·) (fresh_at x t h l hz j k) (ev_at x.a l _ (next_lt _) k).symm),
    hr.2.trans (sum_all (pay6_at j l) fun k => congrArg₂ (· * ·) (fresh_at x t h l hz j k) (wrOut_at x t h.wr k l))⟩

/-- A trip writes its step's output and keeps the others'. -/
theorem trip_y (t' : Fin 32) (j : Fin 64) :
    (tripOut x t h).y (ix3 t' j l) = if t'.val = t.val then (lane x l).ahead t.val (stAt h.st l) j else h.y (ix3 t' j l) := by
  refine (put_at (n := 32) h.y t.val _ t' j l).trans (if_congr Iff.rfl ?_ rfl)
  have one : ∀ (X : Vec Ideal S32x64x128 .f32) (k : Fin 64), step X t.val t.isLt (ix3 0 k l) = ev X l t.val k := fun X k =>
    (step_at X t.val (lt32 t) k l).trans (ev_at X l _ (lt32 t) k).symm
  refine (pay3_at _ _ _ _ _ _ j l).trans ?_
  exact congrArg₂ (· + ·) (congrArg₂ (· + ·) (hz j).2 (congrArg₂ (· * ·) (hz j).1 (Finset.sum_congr rfl fun k _ => congrArg₂ (· * ·) (one x.b k) (one x.r k))))
    (congrArg₂ (· * ·) (one x.v j) (Finset.sum_congr rfl fun k _ => congrArg₂ (· * ·) (one x.key k) (one x.r k)))

end

/-! ## A point -/

theorem firsts_at (x : In Ideal) (R : Vec Ideal S2x64x128 .f32) (S : Vec Ideal S64x64x128 .f32) (j : Fin 64) (l : Fin 128) : ∀ (n : ℕ) (hn : n ≤ 64) (z : Sums Ideal),
    (firstsOut x R S n z).1 (ix2 j l) = z.1 (ix2 j l) + ∑ k : Fin 64, (if 64 - n ≤ k.val then S (ix3 k j l) * x.a (ix3 ⟨0, by decide⟩ k l) else 0)
    ∧ (firstsOut x R S n z).2 (ix2 j l) = z.2 (ix2 j l) + ∑ k : Fin 64, (if 64 - n ≤ k.val then S (ix3 k j l) * R (ix3 ⟨0, by decide⟩ k l) else 0)
  | 0, hn, z => by
    have h : ∀ k : Fin 64, ¬ 64 - 0 ≤ k.val := fun k => by have := k.isLt; omega
    refine ⟨?_, ?_⟩
    · rw [Finset.sum_congr rfl fun k _ => if_neg (h k), Finset.sum_const_zero, add_zero]; rfl
    · rw [Finset.sum_congr rfl fun k _ => if_neg (h k), Finset.sum_const_zero, add_zero]; rfl
  | n + 1, hn, z => by
    obtain ⟨h1, h2⟩ := firsts_at x R S j l n (by omega) (firstOut x R S ⟨63 - n, by omega⟩ z)
    rw [firstsOut]
    refine ⟨h1.trans ?_, h2.trans ?_⟩
    · rw [sum_rows _ n (by omega), ← add_assoc]
      refine congrArg (· + _) ((pay9_at _ _ _ j l).trans ?_)
      rw [pay278_at, stRow_at, cell_at]
    · rw [sum_rows _ n (by omega), ← add_assoc]
      refine congrArg (· + _) ((pay9_at _ _ _ j l).trans ?_)
      rw [pay278_at, stRow_at, wrCell_at]

theorem wrIn_at (x : In Ideal) (R : Vec Ideal S2x64x128 .f32) (k : Fin 64) (l : Fin 128) :
    wrIn x R (ix3 ⟨0, by decide⟩ k l) = (lane x l).w 0 k * (lane x l).r 0 k := by
  refine (put_at (n := 2) R 0 _ ⟨0, by decide⟩ k l).trans ?_
  rw [if_pos rfl, pay277_at, step_at, step_at]
  exact congrArg₂ (· * ·) (ev_at x.w l 0 (by decide) k).symm (ev_at x.r l 0 (by decide) k).symm

section
variable (x : In Ideal) (i : grid0.Coords) (s0 : Vec Ideal S1x64x64x128 .f32) (y : Vec Ideal S32x64x128 .f32) (S : Vec Ideal S64x64x128 .f32)
  (R : Vec Ideal S2x64x128 .f32) (l : Fin 128)

theorem heldIn_ready : Ready x 0 (stAt (stIn i s0 S) l) (heldIn x i s0 y S R).z l := by
  intro j
  obtain ⟨h1, h2⟩ := firsts_at x (wrIn x R) (stIn i s0 S) j l 64 le_rfl (k0_pay5 (F := Ideal), k0_pay6 (F := Ideal))
  exact ⟨h1.trans (sum_all (pay5_at j l) fun k => congrArg (stIn i s0 S (ix3 k j l) * ·) (ev_at x.a l 0 (by decide) k).symm),
    h2.trans (sum_all (pay6_at j l) fun k => congrArg (stIn i s0 S (ix3 k j l) * ·) (wrIn_at x R k l))⟩

/-- After `n` trips: the state has moved `n` steps, the sums are ready, and the outputs of those steps are written. -/
theorem walk_at : ∀ n, n ≤ 32 →
    stAt (walkOut x (heldIn x i s0 y S R) n).st l = (lane x l).before (stAt (stIn i s0 S) l) n
    ∧ (∃ n', (n < 32 → n' = n) ∧ Ready x n' ((lane x l).before (stAt (stIn i s0 S) l) n) (walkOut x (heldIn x i s0 y S R) n).z l)
    ∧ ∀ (t : Fin 32) (j : Fin 64), t.val < n → (walkOut x (heldIn x i s0 y S R) n).y (ix3 t j l)
        = (lane x l).ahead t.val ((lane x l).before (stAt (stIn i s0 S) l) t.val) j
  | 0, _ => ⟨rfl, ⟨0, fun _ => rfl, heldIn_ready x i s0 y S R l⟩, fun t j ht => absurd ht (by omega)⟩
  | n + 1, hn => by
    obtain ⟨h1, ⟨n', hn', h2⟩, h3⟩ := walk_at n (by omega)
    obtain rfl := hn' (by omega)
    have ht : n' < k0_t1_loop.trips := lt_of_lt_of_eq (show n' < 32 by omega) (by decide)
    rw [walkOut_succ x (heldIn x i s0 y S R) ⟨n', ht⟩]
    rw [← h1] at h2
    refine ⟨(trip_state x ⟨n', ht⟩ _ l h2).trans ?_, ⟨next n', fun h => by unfold next; omega, ?_⟩, fun t j htn => ?_⟩
    · rw [h1]; rfl
    · have := trip_ready x ⟨n', ht⟩ _ l h2
      rw [h1] at this
      exact this
    · refine (trip_y x ⟨n', ht⟩ _ l h2 t j).trans ?_
      by_cases e : t.val = n'
      · rw [if_pos e, h1, e]
      · rw [if_neg e]; exact h3 t j (by omega)

/-- A point's final state and outputs, at a lane. -/
theorem out_state : stAt (out x i s0 y S R).st l = (lane x l).before (stAt (stIn i s0 S) l) 32 :=
  (walk_at x i s0 y S R l 32 le_rfl).1
theorem out_y (t : Fin 32) (j : Fin 64) :
    (out x i s0 y S R).y (ix3 t j l) = (lane x l).ahead t.val ((lane x l).before (stAt (stIn i s0 S) l) t.val) j :=
  (walk_at x i s0 y S R l 32 le_rfl).2.2 t j t.isLt

end

end Cert.ScanIdeal.Value

end
-- ==== Proof.ScanValue.lean ====
/-
  The scan kernel at the ideal floats: what it leaves in its two results.

  Grid point `8 g + c` walks chunk `c` (32 steps) of lane group `g` (128 lanes); the state scratch carries a group's
  state from one chunk to the next, is brought in at the group's first chunk and written back at its last.
-/
module

public import proofs.«01_k».proof.Proof.ScanIdealFrame
public import proofs.«01_k».proof.Proof.ScanRows

@[expose] public section

set_option maxRecDepth 16384

noncomputable section

namespace Cert.ScanIdeal.Value

open Cert.ScanIdeal Cert.ScanIdeal.Gen Cert.ScanIdeal.Shape Cert.ScanIdeal.Body Cert.Recurrence
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-! ## The grid -/

theorem idx : ∀ t : Fin cfg0.N, win0_0.index t = ![t.val % 8, 0, t.val / 8] ∧ win0_1.index t = ![t.val % 8, 0, t.val / 8]
   ∧ win0_2.index t = ![t.val % 8, 0, t.val / 8] ∧ win0_3.index t = ![t.val % 8, 0, t.val / 8]
   ∧ win0_4.index t = ![t.val % 8, 0, t.val / 8] ∧ win0_5.index t = ![t.val % 8, 0, t.val / 8]
   ∧ win0_6.index t = ![t.val / 8, 0, 0, 0] ∧ win0_7.index t = ![t.val % 8, 0, t.val / 8]
   ∧ win0_8.index t = ![t.val / 8, 0, 0, 0] ∧ t.val / 8 < 8 :=
  (by decide +kernel : ∀ t : Fin grid0.N, _)

/-- Where the body brings the state in and where it writes it back. -/
theorem conds : ∀ t : Fin cfg0.N, (isFirst (grid0.coords t) = 1#1 ↔ t.val % 8 = 0) ∧ (k0_cond2 (grid0.coords t) = 1#1 ↔ t.val % 8 = 7) :=
  (by decide +kernel : ∀ t : Fin grid0.N, _)

/-- The outputs' buffers: the steps' outputs are written at every point, the final state at a group's last. -/
theorem busy : ∀ t : Fin cfg0.N, cfg0.idle 7 (grid0.coords t) = false
    ∧ (t.val % 8 = 7 → cfg0.idle 8 (grid0.coords t) = false ∧ (cfg0.win 8).flush t = true)
    ∧ (t.val % 8 ≠ 7 → cfg0.idle 8 (grid0.coords t) = true ∧ (cfg0.win 8).flush t = false) :=
  (by decide +kernel : ∀ t : Fin grid0.N, _)

/-! ## The recurrence over the arrays -/

/-- Lane `l` of group `g`. -/
def laneOf (g : ℕ) (l : Fin 128) : Fin 1024 := ⟨(g * 128 + l.val) % 1024, Nat.mod_lt _ (by decide)⟩

/-- A lane of the kernel's arrays. -/
def klane (c : Dev nD) (L : Fin 1024) : Lane :=
  laneAt (V m c main_arg0) (V m c main_arg1) (V m c main_arg2) (V m c main_arg3) (V m c main_arg4) (V m c main_arg5) L

/-- A lane's state before step `n`. -/
def kstate (c : Dev nD) (L : Fin 1024) (n : ℕ) : State := (klane m c L).before (startAt (V m c main_arg6) L) n

/-- A group's state before step `n`. -/
def stNow (c : Dev nD) (g n : ℕ) : Vec Ideal S64x64x128 .f32 := fun i => kstate m c (laneOf g (i 2)) n (i 0) (i 1)

/-- The outputs of a chunk of a group. -/
def ys (c : Dev nD) (g ch : ℕ) : Vec Ideal S32x64x128 .f32 := fun i =>
  (klane m c (laneOf g (i 2))).ahead (32 * ch + (i 0).val) (kstate m c (laneOf g (i 2)) (32 * ch + (i 0).val)) (i 1)

/-! ## A point of the grid -/

/-- A point's blocks. -/
def ins (c : Dev nD) (t : Fin cfg0.N) : In Ideal := ⟨iblk m c 0 t, iblk m c 1 t, iblk m c 2 t, iblk m c 3 t, iblk m c 4 t, iblk m c 5 t⟩

theorem laneOf_eq (g : ℕ) (hg : g < 8) (l : Fin 128) : laneOf g l = ⟨g * 128 + l.val, by omega⟩ := Fin.ext (Nat.mod_eq_of_lt (by omega))

theorem blk0 (c : Dev nD) (t : Fin cfg0.N) (n : ℕ) (hn : n < 32) (k : Fin 64) (l : Fin 128) (ht : t.val / 8 < 8) :
    iblk m c 0 t (ix3 ⟨n, hn⟩ k l) = V m c main_arg0 (ix3 ⟨t.val % 8 * 32 + n, by omega⟩ k ⟨t.val / 8 * 128 + l.val, by omega⟩) := by
  blk_point [iblk, idx t]
theorem blk1 (c : Dev nD) (t : Fin cfg0.N) (n : ℕ) (hn : n < 32) (k : Fin 64) (l : Fin 128) (ht : t.val / 8 < 8) :
    iblk m c 1 t (ix3 ⟨n, hn⟩ k l) = V m c main_arg1 (ix3 ⟨t.val % 8 * 32 + n, by omega⟩ k ⟨t.val / 8 * 128 + l.val, by omega⟩) := by
  blk_point [iblk, idx t]
theorem blk2 (c : Dev nD) (t : Fin cfg0.N) (n : ℕ) (hn : n < 32) (k : Fin 64) (l : Fin 128) (ht : t.val / 8 < 8) :
    iblk m c 2 t (ix3 ⟨n, hn⟩ k l) = V m c main_arg2 (ix3 ⟨t.val % 8 * 32 + n, by omega⟩ k ⟨t.val / 8 * 128 + l.val, by omega⟩) := by
  blk_point [iblk, idx t]
theorem blk3 (c : Dev nD) (t : Fin cfg0.N) (n : ℕ) (hn : n < 32) (k : Fin 64) (l : Fin 128) (ht : t.val / 8 < 8) :
    iblk m c 3 t (ix3 ⟨n, hn⟩ k l) = V m c main_arg3 (ix3 ⟨t.val % 8 * 32 + n, by omega⟩ k ⟨t.val / 8 * 128 + l.val, by omega⟩) := by
  blk_point [iblk, idx t]
theorem blk4 (c : Dev nD) (t : Fin cfg0.N) (n : ℕ) (hn : n < 32) (k : Fin 64) (l : Fin 128) (ht : t.val / 8 < 8) :
    iblk m c 4 t (ix3 ⟨n, hn⟩ k l) = V m c main_arg4 (ix3 ⟨t.val % 8 * 32 + n, by omega⟩ k ⟨t.val / 8 * 128 + l.val, by omega⟩) := by
  blk_point [iblk, idx t]
theorem blk5 (c : Dev nD) (t : Fin cfg0.N) (n : ℕ) (hn : n < 32) (k : Fin 64) (l : Fin 128) (ht : t.val / 8 < 8) :
    iblk m c 5 t (ix3 ⟨n, hn⟩ k l) = V m c main_arg5 (ix3 ⟨t.val % 8 * 32 + n, by omega⟩ k ⟨t.val / 8 * 128 + l.val, by omega⟩) := by
  blk_point [iblk, idx t]
theorem blk6 (c : Dev nD) (t : Fin cfg0.N) (k j : Fin 64) (l : Fin 128) (ht : t.val / 8 < 8) :
    iblk m c 6 t (ix4 0 k j l) = V m c main_arg6 (ix4 ⟨t.val / 8, ht⟩ k j l) := by
  blk_point [iblk, idx t]

/-- A block's step `n` is its array's step at the chunk's place. -/
theorem ev_seq (X : S256x64x1024.Idx → EReal) (B : Vec Ideal S32x64x128 .f32) (g ch : ℕ) (hg : g < 8) (hc : ch < 8) (l : Fin 128) (n : ℕ) (hn : n < 32)
    (h : ∀ k, B (ix3 ⟨n, hn⟩ k l) = X (ix3 ⟨ch * 32 + n, by omega⟩ k ⟨g * 128 + l.val, by omega⟩)) :
    ev B l n = seqAt X (laneOf g l) (32 * ch + n) := by
  funext k
  rw [ev_at B l n hn k, h k, laneOf_eq g hg l]
  unfold seqAt
  rw [dif_pos (show 32 * ch + n < 256 by omega)]
  congr 2
  exact Fin.ext (by simp only; omega)

/-- A point's blocks run through a stretch of the arrays' lanes. -/
theorem same (c : Dev nD) (t : Fin cfg0.N) (l : Fin 128) (n : ℕ) (hn : n < 32) :
    Same (lane (ins m c t) l) n (klane m c (laneOf (t.val / 8) l)) (32 * (t.val % 8) + n) := by
  have hg := (idx t).2.2.2.2.2.2.2.2.2
  have hc : t.val % 8 < 8 := Nat.mod_lt _ (by decide)
  exact ⟨ev_seq _ _ _ _ hg hc l n hn fun k => blk0 m c t n hn k l hg, ev_seq _ _ _ _ hg hc l n hn fun k => blk1 m c t n hn k l hg,
    ev_seq _ _ _ _ hg hc l n hn fun k => blk2 m c t n hn k l hg, ev_seq _ _ _ _ hg hc l n hn fun k => blk3 m c t n hn k l hg,
    ev_seq _ _ _ _ hg hc l n hn fun k => blk4 m c t n hn k l hg, ev_seq _ _ _ _ hg hc l n hn fun k => blk5 m c t n hn k l hg⟩

/-- What the state scratch holds before a point: anything before a group's first, else the group's state. -/
def Carried (c : Dev nD) (n : ℕ) (S : Vec Ideal S64x64x128 .f32) : Prop := n % 8 ≠ 0 → S = stNow m c (n / 8) (32 * (n % 8))

/-- The state a point starts from. -/
theorem stIn_eq (c : Dev nD) (t : Fin cfg0.N) (S : Vec Ideal S64x64x128 .f32) (hS : Carried m c t.val S) (l : Fin 128) :
    stAt (stIn (grid0.coords t) (iblk m c 6 t) S) l = kstate m c (laneOf (t.val / 8) l) (32 * (t.val % 8)) := by
  have hg := (idx t).2.2.2.2.2.2.2.2.2
  unfold stIn
  by_cases h : t.val % 8 = 0
  · rw [if_pos ((conds t).1.mpr h), h, laneOf_eq _ hg]
    funext k j
    refine (pay276_at _ k j l).trans ((blk6 m c t k j l hg).trans ?_)
    show _ = V m c main_arg6 _
    congr 1
    have h1 : (t.val / 8 * 128 + l.val) / 128 = t.val / 8 := by omega
    have h2 : (t.val / 8 * 128 + l.val) % 128 = l.val := by omega
    simp only [h1, h2]
  · rw [if_neg (mt (conds t).1.mp h), hS h]
    rfl

section
variable (c : Dev nD) (t : Fin cfg0.N) (y : Vec Ideal S32x64x128 .f32) (S : Vec Ideal S64x64x128 .f32) (R : Vec Ideal S2x64x128 .f32) (hS : Carried m c t.val S)
include hS

/-- The state a point leaves. -/
theorem left_state : (out (ins m c t) (grid0.coords t) (iblk m c 6 t) y S R).st = stNow m c (t.val / 8) (32 * (t.val % 8 + 1)) := by
  funext i
  obtain ⟨k, j, l, rfl⟩ : ∃ (k j : Fin 64) (l : Fin 128), i = ix3 k j l := ⟨i 0, i 1, i 2, by funext a; fin_cases a <;> rfl⟩
  have h := out_state (ins m c t) (grid0.coords t) (iblk m c 6 t) y S R l
  rw [stIn_eq m c t S hS l] at h
  unfold kstate at h
  rw [before_stretch (32 * (t.val % 8)) _ 32 fun n hn => same m c t l n hn] at h
  exact congrFun (congrFun h k) j

/-- The state a point leaves is the one the next one carries. -/
theorem left_carried : Carried m c (t.val + 1) (out (ins m c t) (grid0.coords t) (iblk m c 6 t) y S R).st := fun h => by
  rw [left_state m c t y S R hS]
  have h1 : (t.val + 1) / 8 = t.val / 8 := by omega
  have h2 : (t.val + 1) % 8 = t.val % 8 + 1 := by omega
  rw [h1, h2]

/-- The outputs a point leaves. -/
theorem left_y : (out (ins m c t) (grid0.coords t) (iblk m c 6 t) y S R).y = ys m c (t.val / 8) (t.val % 8) := by
  funext i
  obtain ⟨n, j, l, rfl⟩ : ∃ (n : Fin 32) (j : Fin 64) (l : Fin 128), i = ix3 n j l := ⟨i 0, i 1, i 2, by funext a; fin_cases a <;> rfl⟩
  refine (out_y (ins m c t) (grid0.coords t) (iblk m c 6 t) y S R l n j).trans ?_
  rw [stIn_eq m c t S hS l]
  unfold kstate
  rw [before_stretch (32 * (t.val % 8)) _ n.val fun i hi => same m c t l i (by have := n.isLt; omega)]
  exact ahead_same (same m c t l n.val n.isLt) _ j

end

/-! ## The run -/

/-- What the two scratch buffers hold before point `n`, and the generator register. -/
def tracked (c : Dev nD) (n : ℕ) : sProp 𝕄 :=
  iprop(((∃ S : Vec Ideal S64x64x128 .f32, ⌜Carried m c n S⌝ ∗ owns (c : Thread nD τ) (Memref.whole cc0_scratch0) fullShare S)
    ∗ (∃ R : Vec Ideal S2x64x128 .f32, owns (c : Thread nD τ) (Memref.whole cc0_scratch1) fullShare R)) ∗ ∃ r, prngReg c r)

/-- The proof data: the arrays as the launch finds them, the inputs' buffers their blocks, the outputs' the recurrence's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ys m c (t.val / 8) (t.val % 8)
    | ⟨8, _⟩ => k0_pay1 (F := Ideal) (stNow m c (t.val / 8) 256)
  Φ n := tracked m c n.val
  q _ := fullShare
  owed _ := 0

section
variable (c : Dev nD) (t : Fin cfg0.N)
theorem before0 (d) : (dats m 0 c).before 0 t d = iblk m c 0 t := before0_0_of m (dats m 0 c) rfl (fun _ => by dsimp only [dats]) t d
theorem before1 (d) : (dats m 0 c).before 1 t d = iblk m c 1 t := before0_1_of m (dats m 0 c) rfl (fun _ => by dsimp only [dats]) t d
theorem before2 (d) : (dats m 0 c).before 2 t d = iblk m c 2 t := before0_2_of m (dats m 0 c) rfl (fun _ => by dsimp only [dats]) t d
theorem before3 (d) : (dats m 0 c).before 3 t d = iblk m c 3 t := before0_3_of m (dats m 0 c) rfl (fun _ => by dsimp only [dats]) t d
theorem before4 (d) : (dats m 0 c).before 4 t d = iblk m c 4 t := before0_4_of m (dats m 0 c) rfl (fun _ => by dsimp only [dats]) t d
theorem before5 (d) : (dats m 0 c).before 5 t d = iblk m c 5 t := before0_5_of m (dats m 0 c) rfl (fun _ => by dsimp only [dats]) t d
theorem before6 (d) : (dats m 0 c).before 6 t d = iblk m c 6 t := before0_6_of m (dats m 0 c) rfl (fun _ => by dsimp only [dats]) t d
end

theorem body_obligation (c : Dev nD) : BodyObligationLoose (dats m 0 c) (defs₀ (F := Ideal)) Variants.none () Set.univ := fun t => by
  rw [bigSep_W0, bigSep_W0]
  simp only
  rw [show (dats m 0 c).Φ t.succ = tracked m c (t.val + 1) from rfl, show (dats m 0 c).Φ t.castSucc = tracked m c t.val from rfl,
    show (dats m 0 c).owesAt () t.succ = (dats m 0 c).owesAt () t.castSucc from rfl]
  unfold tracked
  iintro ⟨⟨⟨⟨%S, %hS, HS⟩, ⟨%R, HR⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0 m c t d0, before1 m c t d1, before2 m c t d2, before3 m c t d3, before4 m c t d4, before5 m c t d5, before6 m c t d6]
  iapply (sound_kernel c Set.univ _ _ _ _ _ _ _ _ _ _ _ _ _ _ _ _ _ _ _ _ _ _ (grid0.coords t)
    (ins m c t) (iblk m c 6 t) ((dats m 0 c).before 8 t d8) ((dats m 0 c).before 7 t d7) S R _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HR]; · iexact HR
  iintro ⟨H0, H1, H2, H3, H4, H5, H6, H7, H8, HS, HR⟩
  rw [left_y m c t _ S R hS]
  isplitl [HS HR Hp]
  · isplitr [Hp]
    · isplitl [HS]
      · iexists _; isplitr; swap; · iexact HS
        ipureintro; exact left_carried m c t _ S R hS
      · iexists _; iexact HR
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  have h7 : idle0 7 (grid0.coords t) = false := (busy t).1
  isplitl [H7]; · iexact H7
  by_cases h : t.val % 8 = 7
  · have h8 : idle0 8 (grid0.coords t) = false := ((busy t).2.1 h).1
    rw [h8]
    have e : finOut (grid0.coords t) (out (ins m c t) (grid0.coords t) (iblk m c 6 t) ((dats m 0 c).before 7 t d7) S R).st ((dats m 0 c).before 8 t d8)
        = k0_pay1 (F := Ideal) (stNow m c (t.val / 8) 256) := by
      unfold finOut
      rw [if_pos ((conds t).2.mpr h), left_state m c t _ S R hS, h]
    rw [e]
    iexact H8
  · have h8 : idle0 8 (grid0.coords t) = true := ((busy t).2.2 h).1
    have hf : (cfg0.win 8).flush t = false := ((busy t).2.2 h).2
    rw [h8]
    have e : finOut (grid0.coords t) (out (ins m c t) (grid0.coords t) (iblk m c 6 t) ((dats m 0 c).before 7 t d7) S R).st ((dats m 0 c).before 8 t d8)
        = (dats m 0 c).before 8 t d8 := if_neg (mt (conds t).2.mp h)
    rw [e]
    simp only
    rw [hf]
    iexists d8
    iexact H8

/-! ## The results -/

/-- The outputs of all steps. -/
def GY (c : Dev nD) : S256x64x1024.Idx → EReal := fun i => (klane m c (i 2)).ahead (i 0).val (kstate m c (i 2) (i 0).val) (i 1)
/-- The final states. -/
def GS (c : Dev nD) : S8x64x64x128.Idx → EReal := fun i => kstate m c (laneOf (i 0).val (i 3)) 256 (i 1) (i 2)

theorem final_y (c : Dev nD) : (dats m 0 c).arrAt 7 cfg0.N = GY m c := by
  refine (dats m 0 c).arrAt_eq_of_covers 7 (GY m c) (by decide +kernel) fun t hf y => ?_
  obtain ⟨n, j, l, rfl⟩ : ∃ (n : Fin 32) (j : Fin 64) (l : Fin 128), y = ix3 n j l := ⟨y 0, y 1, y 2, by funext a; fin_cases a <;> rfl⟩
  have hg := (idx t).2.2.2.2.2.2.2.2.2
  have hn := n.isLt
  have e : 32 * (t.val % 8) + n.val = t.val % 8 * 32 + n.val := by omega
  have h1 : ys m c (t.val / 8) (t.val % 8) (ix3 n j l)
      = GY m c (ix3 ⟨t.val % 8 * 32 + n.val, by omega⟩ j ⟨t.val / 8 * 128 + l.val, by omega⟩) := by
    show (klane m c (laneOf (t.val / 8) l)).ahead (32 * (t.val % 8) + n.val) (kstate m c (laneOf (t.val / 8) l) (32 * (t.val % 8) + n.val)) j = _
    rw [laneOf_eq _ hg, e]
    rfl
  refine Eq.trans ?_ (h1.trans ?_)
  · rfl
  · congr 1
    blk_ext [idx t]

theorem final_s (c : Dev nD) : (dats m 0 c).arrAt 8 cfg0.N = GS m c := by
  refine (dats m 0 c).arrAt_eq_of_covers 8 (GS m c) (by decide +kernel) fun t hf y => ?_
  obtain ⟨y0, k, j, l, rfl⟩ : ∃ (y0 : Fin 1) (k j : Fin 64) (l : Fin 128), y = ix4 y0 k j l := ⟨y 0, y 1, y 2, y 3, by funext a; fin_cases a <;> rfl⟩
  obtain rfl : y0 = 0 := Subsingleton.elim _ _
  have hg := (idx t).2.2.2.2.2.2.2.2.2
  have h1 : k0_pay1 (F := Ideal) (stNow m c (t.val / 8) 256) (ix4 0 k j l) = GS m c (ix4 ⟨t.val / 8, hg⟩ k j l) := pay1_at _ k j l
  refine Eq.trans ?_ (h1.trans ?_)
  · rfl
  · congr 1
    blk_ext [idx t]

/-- What a final state keeps of the arguments. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hin : ∀ w, (cfg0.win w).isOut = false → r.2.mem ((cfg0.spec w).arr.view.loc (c.tc : Thread nD τ)) = V m c (Pipeline.arrRef spec0 w) :=
    fun w hw => ((h c).1 w).trans ((dats m 0 c).arrAt_in w hw _)
  exact ⟨(hin 0 rfl).trans (V_main_arg0 m c), (hin 1 rfl).trans (V_main_arg1 m c), (hin 2 rfl).trans (V_main_arg2 m c),
    (hin 3 rfl).trans (V_main_arg3 m c), (hin 4 rfl).trans (V_main_arg4 m c), (hin 5 rfl).trans (V_main_arg5 m c),
    (hin 6 rfl).trans (V_main_arg6 m c)⟩

/-- The run: the results at `GY` and `GS`, the arguments unchanged. -/
abbrev Post (r : PUnit × MemSt nD τ sig (Elt Ideal)) : Prop :=
  ∀ c : Dev nD, r.2.mem ((c.tc : Thread nD τ).loc main_v0_0) = GY m c
      ∧ r.2.mem ((c.tc : Thread nD τ).loc main_v0_1) = GS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)

theorem tracked_in (c : Dev nD) : Pipeline.ΦA spec0 c ⊢ tracked m c 0 := by
  rw [scratch_eq]
  unfold tracked
  iintro ⟨⟨⟨%S, HS⟩, HR⟩, Hp⟩
  isplitr [Hp]
  · isplitl [HS]
    · iexists _; isplitr; swap; · iexact HS
      ipureintro; exact fun h => absurd rfl h
    · iexact HR
  · iexact Hp

theorem tracked_out (c : Dev nD) (n : ℕ) : tracked m c n ⊢ Pipeline.ΦA spec0 c := by
  rw [scratch_eq]
  unfold tracked
  iintro ⟨⟨⟨%S, -, HS⟩, HR⟩, Hp⟩
  isplitr [Hp]
  · isplitl [HS]
    · iexists _; iexact HS
    · iexact HR
  · iexact Hp

set_option backward.isDefEq.respectTransparency.types false in
theorem run : θ_run defs (onTc (τ := τ) (main (F := Ideal))) (s₀ m ρ) (Post m) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl)
    (hin := tracked_in m) (hout := fun c => tracked_out m c _)
    (Q' := Post m) (hQ' := fun r h c => ⟨((h.1 c).1 7).trans (final_y m c), ((h.1 c).1 8).trans (final_s m c), kept m r h.1 c⟩)

end Cert.ScanIdeal.Value
end
-- ==== Proof.ScanRefValue.lean ====
/-
  The scan's reference at the ideal floats: 256 steps of the recurrence, at each of the 1024 lanes.
-/
module

public import proofs.«01_k».proof.Proof.Gen.ScanRefIdeal.Run
public import proofs.«01_k».proof.Proof.Recurrence
public import Idealize.ShloMosaic.Lib.Pipeline.ValueKit
public import Idealize.ShloMosaic.Lib.DynamicIndex
public import Idealize.ShloMosaic.Lib.WordCmp

@[expose] public section

set_option maxRecDepth 16384

noncomputable section

namespace Cert.ScanRefIdeal.Steps

open Cert.ScanRefIdeal Cert.ScanRefIdeal.Gen Cert.ScanRefIdeal.Value Cert.Recurrence
open Idealize.ShloMosaic Idealize.ShloMosaic.TcCoe Idealize.ShloMosaic.Tactic
open Idealize.ShloMosaic.StableHlo
open Idealize.SL.Sem

variable (m : (ℓ : Loc nD τ sig) → Buf (Elt Ideal) ℓ) (c : Dev nD)

/-! ## One step's operations at an element -/

/-- Where a step's rows start. -/
abbrev starts (I : (⟨S_, .i32⟩ : BufTy).Contents (Elt Ideal)) : Fin 3 → Int := fun k =>
  (((![I, constantI S_ 32 0#32, constantI S_ 32 0#32] : Fin 3 → (⟨S_, .i32⟩ : BufTy).Contents (Elt Ideal))) k (Shape.Idx.first h_S_)).toInt

theorem starts_eq (n : ℕ) (hn : n < 256) : ∀ a : Fin 3, starts (fun _ => BitVec.ofNat 32 n) a = ((![n, 0, 0] : Fin 3 → ℕ) a : Int) := by
  intro a
  fin_cases a
  · show (BitVec.ofNat 32 n).toInt = (n : Int)
    exact WordCmp.toInt_ofNat_of_lt (by omega)
  · rfl
  · rfl

/-- A step's rows of a sequence. -/
def rowOf (X : FVec Ideal S256x64x1024 .f32) (I : (⟨S_, .i32⟩ : BufTy).Contents (Elt Ideal)) : FVec Ideal S64x1024 .f32 :=
  shapeCast S64x1024 (Host.dynamicSlice S1x64x1024 X (starts I) sliceFits_S256x64x1024_S1x64x1024) shapeCasts_S1x64x1024_S64x1024

theorem rowOf_at (X : FVec Ideal S256x64x1024 .f32) (n : ℕ) (hn : n < 256) (k : Fin 64) (L : Fin 1024) :
    rowOf X (fun _ => BitVec.ofNat 32 n) (ix2 k L) = X (ix3 ⟨n, hn⟩ k L) := by
  have hoff : S256x64x1024.Slices ![n, 0, 0] S1x64x1024 := ⟨rfl, fun a => by fin_cases a <;> simp [Shape.size] <;> omega⟩
  unfold rowOf
  rw [Host.dynamicSlice_eq_extractStridedSlice _ X _ ![n, 0, 0] _ hoff (starts_eq n hn)]
  pointwise

/-- The state after a step, of its rows and the state before. -/
def moved (S : FVec Ideal S64x64x1024 .f32) (w key b a v : FVec Ideal S64x1024 .f32) : FVec Ideal S64x64x1024 .f32 :=
  addf (addf (mulf S (broadcastInDim S64x64x1024 ![0, 1, 2] bcast_S64x1x1024_S64x64x1024_0_1_2 (broadcastInDim S64x1x1024 ![0, 2] bcast_S64x1024_S64x1x1024_0_2 w)))
      (mulf (broadcastInDim S64x64x1024 ![0, 1, 2] bcast_S1x64x1024_S64x64x1024_0_1_2 (broadcastInDim S1x64x1024 ![1, 2] bcast_S64x1024_S1x64x1024_1_2
          (transpose S64x1024 [1, 0] (Host.dotGeneral dot_S64x1024_S64x64x1024_S1024x64_0_0_n_1_1_2 none a S) transposes_S1024x64_S64x1024_1_0)))
        (broadcastInDim S64x64x1024 ![0, 1, 2] bcast_S64x1x1024_S64x64x1024_0_1_2 (broadcastInDim S64x1x1024 ![0, 2] bcast_S64x1024_S64x1x1024_0_2 b))))
    (mulf (broadcastInDim S64x64x1024 ![0, 1, 2] bcast_S1x64x1024_S64x64x1024_0_1_2 (broadcastInDim S1x64x1024 ![1, 2] bcast_S64x1024_S1x64x1024_1_2 v))
      (broadcastInDim S64x64x1024 ![0, 1, 2] bcast_S64x1x1024_S64x64x1024_0_1_2 (broadcastInDim S64x1x1024 ![0, 2] bcast_S64x1024_S64x1x1024_0_2 key)))

theorem moved_at (S : FVec Ideal S64x64x1024 .f32) (w key b a v : FVec Ideal S64x1024 .f32) (k j : Fin 64) (L : Fin 1024) :
    moved S w key b a v (ix3 k j L) = S (ix3 k j L) * w (ix2 k L) + (∑ i : Fin 64, a (ix2 i L) * S (ix3 i j L)) * b (ix2 k L) + v (ix2 j L) * key (ix2 k L) := by
  pointwise [moved]

/-- A step's output row. -/
def rowOut (S : FVec Ideal S64x64x1024 .f32) (r : FVec Ideal S64x1024 .f32) : FVec Ideal S1x64x1024 .f32 :=
  broadcastInDim S1x64x1024 ![1, 2] bcast_S64x1024_S1x64x1024_1_2
    (transpose S64x1024 [1, 0] (Host.dotGeneral dot_S64x1024_S64x64x1024_S1024x64_0_0_n_1_1_2 none r S) transposes_S1024x64_S64x1024_1_0)

theorem rowOut_at (S : FVec Ideal S64x64x1024 .f32) (r : FVec Ideal S64x1024 .f32) (j : Fin 64) (L : Fin 1024) :
    rowOut S r (ix3 0 j L) = ∑ i : Fin 64, r (ix2 i L) * S (ix3 i j L) := by
  pointwise [rowOut]

/-- A row put into the outputs. -/
theorem upd_at (Y : FVec Ideal S256x64x1024 .f32) (u : FVec Ideal S1x64x1024 .f32) (n : ℕ) (hn : n < 256) (t : Fin 256) (j : Fin 64) (L : Fin 1024) :
    Host.dynamicUpdateSlice Y u (starts fun _ => BitVec.ofNat 32 n) updateFits_S256x64x1024_S1x64x1024 (ix3 t j L)
      = if t.val = n then u (ix3 0 j L) else Y (ix3 t j L) := by
  have hoff : S256x64x1024.Slices ![n, 0, 0] S1x64x1024 := ⟨rfl, fun a => by fin_cases a <;> simp [Shape.size] <;> omega⟩
  rw [WordCmp.dynamicUpdateSlice_eq_update Y u _ _ ![n, 0, 0] hoff (starts_eq n hn)]
  have hj := j.isLt
  have hL := L.isLt
  by_cases h : t.val = n
  · subst h
    rw [if_pos rfl]
    unfold updateSlice
    refine (dif_pos fun a => ?_).trans (congrArg u (funext fun a => Fin.ext ?_))
    · fin_cases a <;> simp [ix3, Shape.size] <;> omega
    · fin_cases a <;> simp [ix3] <;> omega
  · rw [if_neg h]
    unfold updateSlice
    exact dif_neg fun hin => h (Nat.le_antisymm (Nat.lt_succ_iff.mp (hin 0).2) (hin 0).1)

/-! ## The loop -/

/-- The arrays the loop reads, as the launch has them. -/
abbrev arg (b : Ref sig .tc) : Buf (Elt Ideal) ((c.tc : Thread nD τ).loc b) := m ((c.tc : Thread nD τ).loc b)

/-- The contents before step `n`. -/
def at_ (n : ℕ) : Valuation τ sig (Elt Ideal) := STEP^[n] (entryContents preI m c)

theorem at_succ (n : ℕ) : at_ m c (n + 1) = STEP (at_ m c n) := Function.iterate_succ_apply' ..

theorem entry0 : entryContents preI m c (Proc.devRef .tc main_v3_0) = arg m c main_arg0 := by
  simp only [entryContents, afterL_cons, afterL_nil]; after_reads_simp; rfl
theorem entry1 : entryContents preI m c (Proc.devRef .tc main_v3_1) = arg m c main_arg1 := by
  simp only [entryContents, afterL_cons, afterL_nil]; after_reads_simp; rfl
theorem entry2 : entryContents preI m c (Proc.devRef .tc main_v3_2) = arg m c main_arg2 := by
  simp only [entryContents, afterL_cons, afterL_nil]; after_reads_simp; rfl
theorem entry3 : entryContents preI m c (Proc.devRef .tc main_v3_3) = arg m c main_arg3 := by
  simp only [entryContents, afterL_cons, afterL_nil]; after_reads_simp; rfl
theorem entry4 : entryContents preI m c (Proc.devRef .tc main_v3_4) = arg m c main_arg4 := by
  simp only [entryContents, afterL_cons, afterL_nil]; after_reads_simp; rfl
theorem entry5 : entryContents preI m c (Proc.devRef .tc main_v3_5) = arg m c main_arg5 := by
  simp only [entryContents, afterL_cons, afterL_nil]; after_reads_simp; rfl
theorem entry7 : entryContents preI m c (Proc.devRef .tc main_v3_7)
    = shapeCast S64x64x1024 (transpose S64x64x8x128 [1, 2, 0, 3] (arg m c main_arg6) transposes_S8x64x64x128_S64x64x8x128_1_2_0_3) shapeCasts_S64x64x8x128_S64x64x1024 := by
  simp only [entryContents, afterL_cons, afterL_nil]; after_reads_simp; rfl

/-- The sequences are never written. -/
theorem kept : ∀ n, at_ m c n (Proc.devRef .tc main_v3_0) = arg m c main_arg0 ∧ at_ m c n (Proc.devRef .tc main_v3_1) = arg m c main_arg1
    ∧ at_ m c n (Proc.devRef .tc main_v3_2) = arg m c main_arg2 ∧ at_ m c n (Proc.devRef .tc main_v3_3) = arg m c main_arg3
    ∧ at_ m c n (Proc.devRef .tc main_v3_4) = arg m c main_arg4 ∧ at_ m c n (Proc.devRef .tc main_v3_5) = arg m c main_arg5
    ∧ at_ m c n (Proc.devRef .tc main_v3_6) = fun _ => BitVec.ofNat 32 n
  | 0 => ⟨entry0 m c, entry1 m c, entry2 m c, entry3 m c, entry4 m c, entry5 m c, ctr_entry m c⟩
  | n + 1 => by
    obtain ⟨h0, h1, h2, h3, h4, h5, h6⟩ := kept n
    rw [at_succ]
    refine ⟨(STEP_main_v3_0 _).trans h0, (STEP_main_v3_1 _).trans h1, (STEP_main_v3_2 _).trans h2, (STEP_main_v3_3 _).trans h3,
      (STEP_main_v3_4 _).trans h4, (STEP_main_v3_5 _).trans h5, (STEP_main_v3_6 _).trans ?_⟩
    unfold step_main_v3_6
    rw [h6]
    funext i
    exact (BitVec.ofNat_add ..).symm

/-- The state before step `n`, whole. -/
abbrev state (n : ℕ) : FVec Ideal S64x64x1024 .f32 := at_ m c n (Proc.devRef .tc main_v3_7)
/-- The outputs written before step `n`. -/
abbrev outputs (n : ℕ) : FVec Ideal S256x64x1024 .f32 := at_ m c n (Proc.devRef .tc main_v3_8)

theorem state_succ (n : ℕ) : state m c (n + 1) = moved (state m c n) (rowOf (arg m c main_arg0) fun _ => BitVec.ofNat 32 n)
    (rowOf (arg m c main_arg1) fun _ => BitVec.ofNat 32 n) (rowOf (arg m c main_arg2) fun _ => BitVec.ofNat 32 n)
    (rowOf (arg m c main_arg3) fun _ => BitVec.ofNat 32 n) (rowOf (arg m c main_arg5) fun _ => BitVec.ofNat 32 n) := by
  obtain ⟨h0, h1, h2, h3, h4, h5, h6⟩ := kept m c n
  refine ((congrFun (at_succ m c n) _).trans (STEP_main_v3_7 _)).trans ?_
  show moved (state m c n) (rowOf (at_ m c n (Proc.devRef .tc main_v3_0)) (at_ m c n (Proc.devRef .tc main_v3_6)))
    (rowOf (at_ m c n (Proc.devRef .tc main_v3_1)) (at_ m c n (Proc.devRef .tc main_v3_6)))
    (rowOf (at_ m c n (Proc.devRef .tc main_v3_2)) (at_ m c n (Proc.devRef .tc main_v3_6)))
    (rowOf (at_ m c n (Proc.devRef .tc main_v3_3)) (at_ m c n (Proc.devRef .tc main_v3_6)))
    (rowOf (at_ m c n (Proc.devRef .tc main_v3_5)) (at_ m c n (Proc.devRef .tc main_v3_6))) = _
  rw [h0, h1, h2, h3, h5, h6]
  rfl

theorem outputs_succ (n : ℕ) : outputs m c (n + 1) = Host.dynamicUpdateSlice (outputs m c n)
    (rowOut (state m c (n + 1)) (rowOf (arg m c main_arg4) fun _ => BitVec.ofNat 32 n)) (starts fun _ => BitVec.ofNat 32 n) updateFits_S256x64x1024_S1x64x1024 := by
  obtain ⟨h0, h1, h2, h3, h4, h5, h6⟩ := kept m c n
  have hs : state m c (n + 1) = res_main_while0b_v28 (at_ m c n) := (congrFun (at_succ m c n) _).trans (STEP_main_v3_7 _)
  rw [hs]
  refine ((congrFun (at_succ m c n) _).trans (STEP_main_v3_8 _)).trans ?_
  show Host.dynamicUpdateSlice (outputs m c n) (rowOut (res_main_while0b_v28 (at_ m c n)) (rowOf (at_ m c n (Proc.devRef .tc main_v3_4)) (at_ m c n (Proc.devRef .tc main_v3_6))))
    (starts (at_ m c n (Proc.devRef .tc main_v3_6))) updateFits_S256x64x1024_S1x64x1024 = _
  rw [h4, h6]
  rfl

/-! ## The recurrence -/

/-- A lane of the reference's arrays. -/
def rlane (L : Fin 1024) : Lane :=
  laneAt (arg m c main_arg0) (arg m c main_arg1) (arg m c main_arg2) (arg m c main_arg3) (arg m c main_arg4) (arg m c main_arg5) L

/-- A lane's state before step `n`. -/
def rstate (L : Fin 1024) (n : ℕ) : State := (rlane m c L).before (startAt (arg m c main_arg6) L) n

theorem seqAt_lt (X : Seqs.Idx → EReal) (L : Fin 1024) (n : ℕ) (hn : n < 256) (k : Fin 64) : seqAt X L n k = X (ix3 ⟨n, hn⟩ k L) := dif_pos hn

theorem state_at : ∀ n, n ≤ 256 → ∀ (k j : Fin 64) (L : Fin 1024), state m c n (ix3 k j L) = rstate m c L n k j
  | 0, _, k, j, L => by
    refine (congrFun (entry7 m c) _).trans ?_
    unfold rstate Lane.before startAt
    pointwise
  | n + 1, hn, k, j, L => by
    have hn' : n < 256 := hn
    rw [state_succ, moved_at, rowOf_at _ n hn', rowOf_at _ n hn', rowOf_at _ n hn', rowOf_at _ n hn']
    show _ = (rlane m c L).move n (rstate m c L n) k j
    unfold Lane.move Recurrence.read rlane laneAt
    simp only [seqAt_lt _ _ n hn']
    rw [state_at n (by omega)]
    refine congrArg (fun x => _ + x * _ + _) (Finset.sum_congr rfl fun i _ => ?_)
    rw [rowOf_at _ n hn', state_at n (by omega), mul_comm]

theorem outputs_at : ∀ n, n ≤ 256 → ∀ (t : Fin 256) (j : Fin 64) (L : Fin 1024), t.val < n →
    outputs m c n (ix3 t j L) = (rlane m c L).plain t.val (rstate m c L t.val) j
  | 0, _, _, _, _, h => absurd h (Nat.not_lt_zero _)
  | n + 1, hn, t, j, L, h => by
    have hn' : n < 256 := hn
    rw [outputs_succ, upd_at _ _ n hn']
    by_cases e : t.val = n
    · rw [if_pos e, rowOut_at, e]
      show _ = Recurrence.read (rstate m c L (n + 1)) ((rlane m c L).r n) j
      unfold Recurrence.read
      refine Finset.sum_congr rfl fun i _ => ?_
      rw [rowOf_at _ n hn', state_at m c (n + 1) hn, mul_comm]
      exact congrArg _ (seqAt_lt _ _ n hn' _).symm
    · rw [if_neg e]
      exact outputs_at n (by omega) t j L (by omega)

/-- The outputs of all steps. -/
def RY : S256x64x1024.Idx → EReal := fun i => (rlane m c (i 2)).plain (i 0).val (rstate m c (i 2) (i 0).val) (i 1)
/-- The final states. -/
def RS : S8x64x64x128.Idx → EReal := fun i => rstate m c ⟨(i 0).val * 128 + (i 3).val, by have h0 : (i 0).val < 8 := (i 0).isLt; have h3 : (i 3).val < 128 := (i 3).isLt; omega⟩ 256 (i 1) (i 2)

theorem result_y : at_ m c 256 (Proc.devRef .tc main_v3_8) = RY m c := by
  funext i
  obtain ⟨t, j, L, rfl⟩ : ∃ (t : Fin 256) (j : Fin 64) (L : Fin 1024), i = ix3 t j L := ⟨i 0, i 1, i 2, by funext a; fin_cases a <;> rfl⟩
  exact outputs_at m c 256 le_rfl t j L t.isLt

theorem result_s : out_main_v5 (at_ m c 256) = RS m c := by
  funext i
  obtain ⟨g, k, j, l, rfl⟩ : ∃ (g : Fin 8) (k j : Fin 64) (l : Fin 128), i = ix4 g k j l := ⟨i 0, i 1, i 2, i 3, by funext a; fin_cases a <;> rfl⟩
  have h : out_main_v5 (at_ m c 256) (ix4 g k j l) = state m c 256 (ix3 k j ⟨g.val * 128 + l.val, by omega⟩) := by
    pointwise [out_main_v5]
  exact h.trans (state_at m c 256 le_rfl k j _)

end Cert.ScanRefIdeal.Steps
end
-- ==== Proof.ScanPair.lean ====
/-
  The scan kernel against its reference at the ideal floats: equal outputs and final states on finite arrays.
-/
module

public import proofs.«01_k».proof.Proof.Norm
public import proofs.«01_k».proof.Proof.ScanFrame
public import proofs.«01_k».proof.Proof.ScanValue
public import proofs.«01_k».proof.Proof.ScanRefValue
public import proofs.«01_k».proof.Defs
public import Idealize.ShloMosaic.Lib.Claim

@[expose] public section

set_option maxRecDepth 16384

noncomputable section

namespace Cert.ScanIdeal.Value

open Cert.ScanIdeal Cert.ScanIdeal.Gen Cert.Recurrence
open Idealize.ShloMosaic Idealize.ShloMosaic.TcCoe Idealize.SL.Sem

/-- No element is infinite. -/
def Finite {s : Shape} (X : s.Idx → EReal) : Prop := ∀ i, X i ≠ ⊤ ∧ X i ≠ ⊥

theorem finite_of_lt {x : EReal} (h : Ideal.cmp .olt (max x (-x)) (Ideal.ofBits .f32 0x7F800000#32) = 1#1) : x ≠ ⊤ ∧ x ≠ ⊥ := by
  have e : Ideal.ofBits .f32 0x7F800000#32 = ⊤ := Cert.Norm.inf
  rw [e] at h
  constructor <;> rintro rfl <;> simp [Ideal.cmp] at h

/-- A lane's step of finite sequences is real. -/
theorem real_lane {w key b a r v : Seqs.Idx → EReal} (hw : Finite w) (hk : Finite key) (hb : Finite b) (ha : Finite a) (hr : Finite r) (hv : Finite v)
    (L : Fin 1024) (n : ℕ) : RealLane (laneAt w key b a r v L) n := by
  have h : ∀ X : Seqs.Idx → EReal, Finite X → Real1 (seqAt X L n) := fun X hX => real1 fun k => by
    unfold seqAt
    split
    · exact hX _
    · exact ⟨EReal.zero_ne_top, EReal.zero_ne_bot⟩
  exact ⟨h w hw, h key hk, h b hb, h a ha, h r hr, h v hv⟩

theorem real_start {s0 : Starts.Idx → EReal} (h : Finite s0) (L : Fin 1024) : Real2 (startAt s0 L) := real2 fun k j => h _

variable (m : (ℓ : Loc nD τ sig) → Buf (Elt Ideal) ℓ) (m' : (ℓ : Loc Cert.ScanRefIdeal.nD Cert.ScanRefIdeal.τ Cert.ScanRefIdeal.sig) → Buf (Elt Ideal) ℓ)
  (c : Dev nD)

/-- The kernel's launch and the reference's hold the same arrays. -/
def Agree : Prop :=
  m' ((c.tc : Thread Cert.ScanRefIdeal.nD Cert.ScanRefIdeal.τ).loc Cert.ScanRefIdeal.main_arg0) = m ((c.tc : Thread nD τ).loc main_arg0)
    ∧ m' ((c.tc : Thread Cert.ScanRefIdeal.nD Cert.ScanRefIdeal.τ).loc Cert.ScanRefIdeal.main_arg1) = m ((c.tc : Thread nD τ).loc main_arg1)
    ∧ m' ((c.tc : Thread Cert.ScanRefIdeal.nD Cert.ScanRefIdeal.τ).loc Cert.ScanRefIdeal.main_arg2) = m ((c.tc : Thread nD τ).loc main_arg2)
    ∧ m' ((c.tc : Thread Cert.ScanRefIdeal.nD Cert.ScanRefIdeal.τ).loc Cert.ScanRefIdeal.main_arg3) = m ((c.tc : Thread nD τ).loc main_arg3)
    ∧ m' ((c.tc : Thread Cert.ScanRefIdeal.nD Cert.ScanRefIdeal.τ).loc Cert.ScanRefIdeal.main_arg4) = m ((c.tc : Thread nD τ).loc main_arg4)
    ∧ m' ((c.tc : Thread Cert.ScanRefIdeal.nD Cert.ScanRefIdeal.τ).loc Cert.ScanRefIdeal.main_arg5) = m ((c.tc : Thread nD τ).loc main_arg5)
    ∧ m' ((c.tc : Thread Cert.ScanRefIdeal.nD Cert.ScanRefIdeal.τ).loc Cert.ScanRefIdeal.main_arg6) = m ((c.tc : Thread nD τ).loc main_arg6)

theorem lanes_eq (h : Agree m m' c) (L : Fin 1024) : Cert.ScanRefIdeal.Steps.rlane m' c L = klane m c L := by
  obtain ⟨h0, h1, h2, h3, h4, h5, h6⟩ := h
  unfold Cert.ScanRefIdeal.Steps.rlane Cert.ScanRefIdeal.Steps.arg
  rw [h0, h1, h2, h3, h4, h5]
  rfl

theorem states_eq (h : Agree m m' c) (L : Fin 1024) (n : ℕ) : Cert.ScanRefIdeal.Steps.rstate m' c L n = kstate m c L n := by
  unfold Cert.ScanRefIdeal.Steps.rstate
  rw [lanes_eq m m' c h]
  obtain ⟨h0, h1, h2, h3, h4, h5, h6⟩ := h
  unfold Cert.ScanRefIdeal.Steps.arg
  rw [h6]
  rfl

/-- The final states agree, whatever the arrays hold; -/
theorem finals_eq (h : Agree m m' c) : Cert.ScanRefIdeal.Steps.RS m' c = GS m c := by
  funext i
  obtain ⟨g, k, j, l, rfl⟩ : ∃ (g : Fin 8) (k j : Fin 64) (l : Fin 128), i = ix4 g k j l := ⟨i 0, i 1, i 2, i 3, by funext a; fin_cases a <;> rfl⟩
  show Cert.ScanRefIdeal.Steps.rstate m' c ⟨g.val * 128 + l.val, by omega⟩ 256 k j = kstate m c (laneOf g.val l) 256 k j
  rw [states_eq m m' c h, laneOf_eq _ g.isLt]

/-- so do the outputs of finite ones. -/
theorem outputs_eq (h : Agree m m' c) (hfin : ∀ (L : Fin 1024) (n : ℕ), RealLane (klane m c L) n)
    (hs : ∀ L : Fin 1024, Real2 (startAt (V m c main_arg6) L)) : Cert.ScanRefIdeal.Steps.RY m' c = GY m c := by
  funext i
  obtain ⟨t, j, L, rfl⟩ : ∃ (t : Fin 256) (j : Fin 64) (L : Fin 1024), i = ix3 t j L := ⟨i 0, i 1, i 2, by funext a; fin_cases a <;> rfl⟩
  show (Cert.ScanRefIdeal.Steps.rlane m' c L).plain t.val (Cert.ScanRefIdeal.Steps.rstate m' c L t.val) j = (klane m c L).ahead t.val (kstate m c L t.val) j
  rw [lanes_eq m m' c h, states_eq m m' c h]
  exact (ahead_eq_plain (hfin L t.val) (before_real (hs L) t.val fun n _ => hfin L n) j).symm

end Cert.ScanIdeal.Value

namespace Cert.Proof

open Idealize.ShloMosaic Idealize.ShloMosaic.TcCoe Idealize.SL.Sem

theorem finite_facts : Cert.Pre_finite.Facts := ⟨by decide, by decide⟩

theorem frame_scan : Cert.quiescent_Scan := fun m g _ => Cert.Scan.Body.run_kept m g

theorem frame_scanIdeal : Cert.quiescent_ScanIdeal := fun m g _ => Cert.ScanIdeal.Body.run_kept m g

theorem frame_scanIdeal_finite : Cert.quiescent_ScanIdeal_pre_finite (hPre_finite := finite_facts) := fun m g _ => Cert.ScanIdeal.Body.run_kept m g

theorem frame_scanRefIdeal : Cert.quiescent_ScanRefIdeal := fun m g _ =>
  (θ_run Cert.ScanRefIdeal.defs _ _).mono (fun r h => ⟨fun c => (h c).2.2, sem_eq_zero_of_no_sems (by decide) r.2⟩)
    (Cert.ScanRefIdeal.Value.run (F := Ideal) m g)

theorem frame_scanRefIdeal_finite : Cert.quiescent_ScanRefIdeal_pre_finite (hPre_finite := finite_facts) := fun m g _ => frame_scanRefIdeal m g trivial

theorem algebraic_scan : Cert.algebraic_ScanIdeal_ScanRefIdeal_pre_finite (hPre_finite := finite_facts) := by
  intro m g m' g' hpre hagree
  refine ⟨fun c => Cert.ScanIdeal.Value.GY m c, fun c => Cert.ScanIdeal.Value.GS m c, Cert.ScanIdeal.Value.run m g, ?_⟩
  refine (θ_run Cert.ScanRefIdeal.defs _ _).mono (fun r h c => ⟨(h c).1.trans ?_, (h c).2.1.trans ?_, (h c).2.2⟩)
    (Cert.ScanRefIdeal.Value.run (F := Ideal) m' g')
  · obtain ⟨p0, p1, p2, p3, p4, p5, p6⟩ := hpre c
    refine (Cert.ScanRefIdeal.Steps.result_y m' c).trans (Cert.ScanIdeal.Value.outputs_eq m m' c (hagree c) (fun L n => ?_) fun L => ?_)
    · exact Cert.ScanIdeal.Value.real_lane (fun i => Cert.ScanIdeal.Value.finite_of_lt (congrFun p0 i)) (fun i => Cert.ScanIdeal.Value.finite_of_lt (congrFun p1 i))
        (fun i => Cert.ScanIdeal.Value.finite_of_lt (congrFun p2 i)) (fun i => Cert.ScanIdeal.Value.finite_of_lt (congrFun p3 i))
        (fun i => Cert.ScanIdeal.Value.finite_of_lt (congrFun p4 i)) (fun i => Cert.ScanIdeal.Value.finite_of_lt (congrFun p5 i)) L n
    · exact Cert.ScanIdeal.Value.real_start (fun i => Cert.ScanIdeal.Value.finite_of_lt (congrFun p6 i)) L
  · exact (Cert.ScanRefIdeal.Steps.result_s m' c).trans (Cert.ScanIdeal.Value.finals_eq m m' c (hagree c))

end Cert.Proof
end
-- ==== Proof.InProjPair.lean ====
/-
  The input projection against its reference at the ideal floats: equal results.

  The kernel writes a row tile's normalized, modulated rows into a scratch at the tile's first column block and multiplies
  them with one block of the weights at each. The weights have 128 columns of zeros put between their two parts; the
  reference puts zeros between the two parts of the product.
-/
module

public import proofs.«01_k».proof.Proof.Norm
public import proofs.«01_k».proof.Proof.Gen.InProj.Frame
public import proofs.«01_k».proof.Proof.Gen.InProjIdeal.Value
public import proofs.«01_k».proof.Proof.Gen.InProjRefIdeal.Run
public import proofs.«01_k».proof.Defs
public import Idealize.ShloMosaic.Lib.Claim
public import Idealize.ShloMosaic.Lib.Pipeline.CanonAppend

@[expose] public section

set_option maxRecDepth 16384

noncomputable section

namespace Cert.InProjRefIdeal.Value

open Cert.InProjRefIdeal Cert.InProjRefIdeal.Gen
open Idealize.ShloMosaic Idealize.ShloMosaic.TcCoe Idealize.SL.Sem Idealize.ShloMosaic.StableHlo

/-- The normalized rows, modulated by the first modulation row. -/
def ROWS (x : FVec Ideal S8192x2048 .f32) (md : FVec Ideal S5x6x2048 .f32) (g : FVec Ideal S2048 .f32) : FVec Ideal S8192x2048 .f32 :=
  addf (mulf (mulf (mulf x (broadcastInDim S8192x2048 ![0, 1] bcast_S8192x1_S8192x2048_0_1
      (Host.rsqrt (addf (Host.divf (broadcastInDim S8192x1 ![0] bcast_S8192_S8192x1_0
            (Host.reduceAdd (mulf x x) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 g)))
      (broadcastInDim S8192x2048 ![0, 1] bcast_S1x2048_S8192x2048_0_1 (addf (broadcastInDim S1x2048 ![] bcast_S_S1x2048 (constant S_ .f32 0x3F800000#32))
        (shapeCast _ (extractStridedSlice S1x1x2048 ![0, 1, 0] md slices_S5x6x2048_S1x1x2048_0_1_0) shapeCasts_S1x1x2048_S1x2048))))
    (broadcastInDim S8192x2048 ![0, 1] bcast_S1x2048_S8192x2048_0_1
      (shapeCast _ (extractStridedSlice S1x1x2048 ![0, 0, 0] md slices_S5x6x2048_S1x1x2048_0_0_0) shapeCasts_S1x1x2048_S1x2048))

/-- Their product with the weights. -/
def PROD (h : FVec Ideal S8192x2048 .f32) (w : FVec Ideal S2048x5504 .f32) : FVec Ideal S8192x5504 .f32 :=
  Host.dotGeneral dot_S8192x2048_S2048x5504_S8192x5504_1_0_0_1_n_n none h w

/-- The zeros between. -/
def ZERO : FVec Ideal S8192x128 .f32 := broadcastInDim S8192x128 ![] bcast_S_S8192x128 (constant S_ .f32 0x00000000#32)

/-- The product's two parts with 128 columns of zeros between. -/
def PADDED (p : FVec Ideal S8192x5504 .f32) : FVec Ideal S8192x5632 .f32 :=
  concatenate S8192x5632 1 [⟨S8192x3456, extractStridedSlice S8192x3456 ![0, 0] p slices_S8192x5504_S8192x3456_0_0⟩,
    ⟨S8192x128, ZERO⟩, ⟨S8192x2048, extractStridedSlice S8192x2048 ![0, 3456] p slices_S8192x5504_S8192x2048_0_3456⟩]
    concatenates_S8192x3456_S8192x128_S8192x2048_S8192x5632_d1

theorem rows_at (x : FVec Ideal S8192x2048 .f32) (md : FVec Ideal S5x6x2048 .f32) (g : FVec Ideal S2048 .f32) (r : Fin 8192) (j : Fin 2048) :
    ROWS x md g (ix2 r j) = Cert.Norm.modulated (fun k => x (ix2 r k)) (fun k => g (ix1 k)) (fun k => md (ix3 0 1 k)) (fun k => md (ix3 0 0 k)) j := by
  pointwise [ROWS, Cert.Norm.modulated, Cert.Norm.row]

theorem prod_at (h : FVec Ideal S8192x2048 .f32) (w : FVec Ideal S2048x5504 .f32) (r : Fin 8192) (j : Fin 5504) :
    PROD h w (ix2 r j) = ∑ k : Fin 2048, h (ix2 r k) * w (ix2 k j) := by
  pointwise [PROD]

theorem padded_at (p : FVec Ideal S8192x5504 .f32) (r : Fin 8192) (j : Fin 5632) :
    PADDED p (ix2 r j) = if h : j.val < 3456 then p (ix2 r ⟨j.val, by omega⟩)
      else if h2 : j.val - 3456 < 128 then (0 : EReal) else p (ix2 r ⟨3456 + (j.val - 3456 - 128), by omega⟩) := by
  pointwise [PADDED, ZERO]

/-- The reference's result, of any arguments. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = PADDED (PROD (ROWS (m ((c.tc : Thread nD τ).loc main_arg0)) (m ((c.tc : Thread nD τ).loc main_arg1))
        (m ((c.tc : Thread nD τ).loc main_arg2))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.InProjRefIdeal.Value

namespace Cert.InProjIdeal.Value
open Cert.InProjIdeal Cert.InProjIdeal.Gen
open Idealize.ShloMosaic Idealize.ShloMosaic.TcCoe Idealize.SL.Sem

/-- The projection's input rows of a row tile, from the tile, the modulation and the scale. -/
def hid (x0 : Vec Ideal S1024x2048 .f32) (x1 : Vec Ideal S1x6x2048 .f32) (x2 : Vec Ideal S1x2048 .f32) (y : S1024x2048.Idx) : EReal :=
  Cert.Norm.modulated (fun k => x0 (ix2 (y 0) k)) (fun k => x2 (ix2 0 k)) (fun k => x1 (ix3 0 1 k)) (fun k => x1 (ix3 0 0 k)) (y 1)

theorem pay1_at (v : Vec Ideal S256x2048 .f32) (g : Vec Ideal S1x2048 .f32) (mu ad : Vec Ideal S1x1x2048 .f32) (r : Fin 256) (j : Fin 2048) :
    k0_pay1 (F := Ideal) v g mu ad (ix2 r j)
      = Cert.Norm.modulated (fun k => v (ix2 r k)) (fun k => g (ix2 0 k)) (fun k => mu (ix3 0 0 k)) (fun k => ad (ix3 0 0 k)) j := by
  pointwise [k0_pay1, Cert.Norm.modulated, Cert.Norm.row]

theorem pay2_at (h : Vec Ideal S1024x2048 .bf16) (w : Vec Ideal S2048x512 .bf16) (r : Fin 1024) (j : Fin 512) :
    k0_pay2 (F := Ideal) h w (ix2 r j) = ∑ k : Fin 2048, h (ix2 r k) * w (ix2 k j) := by
  pointwise [k0_pay2]

theorem off1 : ∀ k : Fin k0_t1_loop.trips, k0_off1 k = ![256 * k.val, 0] :=
  (by decide +kernel : ∀ k : Fin k0_t1_loop.trips, _)

section pieces
variable (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x2048 .bf16) (harg7 : arg7.IsWhole) (h1 : k0_cond1 i = 1#1)
    (x0 : Vec Ideal S1024x2048 .f32) (x1 : Vec Ideal S1x6x2048 .f32) (x2 : Vec Ideal S1x2048 .f32)

/-- What one trip stores: its rows' payload, over the loads' values. -/
theorem trip (k : Fin k0_t1_loop.trips) :
    tripL_k0_t1 (F := Ideal) Variants.none c none i arg2 harg2 arg3 harg3 arg4 harg4 arg5 harg5 arg6 harg6 arg7 harg7 h1 (harg2.unread x0) (harg3.unread x1) (harg4.unread x2) k
     = [⟨Rect.unit (s := S1024x2048) (k0_off1 k) S256x2048.size (k0_off1_inb i k h1), k0_pay1
       (View.ld x0 (Rect.unit (s := S1024x2048) (k0_off1 k) S256x2048.size (k0_off1_inb i k h1)))
       (View.ld x2 (Rect.unit (s := S1x2048) ![0, 0] S1x2048.size inb_S1x2048_S1x2048_0_0))
       (View.ld x1 (Rect.unit (s := S1x6x2048) ![0, 1, 0] S1x1x2048.size inb_S1x6x2048_S1x1x2048_0_1_0))
       (View.ld x1 (Rect.unit (s := S1x6x2048) ![0, 0, 0] S1x1x2048.size inb_S1x6x2048_S1x1x2048_0_0_0))⟩] := by
  unfold tripL_k0_t1 trip_k0_t1
  frame_out

/-- A trip's payload is the input rows where it is stored. -/
theorem trip_at (k : Fin k0_t1_loop.trips) (inb : ∀ a, (k0_off1 k) a + S256x2048.size a ≤ S1024x2048.size a) (x : S256x2048.Idx) :
    k0_pay1 (F := Ideal) (View.ld x0 (Rect.unit (s := S1024x2048) (k0_off1 k) S256x2048.size inb))
       (View.ld x2 (Rect.unit (s := S1x2048) ![0, 0] S1x2048.size inb_S1x2048_S1x2048_0_0))
       (View.ld x1 (Rect.unit (s := S1x6x2048) ![0, 1, 0] S1x1x2048.size inb_S1x6x2048_S1x1x2048_0_1_0))
       (View.ld x1 (Rect.unit (s := S1x6x2048) ![0, 0, 0] S1x1x2048.size inb_S1x6x2048_S1x1x2048_0_0_0)) x
      = hid x0 x1 x2 ((Rect.unit (s := S1024x2048) (k0_off1 k) S256x2048.size inb).emb x) := by
  obtain ⟨r, j, rfl⟩ : ∃ (r : Fin 256) (j : Fin 2048), x = ix2 r j := ⟨x 0, x 1, by funext a; fin_cases a <;> rfl⟩
  rw [pay1_at]
  unfold hid
  have o0 : k0_off1 k 0 = 256 * k.val := by rw [off1]; rfl
  have o1 : k0_off1 k 1 = 0 := by rw [off1]; rfl
  have e1 : (Rect.unit (s := S1024x2048) (k0_off1 k) S256x2048.size inb).emb (ix2 r j) 1 = j := by
    refine Fin.ext ?_
    show k0_off1 k 1 + 1 * j.val = j.val
    omega
  rw [e1]
  congr 1
  · funext q
    refine congrArg x0 ?_
    funext a
    fin_cases a
    · rfl
    · refine Fin.ext ?_
      show k0_off1 k 1 + 1 * q.val = q.val
      omega
  · funext q
    refine congrArg x2 ?_
    funext a
    fin_cases a <;> refine Fin.ext ?_
    · rfl
    · show 0 + 1 * q.val = q.val
      omega
  · funext q
    refine congrArg x1 ?_
    funext a
    fin_cases a <;> refine Fin.ext ?_
    · rfl
    · rfl
    · show 0 + 1 * q.val = q.val
      omega
  · funext q
    refine congrArg x1 ?_
    funext a
    fin_cases a <;> refine Fin.ext ?_
    · rfl
    · rfl
    · show 0 + 1 * q.val = q.val
      omega

/-- The pieces of the trips before `n` are the input rows, and they cover the rows before `256 n`. -/
theorem pieces (n : ℕ) (hn : n ≤ k0_t1_loop.trips) :
    (∀ p ∈ pb_k0_t1 (F := Ideal) Variants.none c none i arg2 harg2 arg3 harg3 arg4 harg4 arg5 harg5 arg6 harg6 arg7 harg7 h1 (harg2.unread x0) (harg3.unread x1) (harg4.unread x2) n,
        ∀ x, p.2 x = hid x0 x1 x2 (p.1.emb x))
    ∧ ∀ y : S1024x2048.Idx, (y 0).val < 256 * n → ∃ p ∈ pb_k0_t1 (F := Ideal) Variants.none c none i arg2 harg2 arg3 harg3 arg4 harg4 arg5 harg5 arg6 harg6 arg7 harg7 h1 (harg2.unread x0) (harg3.unread x1) (harg4.unread x2) n, y ∈ p.1.set := by
  induction n with
  | zero =>
    refine ⟨fun p hp => absurd hp List.not_mem_nil, fun y hy => ?_⟩
    omega
  | succ n ih =>
    obtain ⟨ih1, ih2⟩ := ih (by omega)
    have e := pb_k0_t1_succ (F := Ideal) Variants.none c none i arg2 harg2 arg3 harg3 arg4 harg4 arg5 harg5 arg6 harg6 arg7 harg7 h1 (harg2.unread x0) (harg3.unread x1) (harg4.unread x2) ⟨n, by omega⟩
    rw [trip] at e
    rw [e]
    refine ⟨fun p hp => ?_, fun y hy => ?_⟩
    · rcases List.mem_append.1 hp with hp | hp
      · obtain rfl := List.mem_singleton.1 hp
        exact fun x => trip_at x0 x1 x2 _ _ x
      · exact ih1 p hp
    · by_cases hl : (y 0).val < 256 * n
      · obtain ⟨p, hp, hy⟩ := ih2 y hl
        exact ⟨p, List.mem_append_right _ hp, hy⟩
      · refine ⟨_, List.mem_append_left _ (List.mem_singleton.2 rfl), ?_⟩
        rw [Rect.mem_set_unit]
        have hy1 : (y 1).val < 2048 := (y 1).isLt
        intro a
        rw [off1]
        fin_cases a
        · show 256 * n ≤ (y 0).val ∧ (y 0).val < 256 * n + 256
          omega
        · show 0 ≤ (y 1).val ∧ (y 1).val < 0 + 2048
          omega

/-- After the last trip the scratch holds the tile's input rows. -/
theorem scratch (n : ℕ) (hn : n = 4) :
    View.canon (pb_k0_t1 (F := Ideal) Variants.none c none i arg2 harg2 arg3 harg3 arg4 harg4 arg5 harg5 arg6 harg6 arg7 harg7 h1 (harg2.unread x0) (harg3.unread x1) (harg4.unread x2) n)
      = hid x0 x1 x2 := by
  subst hn
  obtain ⟨p1, p2⟩ := pieces c i arg2 harg2 arg3 harg3 arg4 harg4 arg5 harg5 arg6 harg6 arg7 harg7 h1 x0 x1 x2 4 (by decide +kernel)
  funext y
  have h := View.canon_append_of_pieces (hid x0 x1 x2) [] _ p1 y (p2 y (by have : (y 0).val < 1024 := (y 0).isLt; omega))
  rwa [List.append_nil] at h

end pieces

variable (m : (ℓ : Loc nD τ sig) → Buf (Elt Ideal) ℓ) (ρ : Dev nD → PrngReg)

theorem out_A (c : Dev nD) (t : Fin cfg0.N) (h0 : t.val % 11 = 0) :
    (outsAt0 m c t.val t.isLt).2 = hid (iblk m c 0 t) (iblk m c 1 t) (iblk m c 2 t)
    ∧ (outsAt0 m c t.val t.isLt).1 = k0_pay2 (F := Ideal) (hid (iblk m c 0 t) (iblk m c 1 t) (iblk m c 2 t)) (iblk m c 3 t) := by
  rw [outsAt0_A m c t h0]
  frame_out
  refine ⟨scratch _ _ _ _ _ _ _ _ _ _ _ _ _ _ _ _ _ _ _ (by decide +kernel), ?_⟩
  rw [View.readCov_eq_canon', scratch _ _ _ _ _ _ _ _ _ _ _ _ _ _ _ _ _ _ _ (by decide +kernel)]
  refine congrArg (k0_pay2 (F := Ideal) · (iblk m c 3 t)) (funext fun j => congrArg (hid _ _ _) ?_)
  funext a
  fin_cases a <;> refine Fin.ext ?_
  · show 0 + 1 * (j 0).val = (j 0).val
    omega
  · show 0 + 1 * (j 1).val = (j 1).val
    omega

theorem out_B (c : Dev nD) (t : Fin cfg0.N) (h0 : ¬ t.val % 11 = 0) :
    (outsAt0 m c t.val t.isLt).2 = (outsAt0 m c (t.val - 1) (Nat.lt_of_le_of_lt (Nat.sub_le _ _) t.isLt)).2
    ∧ (outsAt0 m c t.val t.isLt).1 = k0_pay2 (F := Ideal) (outsAt0 m c (t.val - 1) (Nat.lt_of_le_of_lt (Nat.sub_le _ _) t.isLt)).2 (iblk m c 3 t) := by
  rw [outsAt0_B m c t h0]
  frame_out
  refine ⟨rfl, congrArg (k0_pay2 (F := Ideal) · (iblk m c 3 t)) ?_⟩
  exact Memref.IsWhole.read_unread _ _

/-- The blocks a grid point is given: its row tile, the first modulation row, the scale, its column tile. -/
theorem idx : ∀ t : Fin cfg0.N, win0_0.index t = ![t.val / 11, 0] ∧ win0_1.index t = ![0, 0, 0]
   ∧ win0_2.index t = ![0, 0] ∧ win0_3.index t = ![0, t.val % 11] ∧ win0_4.index t = ![t.val / 11, t.val % 11] ∧ t.val < 88 :=
  (by decide +kernel : ∀ t : Fin grid0.N, _)

/-- The scale the kernel is given. -/
theorem scale (c : Dev nD) (j : Fin 2048) : V m c main_v5 (ix2 0 j) = m ((c.tc : Thread nD τ).loc main_arg2) (ix1 j) := by
  entry_read
  pointwise

/-- The zeros between the weights' two parts. -/
def ZERO : FVec Ideal S2048x128 .f32 := broadcastInDim S2048x128 ![] bcast_S_S2048x128 (constant S_ .f32 0x00000000#32)

/-- Two parts with columns put between. -/
def CAT (u : FVec Ideal S2048x3456 .f32) (z : FVec Ideal S2048x128 .f32) (v : FVec Ideal S2048x2048 .f32) : FVec Ideal S2048x5632 .f32 :=
  concatenate S2048x5632 1 [⟨S2048x3456, u⟩, ⟨S2048x128, z⟩, ⟨S2048x2048, v⟩] concatenates_S2048x3456_S2048x128_S2048x2048_S2048x5632_d1

/-- The weights with 128 columns of zeros between their two parts. -/
def W (w : FVec Ideal S2048x5504 .f32) : FVec Ideal S2048x5632 .f32 :=
  CAT (extractStridedSlice S2048x3456 ![0, 0] w slices_S2048x5504_S2048x3456_0_0) ZERO
    (extractStridedSlice S2048x2048 ![0, 3456] w slices_S2048x5504_S2048x2048_0_3456)

theorem weights_at (w : FVec Ideal S2048x5504 .f32) (k : Fin 2048) (j : Fin 5632) :
    W w (ix2 k j) = if h : j.val < 3456 then w (ix2 k ⟨j.val, by omega⟩)
      else if h2 : j.val - 3456 < 128 then (0 : EReal) else w (ix2 k ⟨3456 + (j.val - 3456 - 128), by omega⟩) := by
  pointwise [W, CAT, ZERO]

/-- They are what the kernel is given. -/
theorem weights (c : Dev nD) : V m c main_v4 = truncf (F := Ideal) .bf16 (W (m ((c.tc : Thread nD τ).loc main_arg3))) bitsLt_bf16_f32 := by
  unfold V
  after_results_simp
  dsimp only [Matrix.cons_val]
  refine congrArg (fun x => truncf (F := Ideal) .bf16 x bitsLt_bf16_f32) ?_
  refine Eq.trans (b := CAT _ _ _) rfl (congr (congr (congrArg CAT ?_) ?_) ?_)
  all_goals (after_results_simp; try rfl)

theorem weight (c : Dev nD) (k : Fin 2048) (j : Fin 5632) :
    V m c main_v4 (ix2 k j) = W (m ((c.tc : Thread nD τ).loc main_arg3)) (ix2 k j) :=
  congrFun (weights m c) _

/-- The input rows. -/
def H (c : Dev nD) (R : Fin 8192) (k : Fin 2048) : EReal :=
  Cert.Norm.modulated (fun k => m ((c.tc : Thread nD τ).loc main_arg0) (ix2 R k)) (fun k => m ((c.tc : Thread nD τ).loc main_arg2) (ix1 k))
    (fun k => m ((c.tc : Thread nD τ).loc main_arg1) (ix3 0 1 k)) (fun k => m ((c.tc : Thread nD τ).loc main_arg1) (ix3 0 0 k)) k

/-- What the kernel leaves in its result. -/
def G (c : Dev nD) : S8192x5632.Idx → EReal := fun i => ∑ k : Fin 2048, H m c (i 0) k * V m c main_v4 (ix2 k (i 1))

section blocks
variable (c : Dev nD) (t : Fin cfg0.N) (ht : t.val < 88)

theorem b0_at (r : Fin 1024) (j : Fin 2048) :
    iblk m c 0 t (ix2 r j) = m ((c.tc : Thread nD τ).loc main_arg0) (ix2 ⟨t.val / 11 * 1024 + r.val, by omega⟩ j) := by
  blk_point [iblk, V_main_arg0, idx t]
theorem b1_at (a : Fin 6) (j : Fin 2048) :
    iblk m c 1 t (ix3 0 a j) = m ((c.tc : Thread nD τ).loc main_arg1) (ix3 0 a j) := by
  blk_point [iblk, V_main_arg1, idx t]
theorem b2_at (j : Fin 2048) : iblk m c 2 t (ix2 0 j) = m ((c.tc : Thread nD τ).loc main_arg2) (ix1 j) := by
  rw [← scale m c]
  blk_point [iblk, idx t]
theorem block3 (f : S2048x5632.Idx → EReal) (r : Fin 2048) (j : Fin 512) :
    ((cfg0.win 3).blk t).view.read (Elt Ideal) f (ix2 r j) = f (ix2 r ⟨t.val % 11 * 512 + j.val, by omega⟩) := by
  blk_point [idx t]
theorem b3_at (r : Fin 2048) (j : Fin 512) :
    iblk m c 3 t (ix2 r j) = V m c main_v4 (ix2 r ⟨t.val % 11 * 512 + j.val, by omega⟩) :=
  block3 t (V m c main_v4) r j

theorem hid_at (r : Fin 1024) (a : Fin 2048) :
    hid (iblk m c 0 t) (iblk m c 1 t) (iblk m c 2 t) (ix2 r a) = H m c ⟨t.val / 11 * 1024 + r.val, by omega⟩ a := by
  unfold hid H
  simp only [ix2_0, ix2_1, b0_at m c t ht, b1_at m c t, b2_at m c t]

end blocks

/-- The scratch holds the row tile's input rows all along the tile. -/
theorem held (c : Dev nD) (n : ℕ) (hn : n < cfg0.N) (h88 : n < 88) (r : Fin 1024) (a : Fin 2048) :
    (outsAt0 m c n hn).2 (ix2 r a) = H m c ⟨n / 11 * 1024 + r.val, by omega⟩ a := by
  induction n with
  | zero =>
    rw [(out_A m c ⟨0, hn⟩ rfl).1]
    exact hid_at m c ⟨0, hn⟩ h88 r a
  | succ n ih =>
    by_cases h0 : (n + 1) % 11 = 0
    · rw [(out_A m c ⟨n + 1, hn⟩ h0).1]
      exact hid_at m c ⟨n + 1, hn⟩ h88 r a
    · rw [(out_B m c ⟨n + 1, hn⟩ h0).1]
      refine (ih (by omega) (by omega)).trans ?_
      have e : (n + 1) / 11 = n / 11 := by omega
      simp only [e]

/-- What a point computes. -/
theorem out_at (c : Dev nD) (t : Fin cfg0.N) (ht : t.val < 88) (r : Fin 1024) (j : Fin 512) :
    (outsAt0 m c t.val t.isLt).1 (ix2 r j)
      = G m c (ix2 ⟨t.val / 11 * 1024 + r.val, by omega⟩ ⟨t.val % 11 * 512 + j.val, by omega⟩) := by
  have e : (outsAt0 m c t.val t.isLt).1 = k0_pay2 (F := Ideal) (outsAt0 m c t.val t.isLt).2 (iblk m c 3 t) := by
    by_cases h0 : t.val % 11 = 0
    · rw [(out_A m c t h0).2, (out_A m c t h0).1]
    · rw [(out_B m c t h0).2, (out_B m c t h0).1]
  rw [e, pay2_at]
  refine Finset.sum_congr rfl fun k _ => ?_
  rw [held m c t.val t.isLt ht, b3_at m c t]
  rfl

theorem final (c : Dev nD) : (dats m 0 c).arrAt 4 cfg0.N = G m c := by
  refine (dats m 0 c).arrAt_eq_of_covers 4 (G m c) (by decide +kernel) fun t hf y => ?_
  obtain ⟨r, j, rfl⟩ : ∃ (r : Fin 1024) (j : Fin 512), y = ix2 r j := ⟨y 0, y 1, by funext a; fin_cases a <;> rfl⟩
  have ht := (idx t).2.2.2.2.2
  refine Eq.trans ?_ ((out_at m c t ht r j).trans ?_)
  · exact congrFun (after0_4 m c t) _
  · refine congrArg (G m c) ?_
    blk_ext [idx t]

theorem runs : θ_run defs (onTc (τ := τ) (main (F := Ideal))) ⟨m, fun _ => 0, ρ⟩ fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (run_blocks m ρ)

/-- The kernel's result is the reference's term: a product with a column of zeros is zero. -/
theorem result (c : Dev nD) :
    G m c = Cert.InProjRefIdeal.Value.PADDED (Cert.InProjRefIdeal.Value.PROD
      (Cert.InProjRefIdeal.Value.ROWS (m ((c.tc : Thread nD τ).loc main_arg0)) (m ((c.tc : Thread nD τ).loc main_arg1))
        (m ((c.tc : Thread nD τ).loc main_arg2))) (m ((c.tc : Thread nD τ).loc main_arg3))) := by
  funext i
  obtain ⟨r, j, rfl⟩ : ∃ (r : Fin 8192) (j : Fin 5632), i = ix2 r j := ⟨i 0, i 1, by funext a; fin_cases a <;> rfl⟩
  refine Eq.trans ?_ (Cert.InProjRefIdeal.Value.padded_at _ r j).symm
  unfold G
  simp only [ix2_0, ix2_1, weight m c, weights_at, Cert.InProjRefIdeal.Value.prod_at, Cert.InProjRefIdeal.Value.rows_at]
  by_cases h : j.val < 3456
  · simp only [dif_pos h]
    rfl
  · by_cases h2 : j.val - 3456 < 128
    · simp only [dif_neg h, dif_pos h2, mul_zero, Finset.sum_const_zero]
    · simp only [dif_neg h, dif_neg h2]
      rfl

end Cert.InProjIdeal.Value

namespace Cert.Proof

open Idealize.ShloMosaic Idealize.ShloMosaic.TcCoe Idealize.SL.Sem

theorem frame_inproj : Cert.quiescent_InProj := fun m g _ => Cert.InProj.Gen.frame m g

theorem frame_inprojIdeal : Cert.quiescent_InProjIdeal := fun m g _ => Cert.InProjIdeal.Gen.frame m g

theorem frame_inprojRefIdeal : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

theorem algebraic_inproj : Cert.algebraic_InProjIdeal_InProjRefIdeal := by
  pair_intro
  · exact Cert.InProjIdeal.Value.runs m g
  · refine (θ_run Cert.InProjRefIdeal.defs _ _).mono (fun r h c => ⟨(h c).1.trans ?_, (h c).2⟩)
      (Cert.InProjRefIdeal.Value.runs m' g')
    obtain ⟨a0, a1, a2, a3⟩ := hagree c
    rw [a0, a1, a2, a3]
    exact (Cert.InProjIdeal.Value.result m c).symm

end Cert.Proof
end
-- ==== Proof.OutProjPair.lean ====
/-
  The output projection against its reference at the ideal floats: equal results.

  The kernel multiplies the two halves of the joined directions by the two halves of the weight's rows and adds the two
  products; the reference joins the halves and multiplies once.
-/
module

public import proofs.«01_k».proof.Proof.Gen.OutProj.Frame
public import proofs.«01_k».proof.Proof.Gen.OutProjIdeal.Value
public import proofs.«01_k».proof.Proof.Gen.OutProjRefIdeal.Run
public import proofs.«01_k».proof.Defs
public import Idealize.ShloMosaic.Lib.Pipeline.ValueKit
public import Idealize.ShloMosaic.Lib.Claim

@[expose] public section

set_option maxRecDepth 16384

noncomputable section

namespace Cert.OutProjIdeal.Value

open Cert.OutProjIdeal Cert.OutProjIdeal.Gen
open Idealize.ShloMosaic Idealize.ShloMosaic.TcCoe Idealize.SL.Sem

/-- One element of the result: the row of the residual plus the gated product of the joined row with the weight. -/
def elt (yr yf : S8192x1024.Idx → EReal) (w : S2048x2048.Idx → EReal) (x : S8192x2048.Idx → EReal) (md : S5x6x2048.Idx → EReal)
    (r : Fin 8192) (j : Fin 2048) : EReal :=
  x (ix2 r j) + md (ix3 0 2 j) *
    (∑ k : Fin 1024, yr (ix2 r k) * w (ix2 ⟨k.val, by omega⟩ j) + ∑ k : Fin 1024, yf (ix2 r k) * w (ix2 ⟨1024 + k.val, by omega⟩ j))

theorem body_at (x0 x1 : Vec Ideal S1024x1024 .bf16) (x2 : Vec Ideal S2048x512 .bf16) (x3 : Vec Ideal S1024x512 .f32)
    (x4 : Vec Ideal S1x6x512 .f32) (r : Fin 1024) (j : Fin 512) :
    out0_5 (F := Ideal) x0 x1 x2 x3 x4 (ix2 r j)
      = x3 (ix2 r j) + x4 (ix3 0 2 j) *
        (∑ k : Fin 1024, x0 (ix2 r k) * x2 (ix2 ⟨k.val, by omega⟩ j) + ∑ k : Fin 1024, x1 (ix2 r k) * x2 (ix2 ⟨1024 + k.val, by omega⟩ j)) := by
  frame_out
  pointwise [k0_pay1]

variable (m : (ℓ : Loc nD τ sig) → Buf (Elt Ideal) ℓ) (ρ : Dev nD → PrngReg)

/-- The blocks a grid point (row tile `t / 4`, column tile `t % 4`) is given. -/
theorem idx : ∀ t : Fin cfg0.N, win0_0.index t = ![t.val / 4, 0] ∧ win0_1.index t = ![t.val / 4, 0]
   ∧ win0_2.index t = ![0, t.val % 4] ∧ win0_3.index t = ![t.val / 4, t.val % 4]
   ∧ win0_4.index t = ![0, 0, t.val % 4] ∧ win0_5.index t = ![t.val / 4, t.val % 4] ∧ t.val / 4 < 8 :=
  (by decide +kernel : ∀ t : Fin grid0.N, _)

/-- What the kernel leaves in its result. -/
def G (c : Dev nD) : S8192x2048.Idx → EReal := fun i =>
  elt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1)

/-- The kernel's rounded weight is the weight. -/
theorem weight (c : Dev nD) : V m c main_v0 = m ((c.tc : Thread nD τ).loc main_arg2) := by
  entry_read
  rfl

section blocks
variable (c : Dev nD) (t : Fin cfg0.N) (ht : t.val / 4 < 8)

theorem b0_at (r k : Fin 1024) :
    iblk m c 0 t (ix2 r k) = m ((c.tc : Thread nD τ).loc main_arg0) (ix2 ⟨t.val / 4 * 1024 + r.val, by omega⟩ k) := by
  blk_point [iblk, V_main_arg0, idx t]
theorem b1_at (r k : Fin 1024) :
    iblk m c 1 t (ix2 r k) = m ((c.tc : Thread nD τ).loc main_arg1) (ix2 ⟨t.val / 4 * 1024 + r.val, by omega⟩ k) := by
  blk_point [iblk, V_main_arg1, idx t]
theorem b2_at (k : Fin 2048) (j : Fin 512) :
    iblk m c 2 t (ix2 k j) = m ((c.tc : Thread nD τ).loc main_arg2) (ix2 k ⟨t.val % 4 * 512 + j.val, by omega⟩) := by
  rw [← weight m c]
  blk_point [iblk, idx t]
theorem b3_at (r : Fin 1024) (j : Fin 512) :
    iblk m c 3 t (ix2 r j) = m ((c.tc : Thread nD τ).loc main_arg3)
      (ix2 ⟨t.val / 4 * 1024 + r.val, by omega⟩ ⟨t.val % 4 * 512 + j.val, by omega⟩) := by
  blk_point [iblk, V_main_arg3, idx t]
theorem b4_at (j : Fin 512) :
    iblk m c 4 t (ix3 0 2 j) = m ((c.tc : Thread nD τ).loc main_arg4) (ix3 0 2 ⟨t.val % 4 * 512 + j.val, by omega⟩) := by
  blk_point [iblk, V_main_arg4, idx t]

end blocks

theorem final (c : Dev nD) : (dats m 0 c).arrAt 5 cfg0.N = G m c := by
  refine (dats m 0 c).arrAt_eq_of_covers 5 (G m c) (by decide +kernel) fun t hf y => ?_
  obtain ⟨r, j, rfl⟩ : ∃ (r : Fin 1024) (j : Fin 512), y = ix2 r j := ⟨y 0, y 1, by funext a; fin_cases a <;> rfl⟩
  have ht := (idx t).2.2.2.2.2.2
  have h1 : out0_5 (F := Ideal) (iblk m c 0 t) (iblk m c 1 t) (iblk m c 2 t) (iblk m c 3 t) (iblk m c 4 t) (ix2 r j)
      = G m c (ix2 ⟨t.val / 4 * 1024 + r.val, by omega⟩ ⟨t.val % 4 * 512 + j.val, by omega⟩) := by
    rw [body_at]
    simp only [b0_at m c t ht, b1_at m c t ht, b2_at m c t, b3_at m c t ht, b4_at m c t]
    rfl
  refine Eq.trans ?_ (h1.trans ?_)
  · exact congrFun (after0_5 m c t) _
  · congr 1
    blk_ext [idx t]

theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (run_blocks m ρ)

end Cert.OutProjIdeal.Value

namespace Cert.OutProjRefIdeal.Value

open Cert.OutProjRefIdeal Cert.OutProjRefIdeal.Gen
open Idealize.ShloMosaic Idealize.ShloMosaic.TcCoe Idealize.SL.Sem Idealize.ShloMosaic.StableHlo

/-- The reference's result as a term of its arguments. -/
def OUT (yr yf : FVec Ideal S8192x1024 .bf16) (w : FVec Ideal S2048x2048 .f32) (x : FVec Ideal S8192x2048 .f32)
    (md : FVec Ideal S5x6x2048 .f32) : FVec Ideal S8192x2048 .f32 :=
  addf x (mulf (broadcastInDim S8192x2048 ![0, 1] bcast_S1x2048_S8192x2048_0_1
      (shapeCast _ (extractStridedSlice S1x1x2048 ![0, 2, 0] md slices_S5x6x2048_S1x1x2048_0_2_0) shapeCasts_S1x1x2048_S1x2048))
    (Host.dotGeneral dot_S8192x2048_S2048x2048_S8192x2048_1_0_0_1_n_n none
      (extf .f32 (concatenate S8192x2048 1 [⟨S8192x1024, yr⟩, ⟨S8192x1024, yf⟩] concatenates_S8192x1024_S8192x1024_S8192x2048_d1) bitsLt_bf16_f32) w))

theorem out_at (yr yf : FVec Ideal S8192x1024 .bf16) (w : FVec Ideal S2048x2048 .f32) (x : FVec Ideal S8192x2048 .f32)
    (md : FVec Ideal S5x6x2048 .f32) (r : Fin 8192) (j : Fin 2048) :
    OUT yr yf w x md (ix2 r j) = Cert.OutProjIdeal.Value.elt yr yf w x md r j := by
  pointwise [OUT, Cert.OutProjIdeal.Value.elt]

end Cert.OutProjRefIdeal.Value

namespace Cert.Proof

open Idealize.ShloMosaic Idealize.ShloMosaic.TcCoe Idealize.SL.Sem

theorem frame_outproj : Cert.quiescent_OutProj := fun m g _ => Cert.OutProj.Gen.frame m g

theorem frame_outprojIdeal : Cert.quiescent_OutProjIdeal := fun m g _ => Cert.OutProjIdeal.Gen.frame m g

theorem frame_outprojRefIdeal : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

theorem algebraic_outproj : Cert.algebraic_OutProjIdeal_OutProjRefIdeal := by
  pair_intro
  · exact Cert.OutProjIdeal.Value.run m g
  · refine (θ_run Cert.OutProjRefIdeal.defs _ _).mono (fun r h c => ⟨(h c).1.trans ?_, (h c).2⟩)
      (Cert.OutProjRefIdeal.Value.run (F := Ideal) m' g')
    obtain ⟨a0, a1, a2, a3, a4⟩ := hagree c
    rw [a0, a1, a2, a3, a4]
    funext i
    obtain ⟨r, j, rfl⟩ : ∃ (r : Fin 8192) (j : Fin 2048), i = ix2 r j := ⟨i 0, i 1, by funext a; fin_cases a <;> rfl⟩
    exact Cert.OutProjRefIdeal.Value.out_at _ _ _ _ _ r j

end Cert.Proof
end
-- ==== Proof.FinalCtxPair.lean ====
/-
  The last normalization of the context rows against its reference at the ideal floats: equal results.
-/
module

public import proofs.«01_k».proof.Proof.Norm
public import proofs.«01_k».proof.Proof.Gen.FinalCtx.Frame
public import proofs.«01_k».proof.Proof.Gen.FinalCtxIdeal.Value
public import proofs.«01_k».proof.Proof.Gen.FinalCtxRefIdeal.Run
public import proofs.«01_k».proof.Defs
public import Idealize.ShloMosaic.Lib.Claim

@[expose] public section

set_option maxRecDepth 16384

noncomputable section

namespace Cert.FinalCtxRefIdeal.Value

open Cert.FinalCtxRefIdeal Cert.FinalCtxRefIdeal.Gen
open Idealize.ShloMosaic Idealize.ShloMosaic.TcCoe Idealize.SL.Sem Idealize.ShloMosaic.StableHlo

/-- The experts' results summed onto the tokens they were picked from. -/
def SUM (ye : FVec Ideal S16x1024x2048 .f32) (idx : IVec S16x1024 32) : FVec Ideal S8192x2048 .f32 :=
  Host.scatterAdd scatter_S8192x2048_S16384x1_S16384x2048_1_0_0_1 (broadcastInDim S8192x2048 ![] bcast_S_S8192x2048 (constant S_ .f32 0x00000000#32))
    (broadcastInDim S16384x1 ![0] bcast_S16384_S16384x1_0
      (select (cmpi .slt (shapeCast _ idx shapeCasts_S16x1024_S16384) (broadcastInDim S16384 ![] bcast_S_S16384 (constantI S_ 32 0#32)))
        (addi (shapeCast _ idx shapeCasts_S16x1024_S16384) (broadcastInDim S16384 ![] bcast_S_S16384 (constantI S_ 32 8192#32)))
        (shapeCast _ idx shapeCasts_S16x1024_S16384)))
    (shapeCast _ ye shapeCasts_S16x1024x2048_S16384x2048)

/-- The residual plus the gated sum. -/
def RES (x s : FVec Ideal S8192x2048 .f32) (md : FVec Ideal S5x6x2048 .f32) : FVec Ideal S8192x2048 .f32 :=
  addf x (mulf (broadcastInDim S8192x2048 ![0, 1] bcast_S1x2048_S8192x2048_0_1
    (shapeCast _ (extractStridedSlice S1x1x2048 ![0, 5, 0] md slices_S5x6x2048_S1x1x2048_0_5_0) shapeCasts_S1x1x2048_S1x2048)) s)

/-- Its rows normalized and scaled. -/
def OUT (z : FVec Ideal S8192x2048 .f32) (g : FVec Ideal S2048 .f32) : FVec Ideal S8192x2048 .f32 :=
  mulf (mulf z
      (broadcastInDim S8192x2048 ![0, 1] bcast_S8192x1_S8192x2048_0_1
        (Host.rsqrt (addf (Host.divf (broadcastInDim S8192x1 ![0] bcast_S8192_S8192x1_0
              (Host.reduceAdd (mulf z z) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem out_at (x s : FVec Ideal S8192x2048 .f32) (md : FVec Ideal S5x6x2048 .f32) (g : FVec Ideal S2048 .f32)
    (r : Fin 8192) (j : Fin 2048) :
    OUT (RES x s md) g (ix2 r j)
      = Cert.Norm.last (fun k => x (ix2 r k)) (fun k => s (ix2 r k)) (fun k => md (ix3 0 5 k)) (fun k => g (ix1 k)) j := by
  pointwise [OUT, RES, Cert.Norm.last, Cert.Norm.row]

end Cert.FinalCtxRefIdeal.Value

namespace Cert.FinalCtxIdeal.Value

open Cert.FinalCtxIdeal Cert.FinalCtxIdeal.Gen
open Idealize.ShloMosaic Idealize.ShloMosaic.TcCoe Idealize.SL.Sem

theorem body_at (x0 x1 : Vec Ideal S256x2048 .f32) (x2 : Vec Ideal S1x6x2048 .f32) (x3 : Vec Ideal S1x2048 .f32)
    (r : Fin 256) (j : Fin 2048) :
    out0_4 (F := Ideal) x0 x1 x2 x3 (ix2 r j)
      = Cert.Norm.last (fun k => x0 (ix2 r k)) (fun k => x1 (ix2 r k)) (fun k => x2 (ix3 0 5 k)) (fun k => x3 (ix2 0 k)) j := by
  frame_out
  pointwise [k0_pay1, Cert.Norm.last, Cert.Norm.row]

variable (m : (ℓ : Loc nD τ sig) → Buf (Elt Ideal) ℓ) (ρ : Dev nD → PrngReg)

/-- The blocks a grid point is given: rows `256 t` on. -/
theorem idx : ∀ t : Fin cfg0.N, win0_0.index t = ![t.val, 0] ∧ win0_1.index t = ![t.val, 0]
   ∧ win0_2.index t = ![0, 0, 0] ∧ win0_3.index t = ![0, 0] ∧ win0_4.index t = ![t.val, 0] ∧ t.val < 32 :=
  (by decide +kernel : ∀ t : Fin grid0.N, _)

/-- The sum the kernel is given is the reference's, -/
theorem sums (c : Dev nD) :
    V m c main_v9 = Cert.FinalCtxRefIdeal.Value.SUM (m ((c.tc : Thread nD τ).loc main_arg1)) (m ((c.tc : Thread nD τ).loc main_arg2)) := by
  entry_read
  rfl

/-- and so is the scale. -/
theorem scale (c : Dev nD) (j : Fin 2048) : V m c main_v10 (ix2 0 j) = m ((c.tc : Thread nD τ).loc main_arg4) (ix1 j) := by
  entry_read
  pointwise

/-- What the kernel leaves in its result. -/
def G (c : Dev nD) : S8192x2048.Idx → EReal := fun i =>
  Cert.Norm.last (fun k => m ((c.tc : Thread nD τ).loc main_arg0) (ix2 (i 0) k)) (fun k => V m c main_v9 (ix2 (i 0) k))
    (fun k => m ((c.tc : Thread nD τ).loc main_arg3) (ix3 0 5 k)) (fun k => m ((c.tc : Thread nD τ).loc main_arg4) (ix1 k)) (i 1)

section blocks
variable (c : Dev nD) (t : Fin cfg0.N) (ht : t.val < 32)

theorem b0_at (r : Fin 256) (j : Fin 2048) :
    iblk m c 0 t (ix2 r j) = m ((c.tc : Thread nD τ).loc main_arg0) (ix2 ⟨t.val * 256 + r.val, by omega⟩ j) := by
  blk_point [iblk, V_main_arg0, idx t]
theorem block1 (f : S8192x2048.Idx → EReal) (r : Fin 256) (j : Fin 2048) :
    ((cfg0.win 1).blk t).view.read (Elt Ideal) f (ix2 r j) = f (ix2 ⟨t.val * 256 + r.val, by omega⟩ j) := by
  blk_point [idx t]
theorem b1_at (r : Fin 256) (j : Fin 2048) :
    iblk m c 1 t (ix2 r j) = V m c main_v9 (ix2 ⟨t.val * 256 + r.val, by omega⟩ j) :=
  block1 t ht (V m c main_v9) r j
theorem b2_at (j : Fin 2048) : iblk m c 2 t (ix3 0 5 j) = m ((c.tc : Thread nD τ).loc main_arg3) (ix3 0 5 j) := by
  blk_point [iblk, V_main_arg3, idx t]
theorem b3_at (j : Fin 2048) : iblk m c 3 t (ix2 0 j) = m ((c.tc : Thread nD τ).loc main_arg4) (ix1 j) := by
  rw [← scale m c]
  blk_point [iblk, idx t]

end blocks

theorem final (c : Dev nD) : (dats m 0 c).arrAt 4 cfg0.N = G m c := by
  refine (dats m 0 c).arrAt_eq_of_covers 4 (G m c) (by decide +kernel) fun t hf y => ?_
  obtain ⟨r, j, rfl⟩ : ∃ (r : Fin 256) (j : Fin 2048), y = ix2 r j := ⟨y 0, y 1, by funext a; fin_cases a <;> rfl⟩
  have ht := (idx t).2.2.2.2.2
  have h1 : out0_4 (F := Ideal) (iblk m c 0 t) (iblk m c 1 t) (iblk m c 2 t) (iblk m c 3 t) (ix2 r j)
      = G m c (ix2 ⟨t.val * 256 + r.val, by omega⟩ j) := by
    rw [body_at]
    simp only [b0_at m c t ht, b1_at m c t ht, b2_at m c t, b3_at m c t]
    unfold G
    simp only [ix2_0, ix2_1]
  refine Eq.trans ?_ (h1.trans ?_)
  · exact congrFun (after0_4 m c t) _
  · refine congrArg (G m c) ?_
    blk_ext [idx t]

theorem run : θ_run defs (onTc (τ := τ) (main (F := Ideal))) ⟨m, fun _ => 0, ρ⟩ fun r => ∀ c : Dev nD,
      r.2.mem ((c.tc : Thread nD τ).loc main_v11) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (run_blocks m ρ)

/-- The kernel's result is the reference's term. -/
theorem result (c : Dev nD) :
    G m c = Cert.FinalCtxRefIdeal.Value.OUT
      (Cert.FinalCtxRefIdeal.Value.RES (m ((c.tc : Thread nD τ).loc main_arg0))
        (Cert.FinalCtxRefIdeal.Value.SUM (m ((c.tc : Thread nD τ).loc main_arg1)) (m ((c.tc : Thread nD τ).loc main_arg2)))
        (m ((c.tc : Thread nD τ).loc main_arg3))) (m ((c.tc : Thread nD τ).loc main_arg4)) := by
  funext i
  obtain ⟨r, j, rfl⟩ : ∃ (r : Fin 8192) (j : Fin 2048), i = ix2 r j := ⟨i 0, i 1, by funext a; fin_cases a <;> rfl⟩
  refine Eq.trans ?_ (Cert.FinalCtxRefIdeal.Value.out_at _ _ _ _ r j).symm
  rw [← sums m c]
  rfl

end Cert.FinalCtxIdeal.Value

namespace Cert.Proof

open Idealize.ShloMosaic Idealize.ShloMosaic.TcCoe Idealize.SL.Sem

theorem frame_finalctx : Cert.quiescent_FinalCtx := fun m g _ => Cert.FinalCtx.Gen.frame m g

theorem frame_finalctxIdeal : Cert.quiescent_FinalCtxIdeal := fun m g _ => Cert.FinalCtxIdeal.Gen.frame m g

theorem frame_finalctxRefIdeal : Cert.quiescent_FinalCtxRefIdeal := fun m g _ =>
  (θ_run Cert.FinalCtxRefIdeal.defs _ _).mono (fun r h => ⟨fun c => (h c).2, sem_eq_zero_of_no_sems (by decide) r.2⟩)
    (Cert.FinalCtxRefIdeal.Value.run (F := Ideal) m g)

theorem algebraic_finalctx : Cert.algebraic_FinalCtxIdeal_FinalCtxRefIdeal := by
  pair_intro
  · exact Cert.FinalCtxIdeal.Value.run m g
  · refine (θ_run Cert.FinalCtxRefIdeal.defs _ _).mono (fun r h c => ⟨(h c).1.trans ?_, (h c).2⟩)
      (Cert.FinalCtxRefIdeal.Value.run (F := Ideal) m' g')
    obtain ⟨a0, a1, a2, a3, a4⟩ := hagree c
    rw [a0, a1, a2, a3, a4]
    exact (Cert.FinalCtxIdeal.Value.result m c).symm

end Cert.Proof
end
-- ==== Proof.FinalLatPair.lean ====
/-
  The last normalization of the latent rows against its reference at the ideal floats: equal results.
-/
module

public import proofs.«01_k».proof.Proof.Norm
public import proofs.«01_k».proof.Proof.Gen.FinalLat.Frame
public import proofs.«01_k».proof.Proof.Gen.FinalLatIdeal.Value
public import proofs.«01_k».proof.Proof.Gen.FinalLatRefIdeal.Run
public import proofs.«01_k».proof.Defs
public import Idealize.ShloMosaic.Lib.Claim

@[expose] public section

set_option maxRecDepth 16384

noncomputable section

namespace Cert.FinalLatRefIdeal.Value

open Cert.FinalLatRefIdeal Cert.FinalLatRefIdeal.Gen
open Idealize.ShloMosaic Idealize.ShloMosaic.TcCoe Idealize.SL.Sem Idealize.ShloMosaic.StableHlo

/-- The experts' results summed onto the tokens they were picked from. -/
def SUM (ye : FVec Ideal S16x1024x2048 .f32) (idx : IVec S16x1024 32) : FVec Ideal S8192x2048 .f32 :=
  Host.scatterAdd scatter_S8192x2048_S16384x1_S16384x2048_1_0_0_1 (broadcastInDim S8192x2048 ![] bcast_S_S8192x2048 (constant S_ .f32 0x00000000#32))
    (broadcastInDim S16384x1 ![0] bcast_S16384_S16384x1_0
      (select (cmpi .slt (shapeCast _ idx shapeCasts_S16x1024_S16384) (broadcastInDim S16384 ![] bcast_S_S16384 (constantI S_ 32 0#32)))
        (addi (shapeCast _ idx shapeCasts_S16x1024_S16384) (broadcastInDim S16384 ![] bcast_S_S16384 (constantI S_ 32 8192#32)))
        (shapeCast _ idx shapeCasts_S16x1024_S16384)))
    (shapeCast _ ye shapeCasts_S16x1024x2048_S16384x2048)

/-- The residual plus the gated sum, batch by batch. -/
def RES (x s : FVec Ideal S8192x2048 .f32) (md : FVec Ideal S5x6x2048 .f32) : FVec Ideal S4x2048x2048 .f32 :=
  addf (shapeCast _ x shapeCasts_S8192x2048_S4x2048x2048)
    (mulf (broadcastInDim S4x2048x2048 ![0, 1, 2] bcast_S4x1x2048_S4x2048x2048_0_1_2
        (broadcastInDim S4x1x2048 ![0, 2] bcast_S4x2048_S4x1x2048_0_2
          (shapeCast _ (extractStridedSlice S4x1x2048 ![1, 5, 0] md slices_S5x6x2048_S4x1x2048_1_5_0) shapeCasts_S4x1x2048_S4x2048)))
      (shapeCast _ s shapeCasts_S8192x2048_S4x2048x2048))

/-- Its rows normalized and scaled. -/
def OUT (z : FVec Ideal S4x2048x2048 .f32) (g : FVec Ideal S2048 .f32) : FVec Ideal S4x2048x2048 .f32 :=
  mulf (mulf z
      (broadcastInDim S4x2048x2048 ![0, 1, 2] bcast_S4x2048x1_S4x2048x2048_0_1_2
        (Host.rsqrt (addf (Host.divf (broadcastInDim S4x2048x1 ![0, 1] bcast_S4x2048_S4x2048x1_0_1
              (Host.reduceAdd (mulf z z) (constant S_ .f32 0x00000000#32) reducesTo_S4x2048x2048_S4x2048_d2 h_S_))
            (broadcastInDim S4x2048x1 ![] bcast_S_S4x2048x1 (constant S_ .f32 0x45000000#32)))
          (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 g))

/-- The batches laid end to end. -/
def FLAT (z : FVec Ideal S4x2048x2048 .f32) : FVec Ideal S8192x2048 .f32 := shapeCast _ z shapeCasts_S4x2048x2048_S8192x2048

theorem out_at (x s : FVec Ideal S8192x2048 .f32) (md : FVec Ideal S5x6x2048 .f32) (g : FVec Ideal S2048 .f32)
    (r : Fin 8192) (j : Fin 2048) :
    FLAT (OUT (RES x s md) g) (ix2 r j)
      = Cert.Norm.last (fun k => x (ix2 r k)) (fun k => s (ix2 r k)) (fun k => md (ix3 ⟨1 + r.val / 2048, by omega⟩ 5 k)) (fun k => g (ix1 k)) j := by
  pointwise [FLAT, OUT, RES, Cert.Norm.last, Cert.Norm.row]

/-- The reference's result, read with these names. -/
theorem res_eq (m : (ℓ : Loc nD τ sig) → Buf (Elt Ideal) ℓ) (c : Dev nD) :
    res_main_v31 (F := Ideal) m c = FLAT (OUT (RES (m ((c.tc : Thread nD τ).loc main_arg0))
      (SUM (m ((c.tc : Thread nD τ).loc main_arg1)) (m ((c.tc : Thread nD τ).loc main_arg2))) (m ((c.tc : Thread nD τ).loc main_arg3)))
      (m ((c.tc : Thread nD τ).loc main_arg4))) := rfl

end Cert.FinalLatRefIdeal.Value

namespace Cert.FinalLatIdeal.Value

open Cert.FinalLatIdeal Cert.FinalLatIdeal.Gen
open Idealize.ShloMosaic Idealize.ShloMosaic.TcCoe Idealize.SL.Sem

theorem body_at (x0 x1 : Vec Ideal S256x2048 .f32) (x2 : Vec Ideal S1x6x2048 .f32) (x3 : Vec Ideal S1x2048 .f32)
    (r : Fin 256) (j : Fin 2048) :
    out0_4 (F := Ideal) x0 x1 x2 x3 (ix2 r j)
      = Cert.Norm.last (fun k => x0 (ix2 r k)) (fun k => x1 (ix2 r k)) (fun k => x2 (ix3 0 5 k)) (fun k => x3 (ix2 0 k)) j := by
  frame_out
  pointwise [k0_pay1, Cert.Norm.last, Cert.Norm.row]

variable (m : (ℓ : Loc nD τ sig) → Buf (Elt Ideal) ℓ) (ρ : Dev nD → PrngReg)

/-- The blocks a grid point is given: rows `256 t` on. -/
theorem idx : ∀ t : Fin cfg0.N, win0_0.index t = ![t.val, 0] ∧ win0_1.index t = ![t.val, 0]
   ∧ win0_2.index t = ![1 + t.val / 8, 0, 0] ∧ win0_3.index t = ![0, 0] ∧ win0_4.index t = ![t.val, 0] ∧ t.val < 32 :=
  (by decide +kernel : ∀ t : Fin grid0.N, _)

/-- The sum the kernel is given is the reference's, -/
theorem sums (c : Dev nD) :
    V m c main_v9 = Cert.FinalLatRefIdeal.Value.SUM (m ((c.tc : Thread nD τ).loc main_arg1)) (m ((c.tc : Thread nD τ).loc main_arg2)) := by
  entry_read
  rfl

/-- and so is the scale. -/
theorem scale (c : Dev nD) (j : Fin 2048) : V m c main_v10 (ix2 0 j) = m ((c.tc : Thread nD τ).loc main_arg4) (ix1 j) := by
  entry_read
  pointwise

/-- What the kernel leaves in its result. -/
def G (c : Dev nD) : S8192x2048.Idx → EReal := fun i =>
  Cert.Norm.last (fun k => m ((c.tc : Thread nD τ).loc main_arg0) (ix2 (i 0) k)) (fun k => V m c main_v9 (ix2 (i 0) k))
    (fun k => m ((c.tc : Thread nD τ).loc main_arg3) (ix3 ⟨1 + (i 0).val / 2048, by have := (i 0).isLt; simp at this; omega⟩ 5 k)) (fun k => m ((c.tc : Thread nD τ).loc main_arg4) (ix1 k)) (i 1)

section blocks
variable (c : Dev nD) (t : Fin cfg0.N) (ht : t.val < 32)

theorem b0_at (r : Fin 256) (j : Fin 2048) :
    iblk m c 0 t (ix2 r j) = m ((c.tc : Thread nD τ).loc main_arg0) (ix2 ⟨t.val * 256 + r.val, by omega⟩ j) := by
  blk_point [iblk, V_main_arg0, idx t]
theorem block1 (f : S8192x2048.Idx → EReal) (r : Fin 256) (j : Fin 2048) :
    ((cfg0.win 1).blk t).view.read (Elt Ideal) f (ix2 r j) = f (ix2 ⟨t.val * 256 + r.val, by omega⟩ j) := by
  blk_point [idx t]
theorem b1_at (r : Fin 256) (j : Fin 2048) :
    iblk m c 1 t (ix2 r j) = V m c main_v9 (ix2 ⟨t.val * 256 + r.val, by omega⟩ j) :=
  block1 t ht (V m c main_v9) r j
theorem b2_at (j : Fin 2048) :
    iblk m c 2 t (ix3 0 5 j) = m ((c.tc : Thread nD τ).loc main_arg3) (ix3 ⟨1 + t.val / 8, by omega⟩ 5 j) := by
  blk_point [iblk, V_main_arg3, idx t]
theorem b3_at (j : Fin 2048) : iblk m c 3 t (ix2 0 j) = m ((c.tc : Thread nD τ).loc main_arg4) (ix1 j) := by
  rw [← scale m c]
  blk_point [iblk, idx t]

end blocks

theorem final (c : Dev nD) : (dats m 0 c).arrAt 4 cfg0.N = G m c := by
  refine (dats m 0 c).arrAt_eq_of_covers 4 (G m c) (by decide +kernel) fun t hf y => ?_
  obtain ⟨r, j, rfl⟩ : ∃ (r : Fin 256) (j : Fin 2048), y = ix2 r j := ⟨y 0, y 1, by funext a; fin_cases a <;> rfl⟩
  have ht := (idx t).2.2.2.2.2
  have h1 : out0_4 (F := Ideal) (iblk m c 0 t) (iblk m c 1 t) (iblk m c 2 t) (iblk m c 3 t) (ix2 r j)
      = G m c (ix2 ⟨t.val * 256 + r.val, by omega⟩ j) := by
    rw [body_at]
    simp only [b0_at m c t ht, b1_at m c t ht, b2_at m c t ht, b3_at m c t]
    unfold G
    have e : t.val / 8 = (t.val * 256 + r.val) / 2048 := by omega
    simp only [ix2_0, ix2_1, e]
  refine Eq.trans ?_ (h1.trans ?_)
  · exact congrFun (after0_4 m c t) _
  · refine congrArg (G m c) ?_
    blk_ext [idx t]

theorem run : θ_run defs (onTc (τ := τ) (main (F := Ideal))) ⟨m, fun _ => 0, ρ⟩ fun r => ∀ c : Dev nD,
      r.2.mem ((c.tc : Thread nD τ).loc main_v11) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (run_blocks m ρ)

/-- The kernel's result is the reference's term. -/
theorem result (c : Dev nD) :
    G m c = Cert.FinalLatRefIdeal.Value.FLAT (Cert.FinalLatRefIdeal.Value.OUT
      (Cert.FinalLatRefIdeal.Value.RES (m ((c.tc : Thread nD τ).loc main_arg0))
        (Cert.FinalLatRefIdeal.Value.SUM (m ((c.tc : Thread nD τ).loc main_arg1)) (m ((c.tc : Thread nD τ).loc main_arg2)))
        (m ((c.tc : Thread nD τ).loc main_arg3))) (m ((c.tc : Thread nD τ).loc main_arg4))) := by
  funext i
  obtain ⟨r, j, rfl⟩ : ∃ (r : Fin 8192) (j : Fin 2048), i = ix2 r j := ⟨i 0, i 1, by funext a; fin_cases a <;> rfl⟩
  refine Eq.trans ?_ (Cert.FinalLatRefIdeal.Value.out_at _ _ _ _ r j).symm
  rw [← sums m c]
  rfl

end Cert.FinalLatIdeal.Value

namespace Cert.Proof

open Idealize.ShloMosaic Idealize.ShloMosaic.TcCoe Idealize.SL.Sem

theorem frame_finallat : Cert.quiescent_FinalLat := fun m g _ => Cert.FinalLat.Gen.frame m g

theorem frame_finallatIdeal : Cert.quiescent_FinalLatIdeal := fun m g _ => Cert.FinalLatIdeal.Gen.frame m g

theorem frame_finallatRefIdeal : Cert.quiescent_FinalLatRefIdeal := fun m g _ =>
  (θ_run Cert.FinalLatRefIdeal.defs _ _).mono (fun r h => ⟨fun c => (h c).2, sem_eq_zero_of_no_sems (by decide) r.2⟩)
    (Cert.FinalLatRefIdeal.Value.run (F := Ideal) m g)

theorem algebraic_finallat : Cert.algebraic_FinalLatIdeal_FinalLatRefIdeal := by
  pair_intro
  · exact Cert.FinalLatIdeal.Value.run m g
  · refine (θ_run Cert.FinalLatRefIdeal.defs _ _).mono (fun r h c => ⟨(h c).1.trans ?_, (h c).2⟩)
      (Cert.FinalLatRefIdeal.Value.run (F := Ideal) m' g')
    obtain ⟨a0, a1, a2, a3, a4⟩ := hagree c
    rw [Cert.FinalLatRefIdeal.Value.res_eq m' c, a0, a1, a2, a3, a4]
    exact (Cert.FinalLatIdeal.Value.result m c).symm

end Cert.Proof
end
-- ==== Proof.AdaPair.lean ====
/-
  The conditioning vectors' modulation against its reference at the ideal floats: equal results.

  The kernel gets the context's vector and the four latent ones as five rows, applies `x * sigmoid x` and multiplies the rows
  with one block of the weights' columns at each grid point. The reference treats the context's vector and the latent ones
  apart and puts the one row above the four.
-/
module

public import Idealize.ShloMosaic.Lib.Pipeline.ValueKit
public import proofs.«01_k».proof.Proof.Gen.Ada.Frame
public import proofs.«01_k».proof.Proof.Gen.AdaIdeal.Value
public import proofs.«01_k».proof.Proof.Gen.AdaRefIdeal.Run
public import proofs.«01_k».proof.Defs
public import Idealize.ShloMosaic.Lib.Claim

@[expose] public section

set_option maxRecDepth 16384

noncomputable section

namespace Cert.AdaRefIdeal.Value

open Cert.AdaRefIdeal Cert.AdaRefIdeal.Gen
open Idealize.ShloMosaic Idealize.ShloMosaic.TcCoe Idealize.SL.Sem Idealize.ShloMosaic.StableHlo

/-- The modulation's entry for one conditioning vector, weight column and bias. -/
def entry (x w : Fin 2048 → EReal) (b : EReal) : EReal := ∑ k : Fin 2048, x k * Ideal.logistic (x k) * w k + b

/-- The context's modulation, one row. -/
def CTX (x : FVec Ideal S2048 .f32) (w : FVec Ideal S2048x12288 .f32) (b : FVec Ideal S12288 .f32) : FVec Ideal S1x12288 .f32 :=
  broadcastInDim S1x12288 ![1] bcast_S12288_S1x12288_1 (addf (Host.dotGeneral dot_S2048_S2048x12288_S12288_0_0_n_1_n_n none
    (mulf x (Host.divf (broadcastInDim S2048 ![] bcast_S_S2048 (constant S_ .f32 0x3F800000#32))
      (addf (broadcastInDim S2048 ![] bcast_S_S2048 (constant S_ .f32 0x3F800000#32)) (Host.exp (Host.negf x))))) w) b)

/-- The latent batches' modulation, four rows. -/
def LAT (x : FVec Ideal S4x2048 .f32) (w : FVec Ideal S2048x12288 .f32) (b : FVec Ideal S12288 .f32) : FVec Ideal S4x12288 .f32 :=
  addf (Host.dotGeneral dot_S4x2048_S2048x12288_S4x12288_1_0_0_1_n_n none
    (mulf x (Host.divf (broadcastInDim S4x2048 ![] bcast_S_S4x2048 (constant S_ .f32 0x3F800000#32))
      (addf (broadcastInDim S4x2048 ![] bcast_S_S4x2048 (constant S_ .f32 0x3F800000#32)) (Host.exp (Host.negf x))))) w)
    (broadcastInDim S4x12288 ![0, 1] bcast_S1x12288_S4x12288_0_1 (broadcastInDim S1x12288 ![1] bcast_S12288_S1x12288_1 b))

/-- The one row above the four. -/
def BOTH (u : FVec Ideal S1x12288 .f32) (v : FVec Ideal S4x12288 .f32) : FVec Ideal S5x12288 .f32 :=
  concatenate S5x12288 0 [⟨S1x12288, u⟩, ⟨S4x12288, v⟩] concatenates_S1x12288_S4x12288_S5x12288_d0

theorem ctx_at (x : FVec Ideal S2048 .f32) (w : FVec Ideal S2048x12288 .f32) (b : FVec Ideal S12288 .f32) (r : Fin 1) (j : Fin 12288) :
    CTX x w b (ix2 r j) = entry (fun k => x (ix1 k)) (fun k => w (ix2 k j)) (b (ix1 j)) := by
  pointwise [CTX, entry, Ideal.logistic]

theorem lat_at (x : FVec Ideal S4x2048 .f32) (w : FVec Ideal S2048x12288 .f32) (b : FVec Ideal S12288 .f32) (r : Fin 4) (j : Fin 12288) :
    LAT x w b (ix2 r j) = entry (fun k => x (ix2 r k)) (fun k => w (ix2 k j)) (b (ix1 j)) := by
  pointwise [LAT, entry, Ideal.logistic]

theorem both_at (u : FVec Ideal S1x12288 .f32) (v : FVec Ideal S4x12288 .f32) (r : Fin 5) (j : Fin 12288) :
    BOTH u v (ix2 r j) = if h : r.val < 1 then u (ix2 ⟨r.val, h⟩ j) else v (ix2 ⟨r.val - 1, by omega⟩ j) := by
  pointwise [BOTH]

/-- The reference's result, of any arguments. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
        = BOTH (CTX (m ((c.tc : Thread nD τ).loc main_arg0)) (m ((c.tc : Thread nD τ).loc main_arg2)) (m ((c.tc : Thread nD τ).loc main_arg3)))
          (LAT (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.AdaRefIdeal.Value

namespace Cert.AdaIdeal.Value

open Cert.AdaIdeal Cert.AdaIdeal.Gen
open Idealize.ShloMosaic Idealize.ShloMosaic.TcCoe Idealize.SL.Sem
open Cert.AdaRefIdeal.Value (entry)

theorem body_at (x0 : Vec Ideal S5x2048 .f32) (x1 : Vec Ideal S2048x1024 .f32) (x2 : Vec Ideal S1x1024 .f32) (r : Fin 5) (j : Fin 1024) :
    out0_3 (F := Ideal) x0 x1 x2 (ix2 r j) = entry (fun k => x0 (ix2 r k)) (fun k => x1 (ix2 k j)) (x2 (ix2 0 j)) := by
  frame_out
  pointwise [k0_pay1, entry]

variable (m : (ℓ : Loc nD τ sig) → Buf (Elt Ideal) ℓ) (ρ : Dev nD → PrngReg)

/-- The blocks a grid point is given: all five rows, and columns `1024 t` on. -/
theorem idx : ∀ t : Fin cfg0.N, win0_0.index t = ![0, 0] ∧ win0_1.index t = ![0, t.val]
   ∧ win0_2.index t = ![0, t.val] ∧ win0_3.index t = ![0, t.val] ∧ t.val < 12 :=
  (by decide +kernel : ∀ t : Fin grid0.N, _)

/-- The five rows the kernel is given. -/
def five (c : Dev nD) (r : Fin 5) (k : Fin 2048) : EReal :=
  if h : r.val < 1 then m ((c.tc : Thread nD τ).loc main_arg0) (ix1 k)
  else m ((c.tc : Thread nD τ).loc main_arg1) (ix2 ⟨r.val - 1, by omega⟩ k)

theorem vecs (c : Dev nD) (r : Fin 5) (k : Fin 2048) : V m c main_v1 (ix2 r k) = five m c r k := by
  entry_read
  pointwise [five]

theorem bias (c : Dev nD) (j : Fin 12288) : V m c main_v2 (ix2 0 j) = m ((c.tc : Thread nD τ).loc main_arg3) (ix1 j) := by
  entry_read
  pointwise

/-- What the kernel leaves in its result. -/
def G (c : Dev nD) : S5x12288.Idx → EReal := fun i =>
  entry (five m c (i 0)) (fun k => m ((c.tc : Thread nD τ).loc main_arg2) (ix2 k (i 1))) (m ((c.tc : Thread nD τ).loc main_arg3) (ix1 (i 1)))

section blocks
variable (c : Dev nD) (t : Fin cfg0.N) (ht : t.val < 12)

theorem b0_at (r : Fin 5) (k : Fin 2048) : iblk m c 0 t (ix2 r k) = five m c r k := by
  rw [← vecs m c]
  blk_point [iblk, idx t]
theorem b1_at (k : Fin 2048) (j : Fin 1024) :
    iblk m c 1 t (ix2 k j) = m ((c.tc : Thread nD τ).loc main_arg2) (ix2 k ⟨t.val * 1024 + j.val, by omega⟩) := by
  blk_point [iblk, V_main_arg2, idx t]
theorem b2_at (j : Fin 1024) :
    iblk m c 2 t (ix2 0 j) = m ((c.tc : Thread nD τ).loc main_arg3) (ix1 ⟨t.val * 1024 + j.val, by omega⟩) := by
  rw [← bias m c]
  blk_point [iblk, idx t]

end blocks

theorem final (c : Dev nD) : (dats m 0 c).arrAt 3 cfg0.N = G m c := by
  refine (dats m 0 c).arrAt_eq_of_covers 3 (G m c) (by decide +kernel) fun t hf y => ?_
  obtain ⟨r, j, rfl⟩ : ∃ (r : Fin 5) (j : Fin 1024), y = ix2 r j := ⟨y 0, y 1, by funext a; fin_cases a <;> rfl⟩
  have ht := (idx t).2.2.2.2
  have h1 : out0_3 (F := Ideal) (iblk m c 0 t) (iblk m c 1 t) (iblk m c 2 t) (ix2 r j)
      = G m c (ix2 r ⟨t.val * 1024 + j.val, by omega⟩) := by
    rw [body_at]
    simp only [b0_at m c t, b1_at m c t ht, b2_at m c t ht]
    rfl
  refine Eq.trans ?_ (h1.trans ?_)
  · exact congrFun (after0_3 m c t) _
  · refine congrArg (G m c) ?_
    blk_ext [idx t]

theorem run : θ_run defs (onTc (τ := τ) (main (F := Ideal))) ⟨m, fun _ => 0, ρ⟩ fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (run_blocks m ρ)

/-- The kernel's result is the reference's term. -/
theorem result (c : Dev nD) :
    G m c = Cert.AdaRefIdeal.Value.BOTH
      (Cert.AdaRefIdeal.Value.CTX (m ((c.tc : Thread nD τ).loc main_arg0)) (m ((c.tc : Thread nD τ).loc main_arg2)) (m ((c.tc : Thread nD τ).loc main_arg3)))
      (Cert.AdaRefIdeal.Value.LAT (m ((c.tc : Thread nD τ).loc main_arg1)) (m ((c.tc : Thread nD τ).loc main_arg2)) (m ((c.tc : Thread nD τ).loc main_arg3))) := by
  funext i
  obtain ⟨r, j, rfl⟩ : ∃ (r : Fin 5) (j : Fin 12288), i = ix2 r j := ⟨i 0, i 1, by funext a; fin_cases a <;> rfl⟩
  refine Eq.trans ?_ (Cert.AdaRefIdeal.Value.both_at _ _ r j).symm
  rw [show G m c (ix2 r j) = entry (five m c r) (fun k => m ((c.tc : Thread nD τ).loc main_arg2) (ix2 k j))
    (m ((c.tc : Thread nD τ).loc main_arg3) (ix1 j)) from rfl]
  by_cases h : r.val < 1
  · rw [dif_pos h]
    refine Eq.trans ?_ (Cert.AdaRefIdeal.Value.ctx_at _ _ _ _ j).symm
    refine congrArg (fun f => entry f _ _) (funext fun k => ?_)
    exact dif_pos h
  · rw [dif_neg h]
    refine Eq.trans ?_ (Cert.AdaRefIdeal.Value.lat_at _ _ _ _ j).symm
    refine congrArg (fun f => entry f _ _) (funext fun k => ?_)
    exact dif_neg h

end Cert.AdaIdeal.Value

namespace Cert.Proof

open Idealize.ShloMosaic Idealize.ShloMosaic.TcCoe Idealize.SL.Sem

theorem frame_ada : Cert.quiescent_Ada := fun m g _ => Cert.Ada.Gen.frame m g

theorem frame_adaIdeal : Cert.quiescent_AdaIdeal := fun m g _ => Cert.AdaIdeal.Gen.frame m g

theorem frame_adaRefIdeal : Cert.quiescent_AdaRefIdeal := fun m g _ =>
  (θ_run Cert.AdaRefIdeal.defs _ _).mono (fun r h => ⟨fun c => (h c).2, sem_eq_zero_of_no_sems (by decide) r.2⟩)
    (Cert.AdaRefIdeal.Value.run (F := Ideal) m g)

theorem algebraic_ada : Cert.algebraic_AdaIdeal_AdaRefIdeal := by
  pair_intro
  · exact Cert.AdaIdeal.Value.run m g
  · refine (θ_run Cert.AdaRefIdeal.defs _ _).mono (fun r h c => ⟨(h c).1.trans ?_, (h c).2⟩)
      (Cert.AdaRefIdeal.Value.runs m' g')
    obtain ⟨a0, a1, a2, a3⟩ := hagree c
    rw [a0, a1, a2, a3]
    exact (Cert.AdaIdeal.Value.result m c).symm

end Cert.Proof
end
-- ==== Proof.RouterPair.lean ====
/-
  The router against its reference at the ideal floats: equal results.

  Both normalize and modulate the rows, multiply them with the router's weights and take the softmax of the sixteen logits
  of each row. The reference's greatest logit is compared with the starting value once more, which changes nothing.
-/
module

public import proofs.«01_k».proof.Proof.Norm
public import proofs.«01_k».proof.Proof.Gen.Router.Frame
public import proofs.«01_k».proof.Proof.Gen.RouterIdeal.Value
public import proofs.«01_k».proof.Proof.Gen.RouterRefIdeal.Run
public import proofs.«01_k».proof.Defs
public import Idealize.ShloMosaic.Lib.Claim

@[expose] public section

set_option maxRecDepth 16384

noncomputable section

namespace Cert.RouterRefIdeal.Value

open Cert.RouterRefIdeal Cert.RouterRefIdeal.Gen
open Idealize.ShloMosaic Idealize.ShloMosaic.TcCoe Idealize.SL.Sem Idealize.ShloMosaic.StableHlo

/-- The greatest of a row's logits. -/
def top (l : Fin 16 → EReal) : EReal :=
  Finset.fold max (Ideal.ofBits FTy.f32 0xFF800000#32) (fun e => l e) Finset.univ

/-- The softmax of a row of logits. -/
def soft (l : Fin 16 → EReal) (e : Fin 16) : EReal :=
  Ideal.div (Ideal.exp (l e - top l)) (∑ q : Fin 16, Ideal.exp (l q - top l))

/-- A row's logits. -/
def logits (h : Fin 2048 → EReal) (w : S2048x16.Idx → EReal) (e : Fin 16) : EReal := ∑ k : Fin 2048, h k * w (ix2 k e)

/-- Comparing with the starting value once more changes nothing. -/
theorem top_max (l : Fin 16 → EReal) :
    max (Ideal.ofBits FTy.f32 0xFF800000#32) (Finset.fold max (Ideal.ofBits FTy.f32 0xFF800000#32) (fun e => l e) Finset.univ) = top l :=
  max_eq_right ((Finset.le_fold_max _).2 (Or.inl le_rfl))

/-- The normalized rows, modulated by the fourth and fifth modulation rows. -/
def ROWS (x : FVec Ideal S8192x2048 .f32) (md : FVec Ideal S5x6x2048 .f32) (g : FVec Ideal S2048 .f32) : FVec Ideal S8192x2048 .f32 :=
  addf (mulf (mulf (mulf x (broadcastInDim S8192x2048 ![0, 1] bcast_S8192x1_S8192x2048_0_1
      (Host.rsqrt (addf (Host.divf (broadcastInDim S8192x1 ![0] bcast_S8192_S8192x1_0
            (Host.reduceAdd (mulf x x) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (addf (broadcastInDim S1x2048 ![] bcast_S_S1x2048 (constant S_ .f32 0x3F800000#32))
        (shapeCast _ (extractStridedSlice S1x1x2048 ![0, 4, 0] md slices_S5x6x2048_S1x1x2048_0_4_0) shapeCasts_S1x1x2048_S1x2048))))
    (broadcastInDim S8192x2048 ![0, 1] bcast_S1x2048_S8192x2048_0_1
      (shapeCast _ (extractStridedSlice S1x1x2048 ![0, 3, 0] md slices_S5x6x2048_S1x1x2048_0_3_0) shapeCasts_S1x1x2048_S1x2048))

/-- The rows in the narrower format. -/
def NARROW (h : FVec Ideal S8192x2048 .f32) : FVec Ideal S8192x2048 .bf16 := truncf .bf16 h bitsLt_bf16_f32

/-- The rows' logits. -/
def LOGITS (h : FVec Ideal S8192x2048 .f32) (w : FVec Ideal S2048x16 .f32) : FVec Ideal S8192x16 .f32 :=
  Host.dotGeneral dot_S8192x2048_S2048x16_S8192x16_1_0_0_1_n_n none h w

/-- The exponentials of the logits less the row's greatest. -/
def EXPS (l : FVec Ideal S8192x16 .f32) : FVec Ideal S8192x16 .f32 :=
  Host.exp (subf l (broadcastInDim S8192x16 ![0, 1] bcast_S8192x1_S8192x16_0_1 (broadcastInDim S8192x1 ![0] bcast_S8192_S8192x1_0
      (maximumf (broadcastInDim S8192 ![] bcast_S_S8192 (constant S_ .f32 0xFF800000#32))
        (Host.reduce FloatOps.maximumf l (constant S_ .f32 0xFF800000#32) reducesTo_S8192x16_S8192_d1 h_S_)))))

/-- The rows of exponentials over their sums. -/
def SOFT (p : FVec Ideal S8192x16 .f32) : FVec Ideal S8192x16 .f32 :=
  Host.divf p (broadcastInDim S8192x16 ![0, 1] bcast_S8192x1_S8192x16_0_1 (broadcastInDim S8192x1 ![0] bcast_S8192_S8192x1_0
      (Host.reduceAdd p (constant S_ .f32 0x00000000#32) reducesTo_S8192x16_S8192_d1 h_S_)))

theorem rows_at (x : FVec Ideal S8192x2048 .f32) (md : FVec Ideal S5x6x2048 .f32) (g : FVec Ideal S2048 .f32) (r : Fin 8192) (j : Fin 2048) :
    ROWS x md g (ix2 r j) = Cert.Norm.modulated (fun k => x (ix2 r k)) (fun k => g (ix1 k)) (fun k => md (ix3 0 4 k)) (fun k => md (ix3 0 3 k)) j := by
  pointwise [ROWS, Cert.Norm.modulated, Cert.Norm.row]

theorem narrow_at (h : FVec Ideal S8192x2048 .f32) (r : Fin 8192) (j : Fin 2048) : NARROW h (ix2 r j) = h (ix2 r j) := by
  pointwise [NARROW]

theorem logits_at (h : FVec Ideal S8192x2048 .f32) (w : FVec Ideal S2048x16 .f32) (r : Fin 8192) (e : Fin 16) :
    LOGITS h w (ix2 r e) = logits (fun k => h (ix2 r k)) w e := by
  pointwise [LOGITS, logits]

theorem exps_at (l : FVec Ideal S8192x16 .f32) (r : Fin 8192) (e : Fin 16) :
    EXPS l (ix2 r e) = Ideal.exp (l (ix2 r e) - top (fun q => l (ix2 r q))) := by
  rw [← top_max]
  pointwise [EXPS]

theorem soft_at (l : FVec Ideal S8192x16 .f32) (r : Fin 8192) (e : Fin 16) :
    SOFT (EXPS l) (ix2 r e) = soft (fun q => l (ix2 r q)) e := by
  have h : SOFT (EXPS l) (ix2 r e) = Ideal.div (EXPS l (ix2 r e)) (∑ q : Fin 16, EXPS l (ix2 r q)) := by
    pointwise [SOFT]
  rw [h]
  simp only [exps_at]
  rfl

/-- The reference's results, of any arguments. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = NARROW (ROWS (m ((c.tc : Thread nD τ).loc main_arg0)) (m ((c.tc : Thread nD τ).loc main_arg1))
        (m ((c.tc : Thread nD τ).loc main_arg2)))
      ∧ r.2.mem ((c.tc : Thread nD τ).loc main_v35) = SOFT (EXPS (LOGITS (ROWS (m ((c.tc : Thread nD τ).loc main_arg0))
        (m ((c.tc : Thread nD τ).loc main_arg1)) (m ((c.tc : Thread nD τ).loc main_arg2))) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.RouterRefIdeal.Value

namespace Cert.RouterIdeal.Value

open Cert.RouterIdeal Cert.RouterIdeal.Gen
open Idealize.ShloMosaic Idealize.ShloMosaic.TcCoe Idealize.SL.Sem
open Cert.RouterRefIdeal.Value (soft top logits)

/-- The kernel's modulated row of a tile. -/
def hid (x0 : Vec Ideal S256x2048 .f32) (x1 : Vec Ideal S1x6x2048 .f32) (x2 : Vec Ideal S1x2048 .f32) (r : Fin 256) : Fin 2048 → EReal :=
  Cert.Norm.modulated (fun k => x0 (ix2 r k)) (fun k => x2 (ix2 0 k)) (fun k => x1 (ix3 0 4 k)) (fun k => x1 (ix3 0 3 k))

theorem body4_at (x0 : Vec Ideal S256x2048 .f32) (x1 : Vec Ideal S1x6x2048 .f32) (x2 : Vec Ideal S1x2048 .f32) (x3 : Vec Ideal S2048x16 .f32)
    (r : Fin 256) (j : Fin 2048) : out0_4 (F := Ideal) x0 x1 x2 x3 (ix2 r j) = hid x0 x1 x2 r j := by
  frame_out
  pointwise [k0_pay3, k0_pay2, hid, Cert.Norm.modulated, Cert.Norm.row]

theorem body5_at (x0 : Vec Ideal S256x2048 .f32) (x1 : Vec Ideal S1x6x2048 .f32) (x2 : Vec Ideal S1x2048 .f32) (x3 : Vec Ideal S2048x16 .f32)
    (r : Fin 256) (e : Fin 16) : out0_5 (F := Ideal) x0 x1 x2 x3 (ix2 r e) = soft (logits (hid x0 x1 x2 r) x3) e := by
  frame_out
  pointwise [k0_pay1, k0_pay2, k0_pay4, k0_pay5, soft, top, logits, hid, Cert.Norm.modulated, Cert.Norm.row]

variable (m : (ℓ : Loc nD τ sig) → Buf (Elt Ideal) ℓ) (ρ : Dev nD → PrngReg)

/-- The blocks a grid point is given: rows `256 t` on. -/
theorem idx : ∀ t : Fin cfg0.N, win0_0.index t = ![t.val, 0] ∧ win0_1.index t = ![0, 0, 0]
   ∧ win0_2.index t = ![0, 0] ∧ win0_3.index t = ![0, 0] ∧ win0_4.index t = ![t.val, 0] ∧ win0_5.index t = ![t.val, 0] ∧ t.val < 32 :=
  (by decide +kernel : ∀ t : Fin grid0.N, _)

/-- The scale the kernel is given. -/
theorem scale (c : Dev nD) (j : Fin 2048) : V m c main_v0 (ix2 0 j) = m ((c.tc : Thread nD τ).loc main_arg2) (ix1 j) := by
  entry_read
  pointwise

/-- The modulated rows. -/
def H (c : Dev nD) (r : Fin 8192) : Fin 2048 → EReal :=
  Cert.Norm.modulated (fun k => m ((c.tc : Thread nD τ).loc main_arg0) (ix2 r k)) (fun k => m ((c.tc : Thread nD τ).loc main_arg2) (ix1 k))
    (fun k => m ((c.tc : Thread nD τ).loc main_arg1) (ix3 0 4 k)) (fun k => m ((c.tc : Thread nD τ).loc main_arg1) (ix3 0 3 k))

/-- What the kernel leaves in its first result, -/
def G4 (c : Dev nD) : S8192x2048.Idx → EReal := fun i => H m c (i 0) (i 1)

/-- and in its second. -/
def G5 (c : Dev nD) : S8192x16.Idx → EReal := fun i => soft (logits (H m c (i 0)) (m ((c.tc : Thread nD τ).loc main_arg3))) (i 1)

section blocks
variable (c : Dev nD) (t : Fin cfg0.N) (ht : t.val < 32)

theorem b0_at (r : Fin 256) (j : Fin 2048) :
    iblk m c 0 t (ix2 r j) = m ((c.tc : Thread nD τ).loc main_arg0) (ix2 ⟨t.val * 256 + r.val, by omega⟩ j) := by
  blk_point [iblk, V_main_arg0, idx t]
theorem b1_at (q : Fin 6) (j : Fin 2048) :
    iblk m c 1 t (ix3 0 q j) = m ((c.tc : Thread nD τ).loc main_arg1) (ix3 0 q j) := by
  blk_point [iblk, V_main_arg1, idx t]
theorem b2_at (j : Fin 2048) : iblk m c 2 t (ix2 0 j) = m ((c.tc : Thread nD τ).loc main_arg2) (ix1 j) := by
  rw [← scale m c]
  blk_point [iblk, idx t]
theorem b3_at (k : Fin 2048) (e : Fin 16) :
    iblk m c 3 t (ix2 k e) = m ((c.tc : Thread nD τ).loc main_arg3) (ix2 k e) := by
  blk_point [iblk, V_main_arg3, idx t]

theorem hid_at (r : Fin 256) : hid (iblk m c 0 t) (iblk m c 1 t) (iblk m c 2 t) r = H m c ⟨t.val * 256 + r.val, by omega⟩ := by
  unfold hid H
  simp only [b0_at m c t ht, b1_at m c t, b2_at m c t]

end blocks

theorem final4 (c : Dev nD) : (dats m 0 c).arrAt 4 cfg0.N = G4 m c := by
  refine (dats m 0 c).arrAt_eq_of_covers 4 (G4 m c) (by decide +kernel) fun t hf y => ?_
  obtain ⟨r, j, rfl⟩ : ∃ (r : Fin 256) (j : Fin 2048), y = ix2 r j := ⟨y 0, y 1, by funext a; fin_cases a <;> rfl⟩
  have ht := (idx t).2.2.2.2.2.2
  have h1 : out0_4 (F := Ideal) (iblk m c 0 t) (iblk m c 1 t) (iblk m c 2 t) (iblk m c 3 t) (ix2 r j)
      = G4 m c (ix2 ⟨t.val * 256 + r.val, by omega⟩ j) := by
    rw [body4_at, hid_at m c t ht]
    rfl
  refine Eq.trans ?_ (h1.trans ?_)
  · exact congrFun (after0_4 m c t) _
  · refine congrArg (G4 m c) ?_
    blk_ext [idx t]

theorem final5 (c : Dev nD) : (dats m 0 c).arrAt 5 cfg0.N = G5 m c := by
  refine (dats m 0 c).arrAt_eq_of_covers 5 (G5 m c) (by decide +kernel) fun t hf y => ?_
  obtain ⟨r, e, rfl⟩ : ∃ (r : Fin 256) (e : Fin 16), y = ix2 r e := ⟨y 0, y 1, by funext a; fin_cases a <;> rfl⟩
  have ht := (idx t).2.2.2.2.2.2
  have h1 : out0_5 (F := Ideal) (iblk m c 0 t) (iblk m c 1 t) (iblk m c 2 t) (iblk m c 3 t) (ix2 r e)
      = G5 m c (ix2 ⟨t.val * 256 + r.val, by omega⟩ e) := by
    rw [body5_at, hid_at m c t ht]
    refine congrArg (fun l => soft l e) (funext fun q => ?_)
    unfold logits
    simp only [b3_at m c t]
    rfl
  refine Eq.trans ?_ (h1.trans ?_)
  · exact congrFun (after0_5 m c t) _
  · refine congrArg (G5 m c) ?_
    blk_ext [idx t]

theorem run : θ_run defs (onTc (τ := τ) (main (F := Ideal))) ⟨m, fun _ => 0, ρ⟩ fun r => ∀ c : Dev nD,
      r.2.mem ((c.tc : Thread nD τ).loc main_v1_0) = G4 m c
      ∧ r.2.mem ((c.tc : Thread nD τ).loc main_v1_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2.1.trans (final5 m c), (h c).2.2⟩) (run_blocks m ρ)

/-- The kernel's first result is the reference's term, -/
theorem result4 (c : Dev nD) :
    G4 m c = Cert.RouterRefIdeal.Value.NARROW (Cert.RouterRefIdeal.Value.ROWS (m ((c.tc : Thread nD τ).loc main_arg0))
      (m ((c.tc : Thread nD τ).loc main_arg1)) (m ((c.tc : Thread nD τ).loc main_arg2))) := by
  funext i
  obtain ⟨r, j, rfl⟩ : ∃ (r : Fin 8192) (j : Fin 2048), i = ix2 r j := ⟨i 0, i 1, by funext a; fin_cases a <;> rfl⟩
  exact ((Cert.RouterRefIdeal.Value.narrow_at _ r j).trans (Cert.RouterRefIdeal.Value.rows_at _ _ _ r j)).symm

/-- and so is its second. -/
theorem result5 (c : Dev nD) :
    G5 m c = Cert.RouterRefIdeal.Value.SOFT (Cert.RouterRefIdeal.Value.EXPS (Cert.RouterRefIdeal.Value.LOGITS
      (Cert.RouterRefIdeal.Value.ROWS (m ((c.tc : Thread nD τ).loc main_arg0)) (m ((c.tc : Thread nD τ).loc main_arg1))
        (m ((c.tc : Thread nD τ).loc main_arg2))) (m ((c.tc : Thread nD τ).loc main_arg3)))) := by
  funext i
  obtain ⟨r, e, rfl⟩ : ∃ (r : Fin 8192) (e : Fin 16), i = ix2 r e := ⟨i 0, i 1, by funext a; fin_cases a <;> rfl⟩
  refine Eq.trans ?_ (Cert.RouterRefIdeal.Value.soft_at _ r e).symm
  refine congrArg (fun l => soft l e) (funext fun q => ?_)
  refine Eq.trans ?_ (Cert.RouterRefIdeal.Value.logits_at _ _ r q).symm
  refine congrArg (fun h => logits h (m ((c.tc : Thread nD τ).loc main_arg3)) q) (funext fun k => ?_)
  exact (Cert.RouterRefIdeal.Value.rows_at _ _ _ r k).symm

end Cert.RouterIdeal.Value

namespace Cert.Proof

open Idealize.ShloMosaic Idealize.ShloMosaic.TcCoe Idealize.SL.Sem

theorem frame_router : Cert.quiescent_Router := fun m g _ => Cert.Router.Gen.frame m g

theorem frame_routerIdeal : Cert.quiescent_RouterIdeal := fun m g _ => Cert.RouterIdeal.Gen.frame m g

theorem frame_routerRefIdeal : Cert.quiescent_RouterRefIdeal := fun m g _ =>
  (θ_run Cert.RouterRefIdeal.defs _ _).mono (fun r h => ⟨fun c => (h c).2.2, sem_eq_zero_of_no_sems (by decide) r.2⟩)
    (Cert.RouterRefIdeal.Value.run (F := Ideal) m g)

theorem algebraic_router : Cert.algebraic_RouterIdeal_RouterRefIdeal := by
  pair_intro
  · exact Cert.RouterIdeal.Value.run m g
  · refine (θ_run Cert.RouterRefIdeal.defs _ _).mono (fun r h c => ⟨(h c).1.trans ?_, (h c).2.1.trans ?_, (h c).2.2⟩)
      (Cert.RouterRefIdeal.Value.runs m' g')
    · obtain ⟨a0, a1, a2, a3⟩ := hagree c
      rw [a0, a1, a2]
      exact (Cert.RouterIdeal.Value.result4 m c).symm
    · obtain ⟨a0, a1, a2, a3⟩ := hagree c
      rw [a0, a1, a2, a3]
      exact (Cert.RouterIdeal.Value.result5 m c).symm

end Cert.Proof
end
-- ==== Proof.PostPair.lean ====
/-
  The stage after the scan against its reference at the ideal floats: equal results.

  Both normalize every head's 64 values by their mean and mean square, scale, move, add the bonus and gate. The kernel sums
  over a head as a product with a 128 by 128 matrix, one within a head and zero across, and multiplies with 1/64 where the
  reference divides by 64.
-/
module

public import proofs.«01_k».proof.Proof.Norm
public import proofs.«01_k».proof.Proof.Gen.Post.Frame
public import proofs.«01_k».proof.Proof.Gen.PostIdeal.Value
public import proofs.«01_k».proof.Proof.Gen.PostRefIdeal.Run
public import proofs.«01_k».proof.Defs
public import Idealize.ShloMosaic.Lib.Claim

@[expose] public section

set_option maxRecDepth 16384

noncomputable section

namespace Cert.PostRefIdeal.Value

open Cert.PostRefIdeal Cert.PostRefIdeal.Gen
open Idealize.ShloMosaic Idealize.ShloMosaic.TcCoe Idealize.SL.Sem Idealize.ShloMosaic.StableHlo
/-- The heads' values, head by head. -/
def HEADS (y : FVec Ideal S32x256x1024 .f32) : FVec Ideal S32x256x16x64 .f32 := shapeCast _ y shapeCasts_S32x256x1024_S32x256x16x64

/-- Each head's mean. -/
def MEAN (z : FVec Ideal S32x256x16x64 .f32) : FVec Ideal S32x256x16x1 .f32 :=
  Host.divf (broadcastInDim S32x256x16x1 ![0, 1, 2] bcast_S32x256x16_S32x256x16x1_0_1_2 (Host.reduceAdd z (constant S_ .f32 0x00000000#32) reducesTo_S32x256x16x64_S32x256x16_d3 h_S_))
    (broadcastInDim S32x256x16x1 ![] bcast_S_S32x256x16x1 (constant S_ .f32 0x42800000#32))

/-- The values less the mean. -/
def LESS (z : FVec Ideal S32x256x16x64 .f32) : FVec Ideal S32x256x16x64 .f32 :=
  subf z (broadcastInDim S32x256x16x64 ![0, 1, 2, 3] bcast_S32x256x16x1_S32x256x16x64_0_1_2_3 (MEAN z))

/-- Those over the root of their mean square. -/
def UNIT (d : FVec Ideal S32x256x16x64 .f32) : FVec Ideal S32x256x1024 .f32 :=
  shapeCast _ (mulf d (broadcastInDim S32x256x16x64 ![0, 1, 2, 3] bcast_S32x256x16x1_S32x256x16x64_0_1_2_3
    (Host.rsqrt (addf (MEAN (mulf d d)) (broadcastInDim S32x256x16x1 ![] bcast_S_S32x256x16x1 (constant S_ .f32 0x3A27C5AC#32)))))) shapeCasts_S32x256x16x64_S32x256x1024

/-- The result, from the normalized heads. -/
def OUT (u b : FVec Ideal S32x256x1024 .f32) (p : FVec Ideal S32x256x5632 .f32) (gw gb : FVec Ideal S1024 .f32) : FVec Ideal S32x256x1024 .bf16 :=
  truncf .bf16 (mulf (addf (addf (mulf u
        (broadcastInDim S32x256x1024 ![0, 1, 2] bcast_S1x1x1024_S32x256x1024_0_1_2 (broadcastInDim S1x1x1024 ![2] bcast_S1024_S1x1x1024_2 gw)))
      (broadcastInDim S32x256x1024 ![0, 1, 2] bcast_S1x1x1024_S32x256x1024_0_1_2 (broadcastInDim S1x1x1024 ![2] bcast_S1024_S1x1x1024_2 gb))) b)
    (Host.divf (broadcastInDim S32x256x1024 ![] bcast_S_S32x256x1024 (constant S_ .f32 0x3F800000#32))
      (addf (broadcastInDim S32x256x1024 ![] bcast_S_S32x256x1024 (constant S_ .f32 0x3F800000#32))
        (Host.exp (Host.negf (extractStridedSlice S32x256x1024 ![0, 0, 3584] p slices_S32x256x5632_S32x256x1024_0_0_3584)))))) bitsLt_bf16_f32

/-- The reference's result, of any arguments. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = OUT (UNIT (LESS (HEADS (m ((c.tc : Thread nD τ).loc main_arg0)))))
        (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run (F := Ideal) m ρ

theorem out_at (y b : FVec Ideal S32x256x1024 .f32) (p : FVec Ideal S32x256x5632 .f32) (gw gb : FVec Ideal S1024 .f32) (i : Fin 32) (t : Fin 256) (j : Fin 1024) :
    OUT (UNIT (LESS (HEADS y))) b p gw gb (ix3 i t j) = Cert.Norm.gated (fun n => y (ix3 i t ⟨j.val / 64 * 64 + n.val, by omega⟩)) (y (ix3 i t j)) (gw (ix1 j)) (gb (ix1 j))
      (b (ix3 i t j)) (p (ix3 i t ⟨3584 + j.val, by omega⟩)) := by
  pointwise [OUT, UNIT, LESS, MEAN, HEADS, Cert.Norm.over, Cert.Norm.gated, Cert.Norm.mean, Ideal.logistic]

end Cert.PostRefIdeal.Value

namespace Cert.PostIdeal.Value

open Cert.PostIdeal Cert.PostIdeal.Gen
open Idealize.ShloMosaic Idealize.ShloMosaic.TcCoe Idealize.SL.Sem

/-- The head of each column, -/
def COL : IVec S128x128 32 :=
  select (andi k0_pay4 (cmpi .ne k0_pay5 (broadcast S128x128 0#32))) (subi k0_pay3 (broadcast S128x128 1#32)) k0_pay3

/-- and the matrix of the two. -/
def SEG : FVec Ideal S128x128 .f32 := sitofp .f32 (extui 32 (cmpi .eq k0_pay2 COL) natLt_1_32)

/-- A row's head is its position over 64, -/
theorem head_row (i j : Fin 128) : k0_pay2 (ix2 i j) = BitVec.ofNat 32 (i.val / 64) := by
  pointwise [k0_pay2]
  revert i; decide +kernel

/-- and so is a column's. -/
theorem head_col (i j : Fin 128) : COL (ix2 i j) = BitVec.ofNat 32 (j.val / 64) := by
  pointwise [COL, k0_pay3, k0_pay4, k0_pay5]
  revert j; decide +kernel

/-- The matrix is one within a head and zero across. -/
theorem seg_at (i j : Fin 128) : SEG (ix2 i j) = if i.val / 64 = j.val / 64 then 1 else 0 := by
  pointwise [SEG]
  rw [head_row, head_col]
  have hi : i.val / 64 = 0 ∨ i.val / 64 = 1 := by omega
  have hj : j.val / 64 = 0 ∨ j.val / 64 = 1 := by omega
  have e1 : (BitVec.setWidth 32 (1#1)).toInt = 1 := by decide
  have e0 : (BitVec.setWidth 32 (0#1)).toInt = 0 := by decide
  rcases hi with hi | hi <;> rcases hj with hj | hj <;> rw [hi, hj]
  · exact (congrArg (fun z : ℤ => ((z : ℝ) : EReal)) e1).trans (by norm_num)
  · exact (congrArg (fun z : ℤ => ((z : ℝ) : EReal)) e0).trans (by norm_num)
  · exact (congrArg (fun z : ℤ => ((z : ℝ) : EReal)) e0).trans (by norm_num)
  · exact (congrArg (fun z : ℤ => ((z : ℝ) : EReal)) e1).trans (by norm_num)

/-- The body's tail, of any such matrix. -/
def TAIL (v52 : FVec Ideal S128x128 .f32) (v53 : Vec Ideal S1x256x128 .f32) (v67 v71 : Vec Ideal S1x128 .f32) (v75 v78 : Vec Ideal S1x256x128 .f32) : FVec Ideal S256x128 .bf16 :=
  have y : FVec Ideal S256x128 .f32 := shapeCast S256x128 v53 shapeCasts_S1x256x128_S256x128
  have d : FVec Ideal S256x128 .f32 := subf y (mulf (matmul dot_S256x128_S128x128_S256x128_1_0_0_1_n_n (some .fp32) y v52 (constant S256x128 .f32 0x00000000#32)) (broadcast S256x128 (Scalar.ofBits .f32 0x3C800000#32)))
  have s : FVec Ideal S256x128 .f32 := addf (mulf (matmul dot_S256x128_S128x128_S256x128_1_0_0_1_n_n (some .fp32) (mulf d d) v52 (constant S256x128 .f32 0x00000000#32)) (broadcast S256x128 (Scalar.ofBits .f32 0x3C800000#32))) (broadcast S256x128 (Scalar.ofBits .f32 0x3A27C5AC#32))
  have n : FVec Ideal S256x128 .f32 := addf (mulf (mulf d (rsqrt s)) (broadcastTo S256x128 (shapeCast S1x128 v67 shapeCasts_S1x128_S1x128) broadcasts_S1x128_S256x128))
    (broadcastTo S256x128 (shapeCast S1x128 v71 shapeCasts_S1x128_S1x128) broadcasts_S1x128_S256x128)
  truncf .bf16 (mulf (addf n (shapeCast S256x128 v75 shapeCasts_S1x256x128_S256x128)) (logistic (shapeCast S256x128 v78 shapeCasts_S1x256x128_S256x128))) bitsLt_bf16_f32

theorem pay6_eq (v53 : Vec Ideal S1x256x128 .f32) (v67 v71 : Vec Ideal S1x128 .f32) (v75 v78 : Vec Ideal S1x256x128 .f32) :
    k0_pay6 (F := Ideal) k0_pay2 k0_pay3 k0_pay4 k0_pay5 0#32 v53 v67 v71 v75 v78 = TAIL SEG v53 v67 v71 v75 v78 := rfl

theorem body_at (x0 x1 x2 : Vec Ideal S1x256x128 .f32) (x3 x4 : Vec Ideal S1x128 .f32) (r : Fin 256) (j : Fin 128) :
    out0_5 (F := Ideal) x0 x1 x2 x3 x4 (ix3 0 r j) = Cert.Norm.gated (fun n => x0 (ix3 0 r ⟨j.val / 64 * 64 + n.val, by omega⟩)) (x0 (ix3 0 r j))
      (x3 (ix2 0 j)) (x4 (ix2 0 j)) (x1 (ix3 0 r j)) (x2 (ix3 0 r j)) := by
  have e : ∀ n : Fin 64, (j.val / 64 * 64 + n.val) / 64 = j.val / 64 := fun n => by omega
  frame_out
  rw [pay6_eq]
  pointwise [k0_pay1, TAIL, seg_at]
  simp only [Cert.Norm.sum_seg, e]
  rfl

variable (m : (ℓ : Loc nD τ sig) → Buf (Elt Ideal) ℓ) (ρ : Dev nD → PrngReg)
/-- The blocks a grid point is given: sequence `t / 8`, columns `128 (t % 8)` on. -/
theorem idx : ∀ t : Fin cfg0.N, win0_0.index t = ![t.val / 8, 0, t.val % 8] ∧ win0_1.index t = ![t.val / 8, 0, t.val % 8]
   ∧ win0_2.index t = ![t.val / 8, 0, 28 + t.val % 8] ∧ win0_3.index t = ![0, t.val % 8] ∧ win0_4.index t = ![0, t.val % 8]
   ∧ win0_5.index t = ![t.val / 8, 0, t.val % 8] ∧ t.val < 256 :=
  (by decide +kernel : ∀ t : Fin grid0.N, _)

/-- The scale the kernel is given, -/
theorem scale (c : Dev nD) (j : Fin 1024) : V m c main_v0 (ix2 0 j) = m ((c.tc : Thread nD τ).loc main_arg3) (ix1 j) := by
  entry_read
  pointwise

/-- and the offset. -/
theorem offset (c : Dev nD) (j : Fin 1024) : V m c main_v1 (ix2 0 j) = m ((c.tc : Thread nD τ).loc main_arg4) (ix1 j) := by
  entry_read
  pointwise

/-- What the kernel leaves in its result, entry by entry, -/
def at3 (c : Dev nD) (i : Fin 32) (r : Fin 256) (j : Fin 1024) : EReal :=
  Cert.Norm.gated (fun n => m ((c.tc : Thread nD τ).loc main_arg0) (ix3 i r ⟨j.val / 64 * 64 + n.val, by omega⟩))
    (m ((c.tc : Thread nD τ).loc main_arg0) (ix3 i r j)) (m ((c.tc : Thread nD τ).loc main_arg3) (ix1 j)) (m ((c.tc : Thread nD τ).loc main_arg4) (ix1 j))
    (m ((c.tc : Thread nD τ).loc main_arg1) (ix3 i r j)) (m ((c.tc : Thread nD τ).loc main_arg2) (ix3 i r ⟨3584 + j.val, by omega⟩))

/-- and as an array. -/
def G (c : Dev nD) : S32x256x1024.Idx → EReal := fun i => at3 m c (i 0) (i 1) (i 2)

section blocks
variable (c : Dev nD) (t : Fin cfg0.N) (ht : t.val < 256)

theorem b0_at (r : Fin 256) (j : Fin 128) :
    iblk m c 0 t (ix3 0 r j) = m ((c.tc : Thread nD τ).loc main_arg0) (ix3 ⟨t.val / 8, by omega⟩ r ⟨t.val % 8 * 128 + j.val, by omega⟩) := by
  blk_point [iblk, V_main_arg0, idx t]
theorem b1_at (r : Fin 256) (j : Fin 128) :
    iblk m c 1 t (ix3 0 r j) = m ((c.tc : Thread nD τ).loc main_arg1) (ix3 ⟨t.val / 8, by omega⟩ r ⟨t.val % 8 * 128 + j.val, by omega⟩) := by
  blk_point [iblk, V_main_arg1, idx t]
theorem b2_at (r : Fin 256) (j : Fin 128) :
    iblk m c 2 t (ix3 0 r j) = m ((c.tc : Thread nD τ).loc main_arg2) (ix3 ⟨t.val / 8, by omega⟩ r ⟨3584 + (t.val % 8 * 128 + j.val), by omega⟩) := by
  blk_point [iblk, V_main_arg2, idx t]
theorem b3_at (j : Fin 128) : iblk m c 3 t (ix2 0 j) = m ((c.tc : Thread nD τ).loc main_arg3) (ix1 ⟨t.val % 8 * 128 + j.val, by omega⟩) := by
  rw [← scale m c]
  blk_point [iblk, idx t]
theorem b4_at (j : Fin 128) : iblk m c 4 t (ix2 0 j) = m ((c.tc : Thread nD τ).loc main_arg4) (ix1 ⟨t.val % 8 * 128 + j.val, by omega⟩) := by
  rw [← offset m c]
  blk_point [iblk, idx t]

end blocks

theorem final (c : Dev nD) : (dats m 0 c).arrAt 5 cfg0.N = G m c := by
  refine (dats m 0 c).arrAt_eq_of_covers 5 (G m c) (by decide +kernel) fun t hf y => ?_
  obtain ⟨r, j, rfl⟩ : ∃ (r : Fin 256) (j : Fin 128), y = ix3 0 r j :=
    ⟨y 1, y 2, by funext a; fin_cases a; exacts [Fin.ext (by have := (y 0).isLt; simp at this; simpa using this), rfl, rfl]⟩
  have ht := (idx t).2.2.2.2.2.2
  have h1 : out0_5 (F := Ideal) (iblk m c 0 t) (iblk m c 1 t) (iblk m c 2 t) (iblk m c 3 t) (iblk m c 4 t) (ix3 0 r j)
      = at3 m c ⟨t.val / 8, by omega⟩ r ⟨t.val % 8 * 128 + j.val, by omega⟩ := by
    rw [body_at]
    have e : ∀ n : Fin 64, t.val % 8 * 128 + (j.val / 64 * 64 + n.val) = (t.val % 8 * 128 + j.val) / 64 * 64 + n.val := fun n => by omega
    simp only [b0_at m c t ht, b1_at m c t ht, b2_at m c t ht, b3_at m c t, b4_at m c t, e]
    rfl
  refine Eq.trans ?_ (h1.trans (Eq.trans (b := G m c (ix3 ⟨t.val / 8, by omega⟩ r ⟨t.val % 8 * 128 + j.val, by omega⟩)) rfl ?_))
  · exact congrFun (after0_5 m c t) _
  · refine congrArg (G m c) ?_
    blk_ext [idx t]

theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (run_blocks m ρ)

/-- The kernel's result is the reference's term. -/
theorem result (c : Dev nD) :
    G m c = Cert.PostRefIdeal.Value.OUT (Cert.PostRefIdeal.Value.UNIT (Cert.PostRefIdeal.Value.LESS
      (Cert.PostRefIdeal.Value.HEADS (m ((c.tc : Thread nD τ).loc main_arg0))))) (m ((c.tc : Thread nD τ).loc main_arg1))
      (m ((c.tc : Thread nD τ).loc main_arg2)) (m ((c.tc : Thread nD τ).loc main_arg3)) (m ((c.tc : Thread nD τ).loc main_arg4)) := by
  funext i
  obtain ⟨q, r, j, rfl⟩ : ∃ (q : Fin 32) (r : Fin 256) (j : Fin 1024), i = ix3 q r j :=
    ⟨i 0, i 1, i 2, by funext a; fin_cases a <;> rfl⟩
  exact (Cert.PostRefIdeal.Value.out_at _ _ _ _ _ q r j).symm

end Cert.PostIdeal.Value

namespace Cert.Proof

open Idealize.ShloMosaic Idealize.ShloMosaic.TcCoe Idealize.SL.Sem

theorem frame_post : Cert.quiescent_Post := fun m g _ => Cert.Post.Gen.frame m g

theorem frame_postIdeal : Cert.quiescent_PostIdeal := fun m g _ => Cert.PostIdeal.Gen.frame m g

theorem frame_postRefIdeal : Cert.quiescent_PostRefIdeal := fun m g _ =>
  (θ_run Cert.PostRefIdeal.defs _ _).mono (fun r h => ⟨fun c => (h c).2, sem_eq_zero_of_no_sems (by decide) r.2⟩)
    (Cert.PostRefIdeal.Value.run (F := Ideal) m g)

theorem algebraic_post : Cert.algebraic_PostIdeal_PostRefIdeal := by
  pair_intro
  · exact Cert.PostIdeal.Value.run m g
  · refine (θ_run Cert.PostRefIdeal.defs _ _).mono (fun r h c => ⟨(h c).1.trans ?_, (h c).2⟩)
      (Cert.PostRefIdeal.Value.runs m' g')
    obtain ⟨a0, a1, a2, a3, a4⟩ := hagree c
    rw [a0, a1, a2, a3, a4]
    exact (Cert.PostIdeal.Value.result m c).symm

end Cert.Proof
end
-- ==== Proof.FnetPair.lean ====
/-
  The Fourier mixing against its reference at the ideal floats: equal results.

  Both multiply a group's rows with tables of cosines and sines on either side. The kernel has the two tables side by side,
  keeps both products with the right table in a scratch, adds the two products with the left table by one sum of 512, and
  multiplies with 1/256 where the reference divides by 256.
-/
module

public import proofs.«01_k».proof.Proof.Norm
public import proofs.«01_k».proof.Proof.Gen.Fnet.Frame
public import proofs.«01_k».proof.Proof.Gen.FnetIdeal.Value
public import proofs.«01_k».proof.Proof.Gen.FnetRefIdeal.Run
public import proofs.«01_k».proof.Defs
public import Idealize.ShloMosaic.Lib.Claim
public import Idealize.ShloMosaic.Lib.Pipeline.CanonAppend

@[expose] public section

set_option maxRecDepth 16384

noncomputable section

namespace Cert.FnetRefIdeal.Value

open Cert.FnetRefIdeal Cert.FnetRefIdeal.Gen
open Idealize.ShloMosaic Idealize.ShloMosaic.TcCoe Idealize.SL.Sem Idealize.ShloMosaic.StableHlo

/-- The divisor of the remainder: 256, or one if it were zero. -/
def DIV : IVec S_ 32 := select (cmpi .eq (id (constantI S_ 32 256#32)) (constantI S_ 32 0#32)) (constantI S_ 32 1#32) (id (constantI S_ 32 256#32))

/-- It at every entry. -/
def DIVS : IVec S256x256 32 := broadcastInDim S256x256 ![] bcast_S_S256x256 DIV

/-- The remainder of a truncated quotient, made that of a floored one. -/
def FLOORED (x : IVec S256x256 32) : IVec S256x256 32 :=
  select (andi (cmpi .ne (cmpi .slt x (broadcastInDim S256x256 ![] bcast_S_S256x256 (constantI S_ 32 0#32)))
      (broadcastInDim S256x256 ![] bcast_S_S256x256 (cmpi .slt DIV (constantI S_ 32 0#32))))
    (cmpi .ne x (broadcastInDim S256x256 ![] bcast_S_S256x256 (constantI S_ 32 0#32)))) (addi x DIVS) x

/-- The angles of the products of two positions. -/
def ANGLE (x : IVec S256x256 32) : FVec Ideal S256x256 .f32 :=
  mulf (sitofp .f32 (FLOORED (Host.remsi x DIVS))) (broadcastInDim S256x256 ![] bcast_S_S256x256 (constant S_ .f32 0x3CC90FDB#32))

/-- The products of two positions. -/
def PROD : IVec S256x256 32 :=
  muli (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))

/-- The columns that are mixed, group by group. -/
def GROUPS (x : FVec Ideal S32x256x5632 .f32) : FVec Ideal S32x4x256x256 .f32 :=
  transpose S32x4x256x256 [0, 2, 1, 3] (shapeCast _ (extractStridedSlice S32x256x1024 ![0, 0, 4608] x slices_S32x256x5632_S32x256x1024_0_0_4608)
    shapeCasts_S32x256x1024_S32x256x4x256) transposes_S32x256x4x256_S32x4x256x256_0_2_1_3

/-- A group's product with one table on the right and another on the left. -/
def BOTH (f : FVec Ideal S32x4x256x256 .f32) (u v : FVec Ideal S256x256 .f32) : FVec Ideal S32x4x256x256 .f32 :=
  transpose S32x4x256x256 [0, 1, 3, 2] (Host.dotGeneral dot_S32x4x256x256_S256x256_S32x4x256x256_2_1_013_0_n_n none
    (Host.dotGeneral dot_S32x4x256x256_S256x256_S32x4x256x256_3_0_012_1_n_n none f u) v) transposes_S32x4x256x256_S32x4x256x256_0_1_3_2

/-- The result, from the groups and the two tables. -/
def OUT (f : FVec Ideal S32x4x256x256 .f32) (a : FVec Ideal S256x256 .f32) : FVec Ideal S32x256x1024 .bf16 :=
  truncf .bf16 (shapeCast _ (transpose S32x256x4x256 [0, 2, 1, 3]
    (Host.divf (addf (BOTH f (Host.cos a) (Host.cos a)) (BOTH f (Host.sin a) (Host.negf (Host.sin a))))
      (broadcastInDim S32x4x256x256 ![] bcast_S_S32x4x256x256 (constant S_ .f32 0x43800000#32))) transposes_S32x4x256x256_S32x256x4x256_0_2_1_3)
    shapeCasts_S32x256x4x256_S32x256x1024) bitsLt_bf16_f32

/-- The reference's result, of any argument. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = OUT (GROUPS (m ((c.tc : Thread nD τ).loc main_arg0))) (ANGLE PROD)
      ∧ r.2.mem ((c.tc : Thread nD τ).loc main_arg0) = m ((c.tc : Thread nD τ).loc main_arg0) :=
  run (F := Ideal) m ρ

/-- An entry of the two products with the tables. -/
def mix (f : Fin 256 → Fin 256 → EReal) (u v : Fin 256 → Fin 256 → EReal) (p k : Fin 256) : EReal :=
  ∑ t : Fin 256, v p t * ∑ n : Fin 256, f t n * u n k

theorem both_at (f : FVec Ideal S32x4x256x256 .f32) (u v : FVec Ideal S256x256 .f32) (b : Fin 32) (g : Fin 4) (p k : Fin 256) :
    BOTH f u v (ix4 b g p k) = mix (fun t n => f (ix4 b g t n)) (fun n k => u (ix2 n k)) (fun p t => v (ix2 p t)) p k := by
  pointwise [BOTH, mix]
  exact Finset.sum_congr rfl fun t _ => mul_comm _ _

theorem groups_at (x : FVec Ideal S32x256x5632 .f32) (b : Fin 32) (g : Fin 4) (t n : Fin 256) :
    GROUPS x (ix4 b g t n) = x (ix3 b t ⟨4608 + (g.val * 256 + n.val), by omega⟩) := by
  pointwise [GROUPS]

theorem out_at (f : FVec Ideal S32x4x256x256 .f32) (a : FVec Ideal S256x256 .f32) (b : Fin 32) (p : Fin 256) (j : Fin 1024) :
    OUT f a (ix3 b p j) = Ideal.div (BOTH f (Host.cos a) (Host.cos a) (ix4 b ⟨j.val / 256, by omega⟩ p ⟨j.val % 256, by omega⟩)
      + BOTH f (Host.sin a) (Host.negf (Host.sin a)) (ix4 b ⟨j.val / 256, by omega⟩ p ⟨j.val % 256, by omega⟩)) (Ideal.ofBits FTy.f32 0x43800000#32) := by
  pointwise [OUT]

end Cert.FnetRefIdeal.Value

namespace Cert.FnetIdeal.Value

open Cert.FnetIdeal Cert.FnetIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The products of two positions, -/
def PROD : IVec S256x256 32 := muli (iotaInDim S256x256 32 0) (iotaInDim S256x256 32 1)

theorem prod : PROD = Cert.FnetRefIdeal.Value.PROD := by
  funext i
  obtain ⟨r, j, rfl⟩ : ∃ (r : Fin 256) (j : Fin 256), i = ix2 r j := ⟨i 0, i 1, by funext a; fin_cases a <;> rfl⟩
  pointwise [PROD, Cert.FnetRefIdeal.Value.PROD]

/-- their angles. -/
def ANGLE : FVec Ideal S256x256 .f32 := Cert.FnetRefIdeal.Value.ANGLE PROD

/-- Two tables side by side. -/
def CAT (u v : FVec Ideal S256x256 .f32) : FVec Ideal S256x512 .f32 :=
  concatenate S256x512 1 [⟨S256x256, u⟩, ⟨S256x256, v⟩] concatenates_S256x256_S256x256_S256x512_d1

theorem cat_at (u v : FVec Ideal S256x256 .f32) (r : Fin 256) (j : Fin 512) :
    CAT u v (ix2 r j) = if h : j.val < 256 then u (ix2 r ⟨j.val, h⟩) else v (ix2 r ⟨j.val - 256, by omega⟩) := by
  pointwise [CAT]

/-- The table's product with a block, its left columns above its right ones. -/
def HALF (x0 : Vec Ideal S1x256x256 .f32) (x1 : Vec Ideal S256x512 .bf16) : S512x256.Idx → EReal := fun y =>
  if h : (y 0).val < 256 then ∑ n : Fin 256, x0 (ix3 0 ⟨(y 0).val, h⟩ n) * x1 (ix2 n ⟨(y 1).val, Nat.lt_trans (y 1).isLt (by decide)⟩)
  else ∑ n : Fin 256, x0 (ix3 0 ⟨(y 0).val - 256, by have : (y 0).val < 512 := (y 0).isLt; omega⟩ n) * x1 (ix2 n ⟨256 + (y 1).val, by have : (y 1).val < 256 := (y 1).isLt; omega⟩)

theorem pay2_at (x0 : Vec Ideal S1x256x256 .f32) (x1 : Vec Ideal S256x512 .bf16) (t k : Fin 256) :
    k0_pay2 (F := Ideal) x0 x1 (ix2 t k) = ∑ n : Fin 256, x0 (ix3 0 t n) * x1 (ix2 n ⟨k.val, by omega⟩) := by
  pointwise [k0_pay2, k0_pay1]

theorem pay3_at (x0 : Vec Ideal S1x256x256 .f32) (x1 : Vec Ideal S256x512 .bf16) (t k : Fin 256) :
    k0_pay3 (F := Ideal) x0 x1 (ix2 t k) = ∑ n : Fin 256, x0 (ix3 0 t n) * x1 (ix2 n ⟨256 + k.val, by omega⟩) := by
  pointwise [k0_pay3, k0_pay1]

theorem pay4_at (v : Vec Ideal S256x512 .bf16) (z : Vec Ideal S512x256 .bf16) (p k : Fin 256) :
    k0_pay4 (F := Ideal) v z (ix3 0 p k) = (∑ a : Fin 512, v (ix2 p a) * z (ix2 a k)) * Ideal.ofBits FTy.f32 0x3B800000#32 := by
  pointwise [k0_pay4]

theorem sum_two (f : Fin 512 → EReal) : (∑ a : Fin 512, f a) = (∑ t : Fin 256, f ⟨t.val, by omega⟩) + ∑ t : Fin 256, f ⟨256 + t.val, by omega⟩ := by
  exact Fin.sum_univ_add (a := 256) (b := 256) f

theorem half_top (x0 : Vec Ideal S1x256x256 .f32) (x1 : Vec Ideal S256x512 .bf16) (a k : Fin 256) :
    HALF x0 x1 (ix2 ⟨a.val, by omega⟩ k) = ∑ n : Fin 256, x0 (ix3 0 a n) * x1 (ix2 n ⟨k.val, by omega⟩) :=
  dif_pos a.isLt

theorem half_bot (x0 : Vec Ideal S1x256x256 .f32) (x1 : Vec Ideal S256x512 .bf16) (a k : Fin 256) :
    HALF x0 x1 (ix2 ⟨256 + a.val, by omega⟩ k) = ∑ n : Fin 256, x0 (ix3 0 a n) * x1 (ix2 n ⟨256 + k.val, by omega⟩) := by
  have h : ¬ 256 + a.val < 256 := by omega
  refine (dif_neg h).trans (Finset.sum_congr rfl fun n _ => ?_)
  have e : (⟨256 + a.val - 256, by omega⟩ : Fin 256) = a := Fin.ext (by show 256 + a.val - 256 = a.val; omega)
  exact congrArg (fun b => x0 (ix3 0 b n) * x1 (ix2 n ⟨256 + k.val, by omega⟩)) e

theorem scratch (x0 : Vec Ideal S1x256x256 .f32) (x1 : Vec Ideal S256x512 .bf16) (y : S512x256.Idx) :
    View.canon [(⟨Rect.unit ![256, 0] ![256, 256] inb_S512x256_S256x256_256_0, k0_pay3 (F := Ideal) x0 x1⟩ : View.Piece (Elt Ideal) S512x256 .bf16),
      ⟨Rect.unit ![0, 0] ![256, 256] inb_S512x256_S256x256_0_0, k0_pay2 (F := Ideal) x0 x1⟩] y = HALF x0 x1 y := by
  refine View.canon_append_of_pieces (Val := Elt Ideal) (e := .bf16) (HALF x0 x1) [] [_, _] (fun p hp x => ?_) y ?_
  · rcases List.mem_cons.1 hp with rfl | hp
    · obtain ⟨t, k, rfl⟩ : ∃ (t : Fin 256) (k : Fin 256), x = ix2 t k := ⟨x 0, x 1, by funext a; fin_cases a <;> rfl⟩
      refine (pay3_at x0 x1 t k).trans ((half_bot x0 x1 t k).symm.trans (congrArg (HALF x0 x1) ?_))
      funext d
      fin_cases d <;> refine Fin.ext ?_
      · show 256 + t.val = 256 + 1 * t.val
        omega
      · show k.val = 0 + 1 * k.val
        omega
    · obtain rfl := List.mem_singleton.1 hp
      obtain ⟨t, k, rfl⟩ : ∃ (t : Fin 256) (k : Fin 256), x = ix2 t k := ⟨x 0, x 1, by funext a; fin_cases a <;> rfl⟩
      refine (pay2_at x0 x1 t k).trans ((half_top x0 x1 t k).symm.trans (congrArg (HALF x0 x1) ?_))
      funext d
      fin_cases d <;> refine Fin.ext ?_
      · show t.val = 0 + 1 * t.val
        omega
      · show k.val = 0 + 1 * k.val
        omega
  · have hy1 : (y 1).val < 256 := (y 1).isLt
    have hy0 : (y 0).val < 512 := (y 0).isLt
    by_cases h : (y 0).val < 256
    · refine ⟨_, List.mem_cons_of_mem _ (List.mem_singleton.2 rfl), ?_⟩
      rw [Rect.mem_set_unit]
      intro a
      fin_cases a
      · show 0 ≤ (y 0).val ∧ (y 0).val < 0 + 256
        omega
      · show 0 ≤ (y 1).val ∧ (y 1).val < 0 + 256
        omega
    · refine ⟨_, List.mem_cons_self, ?_⟩
      rw [Rect.mem_set_unit]
      intro a
      fin_cases a
      · show 256 ≤ (y 0).val ∧ (y 0).val < 256 + 256
        omega
      · show 0 ≤ (y 1).val ∧ (y 1).val < 0 + 256
        omega

/-- An entry of what a point computes, from its blocks. -/
def entry (x0 : Vec Ideal S1x256x256 .f32) (x1 x2 : Vec Ideal S256x512 .bf16) (p k : Fin 256) : EReal :=
  ((∑ a : Fin 256, x2 (ix2 p ⟨a.val, by omega⟩) * ∑ n : Fin 256, x0 (ix3 0 a n) * x1 (ix2 n ⟨k.val, by omega⟩))
      + ∑ a : Fin 256, x2 (ix2 p ⟨256 + a.val, by omega⟩) * ∑ n : Fin 256, x0 (ix3 0 a n) * x1 (ix2 n ⟨256 + k.val, by omega⟩))
      * Ideal.ofBits FTy.f32 0x3B800000#32

theorem idx_whole (j : S512x256.Idx) : (Rect.unit (s := S512x256) ![0, 0] ![512, 256] inb_S512x256_S512x256_0_0).idx j = j := by
  funext d
  fin_cases d <;> refine Fin.ext ?_
  · show 0 + 1 * (j 0).val = (j 0).val
    omega
  · show 0 + 1 * (j 1).val = (j 1).val
    omega

theorem pay_entry (x0 : Vec Ideal S1x256x256 .f32) (x1 x2 : Vec Ideal S256x512 .bf16) (z : Vec Ideal S512x256 .bf16) (h : z = HALF x0 x1) (p k : Fin 256) :
    k0_pay4 (F := Ideal) x2 z (ix3 0 p k) = entry x0 x1 x2 p k := by
  subst h
  rw [pay4_at, sum_two]
  simp only [half_top, half_bot]
  rfl

theorem outs (c : Dev nD) (t : Fin cfg0.N) (p k : Fin 256) :
    outsAt0 m c t (ix3 0 p k) = entry (iblk m c 0 t) (iblk m c 1 t) (iblk m c 2 t) p k := by
  unfold outsAt0
  frame_out
  rw [View.readCov_eq_canon']
  exact pay_entry _ _ _ _ (funext fun j => (scratch _ _ _).trans (congrArg (HALF _ _) (idx_whole j))) p k
set_option maxHeartbeats 1000000 in
/-- The tables on the right, -/
theorem right (c : Dev nD) : V m c main_v19 = truncf (F := Ideal) .bf16 (CAT (Host.cos ANGLE) (Host.sin ANGLE)) bitsLt_bf16_f32 := by
  unfold V
  simp only [hostOps0, hostOps0_1, hostOps0_2, hostOps0_3, hostOps0_4, List.flatten, List.append_eq, List.cons_append, List.nil_append, List.append_nil, TRef.binary, TRef.nullary, TRef.ternary, TRef.unary, TRef.toBuf, TRef.ofBuf, cast_eq]
  after_results_simp
  refine congrArg (fun x => truncf (F := Ideal) .bf16 x bitsLt_bf16_f32) ?_
  refine Eq.trans (b := CAT _ _) rfl (congr (congrArg CAT ?_) ?_)
  all_goals (after_results_simp; try rfl)

set_option maxHeartbeats 1000000 in
/-- and those on the left. -/
theorem left (c : Dev nD) : V m c main_v22 = truncf (F := Ideal) .bf16 (CAT (Host.cos ANGLE) (Host.negf (Host.sin ANGLE))) bitsLt_bf16_f32 := by
  unfold V
  simp only [hostOps0, hostOps0_1, hostOps0_2, hostOps0_3, hostOps0_4, List.flatten, List.append_eq, List.cons_append, List.nil_append, List.append_nil, TRef.binary, TRef.nullary, TRef.ternary, TRef.unary, TRef.toBuf, TRef.ofBuf, cast_eq]
  after_results_simp
  refine congrArg (fun x => truncf (F := Ideal) .bf16 x bitsLt_bf16_f32) ?_
  refine Eq.trans (b := CAT _ _) rfl (congr (congrArg CAT ?_) ?_)
  all_goals (after_results_simp; try rfl)

theorem right_at (c : Dev nD) (n : Fin 256) (j : Fin 512) : V m c main_v19 (ix2 n j) = CAT (Host.cos ANGLE) (Host.sin ANGLE) (ix2 n j) :=
  congrFun (right m c) _
theorem left_at (c : Dev nD) (n : Fin 256) (j : Fin 512) : V m c main_v22 (ix2 n j) = CAT (Host.cos ANGLE) (Host.negf (Host.sin ANGLE)) (ix2 n j) :=
  congrFun (left m c) _

theorem cat_left (u v : FVec Ideal S256x256 .f32) (r j : Fin 256) : CAT u v (ix2 r ⟨j.val, by omega⟩) = u (ix2 r j) :=
  (cat_at u v r _).trans (dif_pos j.isLt)

theorem cat_right (u v : FVec Ideal S256x256 .f32) (r j : Fin 256) : CAT u v (ix2 r ⟨256 + j.val, by omega⟩) = v (ix2 r j) := by
  have h : ¬ 256 + j.val < 256 := by omega
  refine (cat_at u v r _).trans ((dif_neg h).trans (congrArg (fun z => v (ix2 r z)) (Fin.ext ?_)))
  show 256 + j.val - 256 = j.val
  omega

/-- The blocks a grid point is given: sequence `t / 4`, group `t % 4`, the tables whole. -/
theorem idx : ∀ t : Fin cfg0.N, win0_0.index t = ![t.val / 4, 0, 18 + t.val % 4] ∧ win0_1.index t = ![0, 0]
   ∧ win0_2.index t = ![0, 0] ∧ win0_3.index t = ![t.val / 4, 0, t.val % 4] ∧ t.val < 128 :=
  (by decide +kernel : ∀ t : Fin grid0.N, _)

/-- An entry of a group mixed over positions and channels, times 1/256. -/
def mixed (f : Fin 256 → Fin 256 → EReal) (p k : Fin 256) : EReal :=
  (Cert.FnetRefIdeal.Value.mix f (fun n k => Host.cos ANGLE (ix2 n k)) (fun p t => Host.cos ANGLE (ix2 p t)) p k
    + Cert.FnetRefIdeal.Value.mix f (fun n k => Host.sin ANGLE (ix2 n k)) (fun p t => Host.negf (Host.sin ANGLE) (ix2 p t)) p k)
    * Ideal.ofBits FTy.f32 0x3B800000#32

/-- What the kernel leaves in its result, entry by entry, -/
def at3 (c : Dev nD) (i : Fin 32) (p : Fin 256) (j : Fin 1024) : EReal :=
  mixed (fun t n => m ((c.tc : Thread nD τ).loc main_arg0) (ix3 i t ⟨4608 + (j.val / 256 * 256 + n.val), by omega⟩)) p ⟨j.val % 256, by omega⟩

/-- and as an array. -/
def G (c : Dev nD) : S32x256x1024.Idx → EReal := fun i => at3 m c (i 0) (i 1) (i 2)

section blocks
variable (c : Dev nD) (t : Fin cfg0.N) (ht : t.val < 128)

theorem b0_at (r n : Fin 256) :
    iblk m c 0 t (ix3 0 r n) = m ((c.tc : Thread nD τ).loc main_arg0) (ix3 ⟨t.val / 4, by omega⟩ r ⟨4608 + (t.val % 4 * 256 + n.val), by omega⟩) := by
  blk_point [iblk, V_main_arg0, idx t]
theorem block1 (f : S256x512.Idx → EReal) (r : Fin 256) (j : Fin 512) : ((cfg0.win 1).blk t).view.read (Elt Ideal) f (ix2 r j) = f (ix2 r j) := by
  blk_point [idx t]
theorem block2 (f : S256x512.Idx → EReal) (r : Fin 256) (j : Fin 512) : ((cfg0.win 2).blk t).view.read (Elt Ideal) f (ix2 r j) = f (ix2 r j) := by
  blk_point [idx t]
theorem b1_at (r : Fin 256) (j : Fin 512) : iblk m c 1 t (ix2 r j) = CAT (Host.cos ANGLE) (Host.sin ANGLE) (ix2 r j) :=
  (block1 t (V m c main_v19) r j).trans (right_at m c r j)
theorem b2_at (r : Fin 256) (j : Fin 512) : iblk m c 2 t (ix2 r j) = CAT (Host.cos ANGLE) (Host.negf (Host.sin ANGLE)) (ix2 r j) :=
  (block2 t (V m c main_v22) r j).trans (left_at m c r j)

theorem entry_at (p k : Fin 256) : entry (iblk m c 0 t) (iblk m c 1 t) (iblk m c 2 t) p k
    = at3 m c ⟨t.val / 4, by omega⟩ p ⟨t.val % 4 * 256 + k.val, by omega⟩ := by
  have e : ∀ n : Fin 256, (t.val % 4 * 256 + k.val) / 256 * 256 + n.val = t.val % 4 * 256 + n.val := fun n => by omega
  have e2 : (t.val % 4 * 256 + k.val) % 256 = k.val := by omega
  unfold entry at3 mixed Cert.FnetRefIdeal.Value.mix
  simp only [b0_at m c t ht, b1_at m c t, b2_at m c t, cat_left, cat_right, e, e2]

end blocks

theorem final (c : Dev nD) : (dats m 0 c).arrAt 3 cfg0.N = G m c := by
  refine (dats m 0 c).arrAt_eq_of_covers 3 (G m c) (by decide +kernel) fun t hf y => ?_
  obtain ⟨r, j, rfl⟩ : ∃ (r j : Fin 256), y = ix3 0 r j :=
    ⟨y 1, y 2, by funext a; fin_cases a; exacts [Fin.ext (by have := (y 0).isLt; simp at this; simpa using this), rfl, rfl]⟩
  have ht := (idx t).2.2.2.2
  have h1 := (outs m c t r j).trans (entry_at m c t ht r j)
  refine Eq.trans ?_ (h1.trans (Eq.trans (b := G m c (ix3 ⟨t.val / 4, by omega⟩ r ⟨t.val % 4 * 256 + j.val, by omega⟩)) rfl ?_))
  · exact congrFun (after0_3 m c t) _
  · refine congrArg (G m c) ?_
    blk_ext [idx t]

theorem run : θ_run defs (onTc (τ := τ) (main (F := Ideal))) ⟨m, fun _ => 0, ρ⟩ fun r => ∀ c : Dev nD,
      r.2.mem ((c.tc : Thread nD τ).loc main_v23) = G m c
      ∧ r.2.mem ((c.tc : Thread nD τ).loc main_arg0) = m ((c.tc : Thread nD τ).loc main_arg0) :=
  (θ_run defs _ _).mono (fun r h c => ⟨(h c).1.trans (final m c), (h c).2⟩) (run_blocks m ρ)

/-- The kernel's result is the reference's term. -/
theorem result (c : Dev nD) : G m c = Cert.FnetRefIdeal.Value.OUT
    (Cert.FnetRefIdeal.Value.GROUPS (m ((c.tc : Thread nD τ).loc main_arg0))) (Cert.FnetRefIdeal.Value.ANGLE Cert.FnetRefIdeal.Value.PROD) := by
  funext i
  obtain ⟨q, r, j, rfl⟩ : ∃ (q : Fin 32) (r : Fin 256) (j : Fin 1024), i = ix3 q r j :=
    ⟨i 0, i 1, i 2, by funext a; fin_cases a <;> rfl⟩
  rw [Cert.FnetRefIdeal.Value.out_at, Cert.FnetRefIdeal.Value.both_at, Cert.FnetRefIdeal.Value.both_at, Cert.Norm.over256, ← prod]
  simp only [Cert.FnetRefIdeal.Value.groups_at]
  rfl

end Cert.FnetIdeal.Value

namespace Cert.Proof

open Idealize.ShloMosaic Idealize.ShloMosaic.TcCoe Idealize.SL.Sem

theorem frame_fnet : Cert.quiescent_Fnet := fun m g _ => Cert.Fnet.Gen.frame m g

theorem frame_fnetIdeal : Cert.quiescent_FnetIdeal := fun m g _ => Cert.FnetIdeal.Gen.frame m g

theorem frame_fnetRefIdeal : Cert.quiescent_FnetRefIdeal := fun m g _ =>
  (θ_run Cert.FnetRefIdeal.defs _ _).mono (fun r h => ⟨fun c => (h c).2, sem_eq_zero_of_no_sems (by decide) r.2⟩)
    (Cert.FnetRefIdeal.Value.run (F := Ideal) m g)

theorem algebraic_fnet : Cert.algebraic_FnetIdeal_FnetRefIdeal := by
  pair_intro
  · exact Cert.FnetIdeal.Value.run m g
  · refine (θ_run Cert.FnetRefIdeal.defs _ _).mono (fun r h c => ⟨(h c).1.trans ?_, (h c).2⟩)
      (Cert.FnetRefIdeal.Value.runs m' g')
    have a0 := hagree c
    rw [a0]
    exact (Cert.FnetIdeal.Value.result m c).symm

end Cert.Proof
end
-- ==== Proof.lean ====
/-
  The claims: the frames, the idealization and the values of the RWKV-7 recurrence, of the expert feed-forward, of the input
  and output projections, of the two last normalizations, of the conditioning modulation,
  of the router, of the stage after the scan and of the Fourier mixing.
-/
module

public import proofs.«01_k».proof.Defs
public import proofs.«01_k».proof.Proof.Gen.Expert
public import proofs.«01_k».proof.Proof.Gen.ExpertIdeal
public import proofs.«01_k».proof.Proof.Gen.ExpertRefIdeal
public import proofs.«01_k».proof.Proof.ExpertPair
public import proofs.«01_k».proof.Proof.ScanPair
public import proofs.«01_k».proof.Proof.InProjPair
public import proofs.«01_k».proof.Proof.OutProjPair
public import proofs.«01_k».proof.Proof.FinalCtxPair
public import proofs.«01_k».proof.Proof.FinalLatPair
public import proofs.«01_k».proof.Proof.AdaPair
public import proofs.«01_k».proof.Proof.RouterPair
public import proofs.«01_k».proof.Proof.PostPair
public import proofs.«01_k».proof.Proof.FnetPair

@[expose] public section

noncomputable section

namespace Cert.Proof

theorem claim : Cert.Claim :=
  ⟨Cert.Scan.Gen.facts, Cert.ScanIdeal.Gen.facts, Cert.ScanRefIdeal.Gen.facts,
    Cert.Expert.Gen.facts, Cert.ExpertIdeal.Gen.facts, Cert.ExpertRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.FinalCtx.Gen.facts, Cert.FinalCtxIdeal.Gen.facts, Cert.FinalCtxRefIdeal.Gen.facts,
    Cert.FinalLat.Gen.facts, Cert.FinalLatIdeal.Gen.facts, Cert.FinalLatRefIdeal.Gen.facts,
    Cert.Ada.Gen.facts, Cert.AdaIdeal.Gen.facts, Cert.AdaRefIdeal.Gen.facts,
    Cert.Router.Gen.facts, Cert.RouterIdeal.Gen.facts, Cert.RouterRefIdeal.Gen.facts,
    Cert.Post.Gen.facts, Cert.PostIdeal.Gen.facts, Cert.PostRefIdeal.Gen.facts,
    Cert.Fnet.Gen.facts, Cert.FnetIdeal.Gen.facts, Cert.FnetRefIdeal.Gen.facts, finite_facts,
    frame_scan, frame_scanIdeal, frame_scanIdeal_finite, frame_scanRefIdeal, frame_scanRefIdeal_finite,
    frame_expert, frame_expertIdeal, frame_expertRefIdeal,
    frame_inproj, frame_inprojIdeal, frame_inprojRefIdeal,
    frame_outproj, frame_outprojIdeal, frame_outprojRefIdeal,
    frame_finalctx, frame_finalctxIdeal, frame_finalctxRefIdeal,
    frame_finallat, frame_finallatIdeal, frame_finallatRefIdeal,
    frame_ada, frame_adaIdeal, frame_adaRefIdeal,
    frame_router, frame_routerIdeal, frame_routerRefIdeal,
    frame_post, frame_postIdeal, frame_postRefIdeal,
    frame_fnet, frame_fnetIdeal, frame_fnetRefIdeal,
    trivial, algebraic_scan, trivial, algebraic_expert, trivial, algebraic_inproj, trivial, algebraic_outproj,
    trivial, algebraic_finalctx, trivial, algebraic_finallat, trivial, algebraic_ada,
    trivial, algebraic_router, trivial, algebraic_post, trivial, algebraic_fnet⟩

end Cert.Proof
end
